-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_logs [hPre_finite_logs : Cert.Pre_finite_logs.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_logs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_logs [hPre_finite_logs : Cert.Pre_finite_logs.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_logs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_finite_logs [hKernel4Ideal : Cert.Kernel4Ideal.Facts] [hPre_finite_logs : Cert.Pre_finite_logs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_logs m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_finite_logs [hReference4Ideal : Cert.Reference4Ideal.Facts] [hPre_finite_logs : Cert.Pre_finite_logs.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_logs m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 ((8⁻¹ * (Real.log 2)⁻¹ : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)) (v1 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_v7) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_logs [hKernel4Ideal : Cert.Kernel4Ideal.Facts] [hReference4Ideal : Cert.Reference4Ideal.Facts] [hPre_finite_logs : Cert.Pre_finite_logs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_logs m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_args : Cert.Pre_finite_args.Facts) (hPre_finite_logs : Cert.Pre_finite_logs.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_logs (hKernel4Ideal := hKernel4Ideal) (hPre_finite_logs := hPre_finite_logs)
    ∧ quiescent_Reference4Ideal (hReference4Ideal := hReference4Ideal)
    ∧ quiescent_Reference4Ideal_pre_finite_logs (hReference4Ideal := hReference4Ideal) (hPre_finite_logs := hPre_finite_logs)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_logs (hKernel4Ideal := hKernel4Ideal) (hReference4Ideal := hReference4Ideal) (hPre_finite_logs := hPre_finite_logs)
-- ==== Pre_finite_args.lean ====
abbrev S4x4096x3072 : Shape := ⟨3, ![4, 4096, 3072]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S4x4096x3072 : S_.BroadcastsInDim S4x4096x3072 (![] : Fin 0 → Fin S4x4096x3072.rank)
  reducesTo_S4x4096x3072_S_d0_1_2 : S4x4096x3072.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_v14 : IVec S_ 1) (main_v15 : FVec F S1x64 .f32) (main_v16 : FVec F S1x64 .f32) : IVec S_ 1 :=
  let main_v17 : IVec S1x64 1 := cmpf .olt main_v15 main_v16
  let main_c_5 : IVec S_ 1 := constantI S_ 1 1#1
  let main_v18 : IVec S_ 1 := (fun x v => Host.reduce IntOp.andi x v reducesTo_S1x64_S_d0_1 h_S_) main_v17 main_c_5
  let main_v19 : IVec S_ 1 := andi main_v14 main_v18
  let main_v20 : FVec F S1x64 .f32 := Host.absf main_arg4
  let main_cst_6 : FVec F S_ .f32 := constant S_ .f32 0x7F800000#32
  let main_v21 : FVec F S1x64 .f32 := broadcastInDim S1x64 ![] bcast_S_S1x64 main_cst_6
  let main_v22 : IVec S1x64 1 := cmpf .olt main_v20 main_v21
  let main_c_7 : IVec S_ 1 := constantI S_ 1 1#1
  let main_v23 : IVec S_ 1 := (fun x v => Host.reduce IntOp.andi x v reducesTo_S1x64_S_d0_1 h_S_) main_v22 main_c_7
  let main_v24 : IVec S_ 1 := andi main_v19 main_v23
  main_v24

def fn {F : FTy → Type} [FloatOps F] (main_arg0 : FVec F S4x4096x3072 .bf16) (main_arg1 : FVec F S1x64 .f32) (main_arg2 : FVec F S1x64 .f32) (main_arg3 : FVec F S1x64 .f32) (main_arg4 : FVec F S1x64 .f32) (main_arg5 : FVec F S1x128 .f32) : IVec S_ 1 :=
  let main_v0 : FVec F S4x4096x3072 .f32 := (extf .f32 · bitsLt_bf16_f32) main_arg0
  let main_v1 : FVec F S4x4096x3072 .f32 := Host.absf main_v0
  let main_cst : FVec F S_ .f32 := constant S_ .f32 0x7F800000#32
  let main_v2 : FVec F S4x4096x3072 .f32 := broadcastInDim S4x4096x3072 ![] bcast_S_S4x4096x3072 main_cst
  let main_v3 : IVec S4x4096x3072 1 := cmpf .olt main_v1 main_v2
  let main_c : IVec S_ 1 := constantI S_ 1 1#1
  let main_v4 : IVec S_ 1 := (fun x v => Host.reduce IntOp.andi x v reducesTo_S4x4096x3072_S_d0_1_2 h_S_) main_v3 main_c
  let main_v5 : FVec F S1x64 .f32 := Host.absf main_arg1
  let main_cst_0 : FVec F S_ .f32 := constant S_ .f32 0x7F800000#32
  let main_v6 : FVec F S1x64 .f32 := broadcastInDim S1x64 ![] bcast_S_S1x64 main_cst_0
  let main_v7 : IVec S1x64 1 := cmpf .olt main_v5 main_v6
  let main_c_1 : IVec S_ 1 := constantI S_ 1 1#1
  let main_v8 : IVec S_ 1 := (fun x v => Host.reduce IntOp.andi x v reducesTo_S1x64_S_d0_1 h_S_) main_v7 main_c_1
  let main_v9 : IVec S_ 1 := andi main_v4 main_v8
  let main_v10 : FVec F S1x64 .f32 := Host.absf main_arg2
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_c_3 : IVec S_ 1 := constantI S_ 1 1#1
  let main_v13 : IVec S_ 1 := (fun x v => Host.reduce IntOp.andi x v reducesTo_S1x64_S_d0_1 h_S_) main_v12 main_c_3
  let main_v14 : IVec S_ 1 := andi main_v9 main_v13
  let main_v15 : FVec F S1x64 .f32 := Host.absf main_arg3
  let main_cst_4 : FVec F S_ .f32 := constant S_ .f32 0x7F800000#32
  let main_v16 : FVec F S1x64 .f32 := broadcastInDim S1x64 ![] bcast_S_S1x64 main_cst_4
  fn_part1 (F := F) main_arg4 main_v14 main_v15 main_v16
-- ==== Pre_finite_logs.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S1x1024x1024 : Shape := ⟨3, ![1, 1024, 1024]⟩
abbrev S1x512x1024 : Shape := ⟨3, ![1, 512, 1024]⟩
abbrev S1x1024 : Shape := ⟨2, ![1, 1024]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel

variable [Facts]

def fn {F : FTy → Type} [FloatOps F] (main_arg0 : FVec F S4x4096x1024 .bf16) (main_arg1 : FVec F S4x4096x512 .bf16) (main_arg2 : FVec F S4x4096x512 .bf16) (main_arg3 : FVec F S4x4096x512 .bf16) (main_arg4 : FVec F S4x4096x512 .f32) (main_arg5 : FVec F S4x4096x512 .f32) (main_arg6 : FVec F S4x4096x512 .f32) (main_arg7 : FVec F S4x4096x2048 .bf16) (main_arg8 : FVec F S4x4096x1024 .f32) (main_arg9 : FVec F S1x1024x1024 .f32) (main_arg10 : FVec F S1x512x1024 .f32) (main_arg11 : FVec F S1x1024x1024 .f32) (main_arg12 : FVec F S1x1024 .f32) (main_arg13 : FVec F S1x1024 .f32) : IVec S_ 1 :=
  let main_v0 : FVec F S4x4096x512 .f32 := Host.absf main_arg4
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg5
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S4x4096x512 .f32 := Host.absf main_arg6
  let main_cst_2 : FVec F S_ .f32 := constant S_ .f32 0x7F800000#32
  let main_v10 : FVec F S4x4096x512 .f32 := broadcastInDim S4x4096x512 ![] bcast_S_S4x4096x512 main_cst_2
  let main_v11 : IVec S4x4096x512 1 := cmpf .olt main_v9 main_v10
  let main_c_3 : IVec S_ 1 := constantI S_ 1 1#1
  let main_v12 : IVec S_ 1 := (fun x v => Host.reduce IntOp.andi x v reducesTo_S4x4096x512_S_d0_1_2 h_S_) main_v11 main_c_3
  let main_v13 : IVec S_ 1 := andi main_v8 main_v12
  main_v13
-- ==== Kernel.lean ====
abbrev S4x4096x3072 : Shape := ⟨3, ![4, 4096, 3072]⟩
abbrev S1x64 : Shape := ⟨2, ![1, 64]⟩
abbrev S1x128 : Shape := ⟨2, ![1, 128]⟩
abbrev S8 : Shape := ⟨1, ![8]⟩
abbrev S64 : Shape := ⟨1, ![64]⟩
abbrev S128 : Shape := ⟨1, ![128]⟩
abbrev S128x1 : Shape := ⟨2, ![128, 1]⟩
abbrev S4x4096x1024 : Shape := ⟨3, ![4, 4096, 1024]⟩
abbrev S1x4096x128 : Shape := ⟨3, ![1, 4096, 128]⟩
abbrev S8x144x512 : Shape := ⟨3, ![8, 144, 512]⟩
abbrev S512x512 : Shape := ⟨2, ![512, 512]⟩
abbrev S512x128 : Shape := ⟨2, ![512, 128]⟩
abbrev S2x512x512 : Shape := ⟨3, ![2, 512, 512]⟩
abbrev S2x1x512 : Shape := ⟨3, ![2, 1, 512]⟩
abbrev S2x2x144x512 : Shape := ⟨4, ![2, 2, 144, 512]⟩
abbrev S1 : Shape := ⟨1, ![1]⟩
abbrev S128x512 : Shape := ⟨2, ![128, 512]⟩
abbrev S1x1 : Shape := ⟨2, ![1, 1]⟩
abbrev S1x512 : Shape := ⟨2, ![1, 512]⟩
abbrev S1x512x128 : Shape := ⟨3, ![1, 512, 128]⟩
abbrev S1x128x512 : Shape := ⟨3, ![1, 128, 512]⟩
abbrev S16x512 : Shape := ⟨2, ![16, 512]⟩
abbrev S1x16x512 : Shape := ⟨3, ![1, 16, 512]⟩
abbrev S256x512 : Shape := ⟨2, ![256, 512]⟩
abbrev S2x144x512 : Shape := ⟨3, ![2, 144, 512]⟩
abbrev S1x2x144x512 : Shape := ⟨4, ![1, 2, 144, 512]⟩
abbrev S1x256x128 : Shape := ⟨3, ![1, 256, 128]⟩
abbrev S256x128 : Shape := ⟨2, ![256, 128]⟩
abbrev S256x256 : Shape := ⟨2, ![256, 256]⟩
abbrev S1x256x512 : Shape := ⟨3, ![1, 256, 512]⟩
abbrev S1x256x256 : Shape := ⟨3, ![1, 256, 256]⟩
abbrev S512 : Shape := ⟨1, ![512]⟩
abbrev S1x256 : Shape := ⟨2, ![1, 256]⟩
abbrev S1x1x256 : Shape := ⟨3, ![1, 1, 256]⟩
abbrev S256 : Shape := ⟨1, ![256]⟩
abbrev S1x1x512 : Shape := ⟨3, ![1, 1, 512]⟩
abbrev S1x144x256 : Shape := ⟨3, ![1, 144, 256]⟩
abbrev S144x256 : Shape := ⟨2, ![144, 256]⟩
abbrev S144x512 : Shape := ⟨2, ![144, 512]⟩
abbrev S1x144x512 : Shape := ⟨3, ![1, 144, 512]⟩
abbrev S512x256 : Shape := ⟨2, ![512, 256]⟩
abbrev S1x512x512 : Shape := ⟨3, ![1, 512, 512]⟩

abbrev nBuf : Space → Nat
  | .hbm => 18
  | .vmem => 21
  | .smem => 1
  | _ => 0

abbrev bufTy : (tb : Table) → Fin (tcTables nBuf tb) → BufTy
  | .hbm, ⟨0, _⟩ => ⟨S4x4096x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S8, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S128, .f32⟩
  | .hbm, ⟨16, _⟩ => ⟨S128x1, .f32⟩
  | .hbm, ⟨17, _⟩ => ⟨S4x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S1x4096x128, .bf16⟩
  | .local _ .vmem, ⟨12, _⟩ => ⟨S1x4096x128, .bf16⟩
  | .local _ .vmem, ⟨13, _⟩ => ⟨S8x144x512, .bf16⟩
  | .local _ .vmem, ⟨14, _⟩ => ⟨S512x512, .f32⟩
  | .local _ .vmem, ⟨15, _⟩ => ⟨S512x128, .bf16⟩
  | .local _ .vmem, ⟨16, _⟩ => ⟨S2x512x512, .f32⟩
  | .local _ .vmem, ⟨17, _⟩ => ⟨S2x512x512, .f32⟩
  | .local _ .vmem, ⟨18, _⟩ => ⟨S2x1x512, .f32⟩
  | .local _ .vmem, ⟨19, _⟩ => ⟨S2x1x512, .f32⟩
  | .local _ .vmem, ⟨20, _⟩ => ⟨S2x2x144x512, .f32⟩
  | .local _ .smem, ⟨0, _⟩ => ⟨S8, .f32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def k0_off1 (i : grid0.Coords) : Fin 1 → Nat :=
  let arg1 : BitVec 32 := BitVec.ofNat 32 (i 1).val
  let v0 : Index := Scalar.indexCast arg1
  ![v0.toNat]
def k0_mult1 : BitVec 32 :=
  let c0_i32_219 : BitVec 32 := 0#32
  let c512_i32 : BitVec 32 := 512#32
  let v333 : BitVec 32 := Scalar.muli c0_i32_219 c512_i32
  v333
def k0_off2 (c0_i32_219 : BitVec 32) : Fin 3 → Nat :=
  let c0_220 : Index := 0#32
  let c512_i32 : BitVec 32 := 512#32
  let v333 : BitVec 32 := Scalar.muli c0_i32_219 c512_i32
  let v334 : BitVec 32 := v333
  let v335 : Index := Scalar.indexCast v334
  let c0_221 : Index := 0#32
  ![0, v335.toNat, 0]
def k0_off2_at (r : Fin 4) : BitVec 32 :=
  if r.val < 2 then
    if r.val < 1 then
      0#32
    else
      1#32
  else
    if r.val < 3 then
      3#32
    else
      5#32
def k0_mult2 : BitVec 32 :=
  let c0_i32_475 : BitVec 32 := 0#32
  let c512_i32_476 : BitVec 32 := 512#32
  let v661 : BitVec 32 := Scalar.muli c0_i32_475 c512_i32_476
  v661
def k0_mult3 : BitVec 32 :=
  let c1_i32_501 : BitVec 32 := 1#32
  let c512_i32_502 : BitVec 32 := 512#32
  let v687 : BitVec 32 := Scalar.muli c1_i32_501 c512_i32_502
  v687
def k0_mult4 : BitVec 32 :=
  let c0_i32_802 : BitVec 32 := 0#32
  let c512_i32_803 : BitVec 32 := 512#32
  let v1076 : BitVec 32 := Scalar.muli c0_i32_802 c512_i32_803
  v1076
def k0_mult5 : BitVec 32 :=
  let c2_i32_826 : BitVec 32 := 2#32
  let c0_i32_825 : BitVec 32 := 0#32
  let v1101 : BitVec 32 := Scalar.muli c2_i32_826 c0_i32_825
  let c1_i32_827 : BitVec 32 := 1#32
  let v1102 : BitVec 32 := Scalar.addi v1101 c1_i32_827
  let c512_i32_828 : BitVec 32 := 512#32
  let v1103 : BitVec 32 := Scalar.muli v1102 c512_i32_828
  v1103
def k0_off3 (c0_i32_825 : BitVec 32) (c1_i32_827 : BitVec 32) : Fin 3 → Nat :=
  let c0_829 : Index := 0#32
  let c2_i32_826 : BitVec 32 := 2#32
  let v1101 : BitVec 32 := Scalar.muli c2_i32_826 c0_i32_825
  let v1102 : BitVec 32 := Scalar.addi v1101 c1_i32_827
  let c512_i32_828 : BitVec 32 := 512#32
  let v1103 : BitVec 32 := Scalar.muli v1102 c512_i32_828
  let v1104 : BitVec 32 := v1103
  let v1105 : Index := Scalar.indexCast v1104
  let c0_830 : Index := 0#32
  ![0, v1105.toNat, 0]
def k0_off4 (c0_i32_825 : BitVec 32) : Fin 3 → Nat :=
  let c2_i32_826 : BitVec 32 := 2#32
  let v1101 : BitVec 32 := Scalar.muli c2_i32_826 c0_i32_825
  let v1128 : Index := Scalar.indexCast v1101
  let c0_849 : Index := 0#32
  let c0_850 : Index := 0#32
  ![v1128.toNat, 0, 0]
def k0_mult6 : BitVec 32 :=
  let c2_i32_826 : BitVec 32 := 2#32
  let c0_i32_825 : BitVec 32 := 0#32
  let v1101 : BitVec 32 := Scalar.muli c2_i32_826 c0_i32_825
  let c2_i32_891 : BitVec 32 := 2#32
  let v1191 : BitVec 32 := Scalar.addi v1101 c2_i32_891
  let c512_i32_892 : BitVec 32 := 512#32
  let v1192 : BitVec 32 := Scalar.muli v1191 c512_i32_892
  v1192
def k0_off5 (c0_i32_825 : BitVec 32) : Fin 3 → Nat :=
  let c2_i32_826 : BitVec 32 := 2#32
  let v1101 : BitVec 32 := Scalar.muli c2_i32_826 c0_i32_825
  let c1_i32_913 : BitVec 32 := 1#32
  let v1217 : BitVec 32 := Scalar.addi v1101 c1_i32_913
  let v1218 : Index := Scalar.indexCast v1217
  let c0_914 : Index := 0#32
  let c0_915 : Index := 0#32
  ![v1218.toNat, 0, 0]
def k0_mult7 : BitVec 32 :=
  let c0_i32_1188 : BitVec 32 := 0#32
  let c512_i32_1189 : BitVec 32 := 512#32
  let v1583 : BitVec 32 := Scalar.muli c0_i32_1188 c512_i32_1189
  v1583
def k0_mult8 : BitVec 32 :=
  let c2_i32_1212 : BitVec 32 := 2#32
  let c0_i32_1211 : BitVec 32 := 0#32
  let v1608 : BitVec 32 := Scalar.muli c2_i32_1212 c0_i32_1211
  let c1_i32_1213 : BitVec 32 := 1#32
  let v1609 : BitVec 32 := Scalar.addi v1608 c1_i32_1213
  let c512_i32_1214 : BitVec 32 := 512#32
  let v1610 : BitVec 32 := Scalar.muli v1609 c512_i32_1214
  v1610
def k0_mult9 : BitVec 32 :=
  let c2_i32_1212 : BitVec 32 := 2#32
  let c0_i32_1211 : BitVec 32 := 0#32
  let v1608 : BitVec 32 := Scalar.muli c2_i32_1212 c0_i32_1211
  let c2_i32_1277 : BitVec 32 := 2#32
  let v1698 : BitVec 32 := Scalar.addi v1608 c2_i32_1277
  let c512_i32_1278 : BitVec 32 := 512#32
  let v1699 : BitVec 32 := Scalar.muli v1698 c512_i32_1278
  v1699
def k0_mult10 : BitVec 32 :=
  let c3_i32_1343 : BitVec 32 := 3#32
  let c512_i32_1344 : BitVec 32 := 512#32
  let v1788 : BitVec 32 := Scalar.muli c3_i32_1343 c512_i32_1344
  v1788
def k0_mult11 : BitVec 32 :=
  let c0_i32_1644 : BitVec 32 := 0#32
  let c512_i32_1645 : BitVec 32 := 512#32
  let v2177 : BitVec 32 := Scalar.muli c0_i32_1644 c512_i32_1645
  v2177
def k0_mult12 : BitVec 32 :=
  let c2_i32_1668 : BitVec 32 := 2#32
  let c0_i32_1667 : BitVec 32 := 0#32
  let v2202 : BitVec 32 := Scalar.muli c2_i32_1668 c0_i32_1667
  let c1_i32_1669 : BitVec 32 := 1#32
  let v2203 : BitVec 32 := Scalar.addi v2202 c1_i32_1669
  let c512_i32_1670 : BitVec 32 := 512#32
  let v2204 : BitVec 32 := Scalar.muli v2203 c512_i32_1670
  v2204
def k0_mult13 : BitVec 32 :=
  let c2_i32_1668 : BitVec 32 := 2#32
  let c0_i32_1667 : BitVec 32 := 0#32
  let v2202 : BitVec 32 := Scalar.muli c2_i32_1668 c0_i32_1667
  let c2_i32_1733 : BitVec 32 := 2#32
  let v2292 : BitVec 32 := Scalar.addi v2202 c2_i32_1733
  let c512_i32_1734 : BitVec 32 := 512#32
  let v2293 : BitVec 32 := Scalar.muli v2292 c512_i32_1734
  v2293
def k0_mult14 : BitVec 32 :=
  let c2_i32_1799 : BitVec 32 := 2#32
  let c1_i32_1798 : BitVec 32 := 1#32
  let v2382 : BitVec 32 := Scalar.muli c2_i32_1799 c1_i32_1798
  let c1_i32_1800 : BitVec 32 := 1#32
  let v2383 : BitVec 32 := Scalar.addi v2382 c1_i32_1800
  let c512_i32_1801 : BitVec 32 := 512#32
  let v2384 : BitVec 32 := Scalar.muli v2383 c512_i32_1801
  v2384
def k0_mult15 : BitVec 32 :=
  let c2_i32_1799 : BitVec 32 := 2#32
  let c1_i32_1798 : BitVec 32 := 1#32
  let v2382 : BitVec 32 := Scalar.muli c2_i32_1799 c1_i32_1798
  let c2_i32_1864 : BitVec 32 := 2#32
  let v2472 : BitVec 32 := Scalar.addi v2382 c2_i32_1864
  let c512_i32_1865 : BitVec 32 := 512#32
  let v2473 : BitVec 32 := Scalar.muli v2472 c512_i32_1865
  v2473
def k0_mult16 : BitVec 32 :=
  let c0_i32_2161 : BitVec 32 := 0#32
  let c512_i32_2162 : BitVec 32 := 512#32
  let v2864 : BitVec 32 := Scalar.muli c0_i32_2161 c512_i32_2162
  v2864
def k0_mult17 : BitVec 32 :=
  let c2_i32_2185 : BitVec 32 := 2#32
  let c0_i32_2184 : BitVec 32 := 0#32
  let v2889 : BitVec 32 := Scalar.muli c2_i32_2185 c0_i32_2184
  let c1_i32_2186 : BitVec 32 := 1#32
  let v2890 : BitVec 32 := Scalar.addi v2889 c1_i32_2186
  let c512_i32_2187 : BitVec 32 := 512#32
  let v2891 : BitVec 32 := Scalar.muli v2890 c512_i32_2187
  v2891
def k0_mult18 : BitVec 32 :=
  let c2_i32_2185 : BitVec 32 := 2#32
  let c0_i32_2184 : BitVec 32 := 0#32
  let v2889 : BitVec 32 := Scalar.muli c2_i32_2185 c0_i32_2184
  let c2_i32_2249 : BitVec 32 := 2#32
  let v2979 : BitVec 32 := Scalar.addi v2889 c2_i32_2249
  let c512_i32_2250 : BitVec 32 := 512#32
  let v2980 : BitVec 32 := Scalar.muli v2979 c512_i32_2250
  v2980
def k0_mult19 : BitVec 32 :=
  let c2_i32_2315 : BitVec 32 := 2#32
  let c1_i32_2314 : BitVec 32 := 1#32
  let v3069 : BitVec 32 := Scalar.muli c2_i32_2315 c1_i32_2314
  let c1_i32_2316 : BitVec 32 := 1#32
  let v3070 : BitVec 32 := Scalar.addi v3069 c1_i32_2316
  let c512_i32_2317 : BitVec 32 := 512#32
  let v3071 : BitVec 32 := Scalar.muli v3070 c512_i32_2317
  v3071
def k0_mult20 : BitVec 32 :=
  let c2_i32_2315 : BitVec 32 := 2#32
  let c1_i32_2314 : BitVec 32 := 1#32
  let v3069 : BitVec 32 := Scalar.muli c2_i32_2315 c1_i32_2314
  let c2_i32_2380 : BitVec 32 := 2#32
  let v3159 : BitVec 32 := Scalar.addi v3069 c2_i32_2380
  let c512_i32_2381 : BitVec 32 := 512#32
  let v3160 : BitVec 32 := Scalar.muli v3159 c512_i32_2381
  v3160
def k0_mult21 : BitVec 32 :=
  let c5_i32_2446 : BitVec 32 := 5#32
  let c512_i32_2447 : BitVec 32 := 512#32
  let v3249 : BitVec 32 := Scalar.muli c5_i32_2446 c512_i32_2447
  v3249
def k0_mult22 : BitVec 32 :=
  let c0_i32_2747 : BitVec 32 := 0#32
  let c512_i32_2748 : BitVec 32 := 512#32
  let v3638 : BitVec 32 := Scalar.muli c0_i32_2747 c512_i32_2748
  v3638
def k0_mult23 : BitVec 32 :=
  let c2_i32_2769 : BitVec 32 := 2#32
  let c0_i32_2770 : BitVec 32 := 0#32
  let v3663 : BitVec 32 := Scalar.muli c2_i32_2769 c0_i32_2770
  let c1_i32_2771 : BitVec 32 := 1#32
  let v3664 : BitVec 32 := Scalar.addi v3663 c1_i32_2771
  let c512_i32_2772 : BitVec 32 := 512#32
  let v3665 : BitVec 32 := Scalar.muli v3664 c512_i32_2772
  v3665
def k0_mult24 : BitVec 32 :=
  let c2_i32_2769 : BitVec 32 := 2#32
  let c0_i32_2770 : BitVec 32 := 0#32
  let v3663 : BitVec 32 := Scalar.muli c2_i32_2769 c0_i32_2770
  let c2_i32_2838 : BitVec 32 := 2#32
  let v3753 : BitVec 32 := Scalar.addi v3663 c2_i32_2838
  let c512_i32_2839 : BitVec 32 := 512#32
  let v3754 : BitVec 32 := Scalar.muli v3753 c512_i32_2839
  v3754
@[reducible] def k0_t1_loop : Scf.Loop 32 :=
  let c1_i32_2908 : BitVec 32 := 1#32
  let c2_i32_2909 : BitVec 32 := 2#32
  let v3843 : BitVec 32 := Scalar.addi c1_i32_2908 c2_i32_2909
  let c1_i32_2910 : BitVec 32 := 1#32
  ⟨c1_i32_2908, v3843, c1_i32_2910⟩
def k0_mult25 (k0_t1 : Fin k0_t1_loop.trips) : BitVec 32 :=
  let c2_i32_3122 : BitVec 32 := 2#32
  let c1_i32_2908 : BitVec 32 := 1#32
  let c1_i32_2910 : BitVec 32 := 1#32
  let arg20 : BitVec 32 := Scf.iv c1_i32_2908 c1_i32_2910 k0_t1
  let v4113 : BitVec 32 := Scalar.muli c2_i32_3122 arg20
  let c1_i32_3123 : BitVec 32 := 1#32
  let v4114 : BitVec 32 := Scalar.addi v4113 c1_i32_3123
  let c512_i32_3124 : BitVec 32 := 512#32
  let v4115 : BitVec 32 := Scalar.muli v4114 c512_i32_3124
  v4115
def k0_off6 (k0_t1 : Fin k0_t1_loop.trips) (c1_i32_3123 : BitVec 32) : Fin 3 → Nat :=
  let c0_3125 : Index := 0#32
  let c2_i32_3122 : BitVec 32 := 2#32
  let c1_i32_2908 : BitVec 32 := 1#32
  let c1_i32_2910 : BitVec 32 := 1#32
  let arg20 : BitVec 32 := Scf.iv c1_i32_2908 c1_i32_2910 k0_t1
  let v4113 : BitVec 32 := Scalar.muli c2_i32_3122 arg20
  let v4114 : BitVec 32 := Scalar.addi v4113 c1_i32_3123
  let c512_i32_3124 : BitVec 32 := 512#32
  let v4115 : BitVec 32 := Scalar.muli v4114 c512_i32_3124
  let v4116 : BitVec 32 := v4115
  let v4117 : Index := Scalar.indexCast v4116
  let c0_3126 : Index := 0#32
  ![0, v4117.toNat, 0]
def k0_off7 (k0_t1 : Fin k0_t1_loop.trips) : Fin 3 → Nat :=
  let c2_i32_3122 : BitVec 32 := 2#32
  let c1_i32_2908 : BitVec 32 := 1#32
  let c1_i32_2910 : BitVec 32 := 1#32
  let arg20 : BitVec 32 := Scf.iv c1_i32_2908 c1_i32_2910 k0_t1
  let v4113 : BitVec 32 := Scalar.muli c2_i32_3122 arg20
  let v4140 : Index := Scalar.indexCast v4113
  let c0_3145 : Index := 0#32
  let c0_3146 : Index := 0#32
  ![v4140.toNat, 0, 0]
def k0_mult26 (k0_t1 : Fin k0_t1_loop.trips) : BitVec 32 :=
  let c2_i32_3122 : BitVec 32 := 2#32
  let c1_i32_2908 : BitVec 32 := 1#32
  let c1_i32_2910 : BitVec 32 := 1#32
  let arg20 : BitVec 32 := Scf.iv c1_i32_2908 c1_i32_2910 k0_t1
  let v4113 : BitVec 32 := Scalar.muli c2_i32_3122 arg20
  let c2_i32_3187 : BitVec 32 := 2#32
  let v4203 : BitVec 32 := Scalar.addi v4113 c2_i32_3187
  let c512_i32_3188 : BitVec 32 := 512#32
  let v4204 : BitVec 32 := Scalar.muli v4203 c512_i32_3188
  v4204
def k0_off8 (k0_t1 : Fin k0_t1_loop.trips) : Fin 3 → Nat :=
  let c2_i32_3122 : BitVec 32 := 2#32
  let c1_i32_2908 : BitVec 32 := 1#32
  let c1_i32_2910 : BitVec 32 := 1#32
  let arg20 : BitVec 32 := Scf.iv c1_i32_2908 c1_i32_2910 k0_t1
  let v4113 : BitVec 32 := Scalar.muli c2_i32_3122 arg20
  let c1_i32_3209 : BitVec 32 := 1#32
  let v4229 : BitVec 32 := Scalar.addi v4113 c1_i32_3209
  let v4230 : Index := Scalar.indexCast v4229
  let c0_3210 : Index := 0#32
  let c0_3211 : Index := 0#32
  ![v4230.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some ((8⁻¹ * (Real.log 2)⁻¹ : ℝ) : EReal)
  | _ => none
-- ==== ReferenceIdeal.lean ====
abbrev S4x4096x3072 : Shape := ⟨3, ![4, 4096, 3072]⟩
abbrev S1x64 : Shape := ⟨2, ![1, 64]⟩
abbrev S1x128 : Shape := ⟨2, ![1, 128]⟩
abbrev S8 : Shape := ⟨1, ![8]⟩
abbrev S4x4096x1024 : Shape := ⟨3, ![4, 4096, 1024]⟩
abbrev S4x4096x16x64 : Shape := ⟨4, ![4, 4096, 16, 64]⟩
abbrev S4x4096x8x128 : Shape := ⟨4, ![4, 4096, 8, 128]⟩
abbrev S64 : Shape := ⟨1, ![64]⟩
abbrev S_ : Shape := ⟨0, ![]⟩
abbrev S8x2 : Shape := ⟨2, ![8, 2]⟩
abbrev S16 : Shape := ⟨1, ![16]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x16x4096x4096 : Shape := ⟨4, ![4, 16, 4096, 4096]⟩
abbrev S16x1x1 : Shape := ⟨3, ![16, 1, 1]⟩
abbrev S1x4096x4096 : Shape := ⟨3, ![1, 4096, 4096]⟩
abbrev S16x4096x4096 : Shape := ⟨3, ![16, 4096, 4096]⟩
abbrev S1x16x4096x4096 : Shape := ⟨4, ![1, 16, 4096, 4096]⟩
abbrev S4x16x4096 : Shape := ⟨3, ![4, 16, 4096]⟩
abbrev S4x16x4096x1 : Shape := ⟨4, ![4, 16, 4096, 1]⟩
abbrev S4x8x2x4096x4096 : Shape := ⟨5, ![4, 8, 2, 4096, 4096]⟩
abbrev S4x8x1x4096x4096 : Shape := ⟨5, ![4, 8, 1, 4096, 4096]⟩
abbrev S4x8x4096x4096 : Shape := ⟨4, ![4, 8, 4096, 4096]⟩
abbrev S4x8x128x4096 : Shape := ⟨4, ![4, 8, 128, 4096]⟩
abbrev S4x4096x8 : Shape := ⟨3, ![4, 4096, 8]⟩
abbrev S4x4096x8x1 : Shape := ⟨4, ![4, 4096, 8, 1]⟩
abbrev S128 : Shape := ⟨1, ![128]⟩
abbrev S1x1x1x128 : Shape := ⟨4, ![1, 1, 1, 128]⟩

abbrev nBuf : Space → Nat
  | .hbm => 104
  | .vmem => 0
  | .smem => 0
  | _ => 0

abbrev bufTy : (tb : Table) → Fin (tcTables nBuf tb) → BufTy
  | .hbm, ⟨0, _⟩ => ⟨S4x4096x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S8, .f32⟩
  | .hbm, ⟨7, _⟩ => ⟨S4x4096x3072, .f32⟩
  | .hbm, ⟨8, _⟩ => ⟨S4x4096x1024, .f32⟩
  | .hbm, ⟨9, _⟩ => ⟨S4x4096x16x64, .f32⟩
  | .hbm, ⟨10, _⟩ => ⟨S4x4096x1024, .f32⟩
  | .hbm, ⟨11, _⟩ => ⟨S4x4096x16x64, .f32⟩
  | .hbm, ⟨12, _⟩ => ⟨S4x4096x1024, .f32⟩
  | .hbm, ⟨13, _⟩ => ⟨S4x4096x8x128, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x2, .f32⟩
  | .hbm, ⟨30, _⟩ => ⟨S16, .f32⟩
  | .hbm, ⟨31, _⟩ => ⟨S4096, .i32⟩
  | .hbm, ⟨32, _⟩ => ⟨S4096x1, .i32⟩
  | .hbm, ⟨33, _⟩ => ⟨S1x4096, .i32⟩
  | .hbm, ⟨34, _⟩ => ⟨S4096x4096, .i32⟩
  | .hbm, ⟨35, _⟩ => ⟨S4096x4096, .i32⟩
  | .hbm, ⟨36, _⟩ => ⟨S4096x4096, .i32⟩
  | .hbm, ⟨37, _⟩ => ⟨S_, .f32⟩
  | .hbm, ⟨38, _⟩ => ⟨S4x4096x16x64, .f32⟩
  | .hbm, ⟨39, _⟩ => ⟨S4x4096x16x64, .f32⟩
  | .hbm, ⟨40, _⟩ => ⟨S4x16x4096x4096, .f32⟩
  | .hbm, ⟨41, _⟩ => ⟨S_, .i32⟩
  | .hbm, ⟨42, _⟩ => ⟨S4096x4096, .i32⟩
  | .hbm, ⟨43, _⟩ => ⟨S4096x4096, .i1⟩
  | .hbm, ⟨44, _⟩ => ⟨S16x1x1, .f32⟩
  | .hbm, ⟨45, _⟩ => ⟨S4096x4096, .f32⟩
  | .hbm, ⟨46, _⟩ => ⟨S1x4096x4096, .f32⟩
  | .hbm, ⟨47, _⟩ => ⟨S16x4096x4096, .f32⟩
  | .hbm, ⟨48, _⟩ => ⟨S16x4096x4096, .f32⟩
  | .hbm, ⟨49, _⟩ => ⟨S16x4096x4096, .f32⟩
  | .hbm, ⟨50, _⟩ => ⟨S1x16x4096x4096, .f32⟩
  | .hbm, ⟨51, _⟩ => ⟨S4x16x4096x4096, .f32⟩
  | .hbm, ⟨52, _⟩ => ⟨S4x16x4096x4096, .f32⟩
  | .hbm, ⟨53, _⟩ => ⟨S_, .f32⟩
  | .hbm, ⟨54, _⟩ => ⟨S_, .f32⟩
  | .hbm, ⟨55, _⟩ => ⟨S4x16x4096x4096, .i1⟩
  | .hbm, ⟨56, _⟩ => ⟨S4x16x4096x4096, .f32⟩
  | .hbm, ⟨57, _⟩ => ⟨S4x16x4096x4096, .f32⟩
  | .hbm, ⟨58, _⟩ => ⟨S_, .f32⟩
  | .hbm, ⟨59, _⟩ => ⟨S4x16x4096, .f32⟩
  | .hbm, ⟨60, _⟩ => ⟨S_, .f32⟩
  | .hbm, ⟨61, _⟩ => ⟨S4x16x4096, .f32⟩
  | .hbm, ⟨62, _⟩ => ⟨S4x16x4096, .f32⟩
  | .hbm, ⟨63, _⟩ => ⟨S4x16x4096x1, .f32⟩
  | .hbm, ⟨64, _⟩ => ⟨S4x16x4096x4096, .f32⟩
  | .hbm, ⟨65, _⟩ => ⟨S4x16x4096x4096, .f32⟩
  | .hbm, ⟨66, _⟩ => ⟨S4x16x4096x4096, .f32⟩
  | .hbm, ⟨67, _⟩ => ⟨S_, .f32⟩
  | .hbm, ⟨68, _⟩ => ⟨S4x16x4096, .f32⟩
  | .hbm, ⟨69, _⟩ => ⟨S4x16x4096x1, .f32⟩
  | .hbm, ⟨70, _⟩ => ⟨S4x16x4096x4096, .f32⟩
  | .hbm, ⟨71, _⟩ => ⟨S4x16x4096x4096, .f32⟩
  | .hbm, ⟨72, _⟩ => ⟨S4x8x2x4096x4096, .f32⟩
  | .hbm, ⟨73, _⟩ => ⟨S4x8x1x4096x4096, .f32⟩
  | .hbm, ⟨74, _⟩ => ⟨S4x8x4096x4096, .f32⟩
  | .hbm, ⟨75, _⟩ => ⟨S4x8x1x4096x4096, .f32⟩
  | .hbm, ⟨76, _⟩ => ⟨S4x8x4096x4096, .f32⟩
  | .hbm, ⟨77, _⟩ => ⟨S4x8x4096x4096, .f32⟩
  | .hbm, ⟨78, _⟩ => ⟨S4x8x4096x4096, .f32⟩
  | .hbm, ⟨79, _⟩ => ⟨S4x8x4096x4096, .f32⟩
  | .hbm, ⟨80, _⟩ => ⟨S4x8x128x4096, .f32⟩
  | .hbm, ⟨81, _⟩ => ⟨S4x4096x8x128, .f32⟩
  | .hbm, ⟨82, _⟩ => ⟨S4x4096x8x128, .f32⟩
  | .hbm, ⟨83, _⟩ => ⟨S_, .f32⟩
  | .hbm, ⟨84, _⟩ => ⟨S4x4096x8, .f32⟩
  | .hbm, ⟨85, _⟩ => ⟨S4x4096x8x1, .f32⟩
  | .hbm, ⟨86, _⟩ => ⟨S_, .f32⟩
  | .hbm, ⟨87, _⟩ => ⟨S4x4096x8x1, .f32⟩
  | .hbm, ⟨88, _⟩ => ⟨S4x4096x8x1, .f32⟩
  | .hbm, ⟨89, _⟩ => ⟨S_, .f32⟩
  | .hbm, ⟨90, _⟩ => ⟨S4x4096x8x1, .f32⟩
  | .hbm, ⟨91, _⟩ => ⟨S4x4096x8x1, .f32⟩
  | .hbm, ⟨92, _⟩ => ⟨S4x4096x8x1, .f32⟩
  | .hbm, ⟨93, _⟩ => ⟨S4x4096x8x128, .f32⟩
  | .hbm, ⟨94, _⟩ => ⟨S4x4096x8x128, .f32⟩
  | .hbm, ⟨95, _⟩ => ⟨S128, .f32⟩
  | .hbm, ⟨96, _⟩ => ⟨S1x1x1x128, .f32⟩
  | .hbm, ⟨97, _⟩ => ⟨S4x4096x8x128, .f32⟩
  | .hbm, ⟨98, _⟩ => ⟨S4x4096x8x128, .f32⟩
  | .hbm, ⟨99, _⟩ => ⟨S_, .f32⟩
  | .hbm, ⟨100, _⟩ => ⟨S4x4096x8x128, .f32⟩
  | .hbm, ⟨101, _⟩ => ⟨S4x4096x8x128, .f32⟩
  | .hbm, ⟨102, _⟩ => ⟨S4x4096x1024, .f32⟩
  | .hbm, ⟨103, _⟩ => ⟨S4x4096x1024, .bf16⟩
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_11 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩

abbrev nD : Nat := 1
abbrev τ : Topo := Topo.v7x

variable {F : FTy → Type} [FloatOps F]
-- ==== Kernel2.lean ====
abbrev S4x4096x1024 : Shape := ⟨3, ![4, 4096, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1024x1024 : Shape := ⟨2, ![1024, 1024]⟩
abbrev S16x1024 : Shape := ⟨2, ![16, 1024]⟩
abbrev S1040x1024 : Shape := ⟨2, ![1040, 1024]⟩
abbrev S1024x1536 : Shape := ⟨2, ![1024, 1536]⟩
abbrev S1040x1536 : Shape := ⟨2, ![1040, 1536]⟩
abbrev S1x1536 : Shape := ⟨2, ![1, 1536]⟩
abbrev S1536x1024 : Shape := ⟨2, ![1536, 1024]⟩
abbrev S1024x1280 : Shape := ⟨2, ![1024, 1280]⟩
abbrev S1040x1280 : Shape := ⟨2, ![1040, 1280]⟩
abbrev S1x1280 : Shape := ⟨2, ![1, 1280]⟩
abbrev S1280x1024 : Shape := ⟨2, ![1280, 1024]⟩
abbrev S1024x1 : Shape := ⟨2, ![1024, 1]⟩

abbrev nBuf : Space → Nat
  | .hbm => 21
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S1024x5632, .f32⟩
  | .hbm, ⟨9, _⟩ => ⟨S1024x5632, .bf16⟩
  | .hbm, ⟨10, _⟩ => ⟨S3x5632, .f32⟩
  | .hbm, ⟨11, _⟩ => ⟨S5632, .f32⟩
  | .hbm, ⟨12, _⟩ => ⟨S1x5632, .f32⟩
  | .hbm, ⟨13, _⟩ => ⟨S2816x1024, .f32⟩
  | .hbm, ⟨14, _⟩ => ⟨S2816x1024, .bf16⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1040x1024, .bf16⟩
  | .local _ .vmem, ⟨13, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S4x4096x1024 : Shape := ⟨3, ![4, 4096, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S1024x5632 : Shape := ⟨2, ![1024, 5632]⟩
abbrev S4x4096x5632 : Shape := ⟨3, ![4, 4096, 5632]⟩
abbrev S_ : Shape := ⟨0, ![]⟩
abbrev S4x4098x5632 : Shape := ⟨3, ![4, 4098, 5632]⟩
abbrev S5632 : Shape := ⟨1, ![5632]⟩
abbrev S1x1x5632 : Shape := ⟨3, ![1, 1, 5632]⟩
abbrev S4x4096x2816 : Shape := ⟨3, ![4, 4096, 2816]⟩
abbrev S2816x1024 : Shape := ⟨2, ![2816, 1024]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S4x4096x5632, .f32⟩
  | .hbm, ⟨9, _⟩ => ⟨S_, .i32⟩
  | .hbm, ⟨10, _⟩ => ⟨S_, .f32⟩
  | .hbm, ⟨11, _⟩ => ⟨S4x4098x5632, .f32⟩
  | .hbm, ⟨12, _⟩ => ⟨S5632, .f32⟩
  | .hbm, ⟨13, _⟩ => ⟨S4x4096x5632, .f32⟩
  | .hbm, ⟨14, _⟩ => ⟨S1x1x5632, .f32⟩
  | .hbm, ⟨15, _⟩ => ⟨S5632, .f32⟩
  | .hbm, ⟨16, _⟩ => ⟨S1x1x5632, .f32⟩
  | .hbm, ⟨17, _⟩ => ⟨S4x4096x5632, .f32⟩
  | .hbm, ⟨18, _⟩ => ⟨S4x4096x5632, .f32⟩
  | .hbm, ⟨19, _⟩ => ⟨S_, .f32⟩
  | .hbm, ⟨20, _⟩ => ⟨S4x4096x5632, .f32⟩
  | .hbm, ⟨21, _⟩ => ⟨S4x4096x5632, .f32⟩
  | .hbm, ⟨22, _⟩ => ⟨S4x4096x5632, .f32⟩
  | .hbm, ⟨23, _⟩ => ⟨S1x1x5632, .f32⟩
  | .hbm, ⟨24, _⟩ => ⟨S5632, .f32⟩
  | .hbm, ⟨25, _⟩ => ⟨S1x1x5632, .f32⟩
  | .hbm, ⟨26, _⟩ => ⟨S4x4096x5632, .f32⟩
  | .hbm, ⟨27, _⟩ => ⟨S4x4096x5632, .f32⟩
  | .hbm, ⟨28, _⟩ => ⟨S4x4096x5632, .f32⟩
  | .hbm, ⟨29, _⟩ => ⟨S4x4096x5632, .f32⟩
  | .hbm, ⟨30, _⟩ => ⟨S1x1x5632, .f32⟩
  | .hbm, ⟨31, _⟩ => ⟨S5632, .f32⟩
  | .hbm, ⟨32, _⟩ => ⟨S1x1x5632, .f32⟩
  | .hbm, ⟨33, _⟩ => ⟨S4x4096x5632, .f32⟩
  | .hbm, ⟨34, _⟩ => ⟨S4x4096x5632, .f32⟩
  | .hbm, ⟨35, _⟩ => ⟨S4x4096x5632, .f32⟩
  | .hbm, ⟨36, _⟩ => ⟨S1x1x5632, .f32⟩
  | .hbm, ⟨37, _⟩ => ⟨S4x4096x5632, .f32⟩
  | .hbm, ⟨38, _⟩ => ⟨S4x4096x5632, .f32⟩
  | .hbm, ⟨39, _⟩ => ⟨S4x4096x2816, .f32⟩
  | .hbm, ⟨40, _⟩ => ⟨S4x4096x2816, .f32⟩
  | .hbm, ⟨41, _⟩ => ⟨S_, .f32⟩
  | .hbm, ⟨42, _⟩ => ⟨S4x4096x2816, .f32⟩
  | .hbm, ⟨43, _⟩ => ⟨S4x4096x2816, .f32⟩
  | .hbm, ⟨44, _⟩ => ⟨S4x4096x2816, .f32⟩
  | .hbm, ⟨45, _⟩ => ⟨S_, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S4x4096x2816, .f32⟩
  | .hbm, ⟨51, _⟩ => ⟨S_, .f32⟩
  | .hbm, ⟨52, _⟩ => ⟨S4x4096x1024, .f32⟩
  | .hbm, ⟨53, _⟩ => ⟨S4x4096x1024, .f32⟩
  | .hbm, ⟨54, _⟩ => ⟨S2816x1024, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x1024, .f32⟩
  | .hbm, ⟨73, _⟩ => ⟨S4x4096x1024, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x4096x1, .f32⟩
  | .hbm, ⟨78, _⟩ => ⟨S4x4096x1024, .f32⟩
  | .hbm, ⟨79, _⟩ => ⟨S4x4096x1024, .f32⟩
  | .hbm, ⟨80, _⟩ => ⟨S1024, .f32⟩
  | .hbm, ⟨81, _⟩ => ⟨S1x1x1024, .f32⟩
  | .hbm, ⟨82, _⟩ => ⟨S4x4096x1024, .f32⟩
  | .hbm, ⟨83, _⟩ => ⟨S4x4096x1024, .f32⟩
  | .hbm, ⟨84, _⟩ => ⟨S1024, .f32⟩
  | .hbm, ⟨85, _⟩ => ⟨S1x1x1024, .f32⟩
  | .hbm, ⟨86, _⟩ => ⟨S4x4096x1024, .f32⟩
  | .hbm, ⟨87, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Kernel3.lean ====
abbrev S4x4096x1024 : Shape := ⟨3, ![4, 4096, 1024]⟩
abbrev S1x1024x9728 : Shape := ⟨3, ![1, 1024, 9728]⟩
abbrev S1x2048 : Shape := ⟨2, ![1, 2048]⟩
abbrev S16384x1024 : Shape := ⟨2, ![16384, 1024]⟩
abbrev S1024x9728 : Shape := ⟨2, ![1024, 9728]⟩
abbrev S2048 : Shape := ⟨1, ![2048]⟩
abbrev S16384x3072 : Shape := ⟨2, ![16384, 3072]⟩
abbrev S16384x2048 : Shape := ⟨2, ![16384, 2048]⟩
abbrev S2048x1024 : Shape := ⟨2, ![2048, 1024]⟩
abbrev S1024x1024 : Shape := ⟨2, ![1024, 1024]⟩
abbrev S1024x512 : Shape := ⟨2, ![1024, 512]⟩
abbrev S1x1024 : Shape := ⟨2, ![1, 1024]⟩
abbrev S4x4096x3072 : Shape := ⟨3, ![4, 4096, 3072]⟩
abbrev S4x4096x2048 : Shape := ⟨3, ![4, 4096, 2048]⟩

abbrev nBuf : Space → Nat
  | .hbm => 13
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1x1024x9728, .f32⟩
  | .hbm, ⟨2, _⟩ => ⟨S1x2048, .f32⟩
  | .hbm, ⟨3, _⟩ => ⟨S16384x1024, .f32⟩
  | .hbm, ⟨4, _⟩ => ⟨S1024x9728, .f32⟩
  | .hbm, ⟨5, _⟩ => ⟨S1024x9728, .bf16⟩
  | .hbm, ⟨6, _⟩ => ⟨S2048, .f32⟩
  | .hbm, ⟨7, _⟩ => ⟨S1x2048, .f32⟩
  | .hbm, ⟨8, _⟩ => ⟨S16384x3072, .bf16⟩
  | .hbm, ⟨9, _⟩ => ⟨S16384x2048, .bf16⟩
  | .hbm, ⟨10, _⟩ => ⟨S16384x1024, .bf16⟩
  | .hbm, ⟨11, _⟩ => ⟨S4x4096x3072, .bf16⟩
  | .hbm, ⟨12, _⟩ => ⟨S4x4096x2048, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x1024, .f32⟩
  | .local _ .vmem, ⟨9, _⟩ => ⟨S1x1024, .f32⟩
  | .local _ .vmem, ⟨10, _⟩ => ⟨S2048x1024, .bf16⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c3_i32 : BitVec 32 := 3#32
  let v3 : BitVec 1 := Scalar.cmpi .slt arg1 c3_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c3_i32_2 : BitVec 32 := 3#32
  let v6 : BitVec 1 := Scalar.cmpi .sge arg1 c3_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c2_i32 : BitVec 32 := 2#32
  let v3 : BitVec 32 := Scalar.muli c2_i32 v2
  let c15_i32 : BitVec 32 := 15#32
  let v4 : BitVec 32 := Scalar.addi c15_i32 v3
  let c0_i32_0 : BitVec 32 := 0#32
  let c0_i32_1 : BitVec 32 := 0#32
  ![c0_i32_0.toNat, v4.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c2_i32 : BitVec 32 := 2#32
  let v3 : BitVec 32 := Scalar.muli c2_i32 v2
  let c15_i32 : BitVec 32 := 15#32
  let v4 : BitVec 32 := Scalar.addi c15_i32 v3
  let c1_i32_0 : BitVec 32 := 1#32
  let v5 : BitVec 32 := Scalar.addi v4 c1_i32_0
  let c0_i32_1 : BitVec 32 := 0#32
  let c0_i32_2 : BitVec 32 := 0#32
  ![c0_i32_1.toNat, v5.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S4x4096x1024 : Shape := ⟨3, ![4, 4096, 1024]⟩
abbrev S1x1024x9728 : Shape := ⟨3, ![1, 1024, 9728]⟩
abbrev S1x2048 : Shape := ⟨2, ![1, 2048]⟩
abbrev S1024x9728 : Shape := ⟨2, ![1024, 9728]⟩
abbrev S4x4096x9728 : Shape := ⟨3, ![4, 4096, 9728]⟩
abbrev S4x4096x2048 : Shape := ⟨3, ![4, 4096, 2048]⟩
abbrev S4x4096x3072 : Shape := ⟨3, ![4, 4096, 3072]⟩
abbrev S2048 : Shape := ⟨1, ![2048]⟩
abbrev S1x1x2048 : Shape := ⟨3, ![1, 1, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x9728, .f32⟩
  | .hbm, ⟨2, _⟩ => ⟨S1x2048, .f32⟩
  | .hbm, ⟨3, _⟩ => ⟨S1024x9728, .f32⟩
  | .hbm, ⟨4, _⟩ => ⟨S4x4096x9728, .f32⟩
  | .hbm, ⟨5, _⟩ => ⟨S4x4096x2048, .f32⟩
  | .hbm, ⟨6, _⟩ => ⟨S4x4096x3072, .f32⟩
  | .hbm, ⟨7, _⟩ => ⟨S4x4096x3072, .bf16⟩
  | .hbm, ⟨8, _⟩ => ⟨S2048, .f32⟩
  | .hbm, ⟨9, _⟩ => ⟨S1x1x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x4096x2048, .f32⟩
  | .hbm, ⟨16, _⟩ => ⟨S4x4096x2048, .f32⟩
  | .hbm, ⟨17, _⟩ => ⟨S_, .f32⟩
  | .hbm, ⟨18, _⟩ => ⟨S4x4096x2048, .f32⟩
  | .hbm, ⟨19, _⟩ => ⟨S4x4096x2048, .f32⟩
  | .hbm, ⟨20, _⟩ => ⟨S4x4096x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S1x1024x1024 : Shape := ⟨3, ![1, 1024, 1024]⟩
abbrev S1x512x1024 : Shape := ⟨3, ![1, 512, 1024]⟩
abbrev S1x1024 : Shape := ⟨2, ![1, 1024]⟩
abbrev S16384x512 : Shape := ⟨2, ![16384, 512]⟩
abbrev S16384x1024 : Shape := ⟨2, ![16384, 1024]⟩
abbrev S16384x2048 : Shape := ⟨2, ![16384, 2048]⟩
abbrev S1024x1024 : Shape := ⟨2, ![1024, 1024]⟩
abbrev S512x1024 : Shape := ⟨2, ![512, 1024]⟩
abbrev S1024 : Shape := ⟨1, ![1024]⟩
abbrev S1024x512 : Shape := ⟨2, ![1024, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 35
  | .vmem => 27
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S4x4096x512, .f32⟩
  | .hbm, ⟨5, _⟩ => ⟨S4x4096x512, .f32⟩
  | .hbm, ⟨6, _⟩ => ⟨S4x4096x512, .f32⟩
  | .hbm, ⟨7, _⟩ => ⟨S4x4096x2048, .bf16⟩
  | .hbm, ⟨8, _⟩ => ⟨S4x4096x1024, .f32⟩
  | .hbm, ⟨9, _⟩ => ⟨S1x1024x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S1x1024, .f32⟩
  | .hbm, ⟨14, _⟩ => ⟨S16384x512, .bf16⟩
  | .hbm, ⟨15, _⟩ => ⟨S16384x512, .bf16⟩
  | .hbm, ⟨16, _⟩ => ⟨S16384x512, .bf16⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x1024, .f32⟩
  | .hbm, ⟨21, _⟩ => ⟨S16384x1024, .bf16⟩
  | .hbm, ⟨22, _⟩ => ⟨S16384x2048, .bf16⟩
  | .hbm, ⟨23, _⟩ => ⟨S1024x1024, .f32⟩
  | .hbm, ⟨24, _⟩ => ⟨S1024x1024, .bf16⟩
  | .hbm, ⟨25, _⟩ => ⟨S512x1024, .f32⟩
  | .hbm, ⟨26, _⟩ => ⟨S512x1024, .bf16⟩
  | .hbm, ⟨27, _⟩ => ⟨S1024x1024, .f32⟩
  | .hbm, ⟨28, _⟩ => ⟨S1024x1024, .bf16⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S4x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S512x1024, .bf16⟩
  | .local _ .vmem, ⟨22, _⟩ => ⟨S1024x1024, .bf16⟩
  | .local _ .vmem, ⟨23, _⟩ => ⟨S1x1024, .f32⟩
  | .local _ .vmem, ⟨24, _⟩ => ⟨S1x1024, .f32⟩
  | .local _ .vmem, ⟨25, _⟩ => ⟨S1024x1024, .f32⟩
  | .local _ .vmem, ⟨26, _⟩ => ⟨S1024x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S4x4096x1024 : Shape := ⟨3, ![4, 4096, 1024]⟩
abbrev S4x4096x512 : Shape := ⟨3, ![4, 4096, 512]⟩
abbrev S4x4096x2048 : Shape := ⟨3, ![4, 4096, 2048]⟩
abbrev S1x1024x1024 : Shape := ⟨3, ![1, 1024, 1024]⟩
abbrev S1x512x1024 : Shape := ⟨3, ![1, 512, 1024]⟩
abbrev S1x1024 : Shape := ⟨2, ![1, 1024]⟩
abbrev S_ : Shape := ⟨0, ![]⟩
abbrev S1024x1024 : Shape := ⟨2, ![1024, 1024]⟩
abbrev S512x1024 : Shape := ⟨2, ![512, 1024]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S4x4096x512, .f32⟩
  | .hbm, ⟨5, _⟩ => ⟨S4x4096x512, .f32⟩
  | .hbm, ⟨6, _⟩ => ⟨S4x4096x512, .f32⟩
  | .hbm, ⟨7, _⟩ => ⟨S4x4096x2048, .bf16⟩
  | .hbm, ⟨8, _⟩ => ⟨S4x4096x1024, .f32⟩
  | .hbm, ⟨9, _⟩ => ⟨S1x1024x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S4x4096x512, .f32⟩
  | .hbm, ⟨16, _⟩ => ⟨S4x4096x512, .f32⟩
  | .hbm, ⟨17, _⟩ => ⟨S4x4096x512, .f32⟩
  | .hbm, ⟨18, _⟩ => ⟨S4x4096x512, .f32⟩
  | .hbm, ⟨19, _⟩ => ⟨S4x4096x512, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S4x4096x512, .f32⟩
  | .hbm, ⟨36, _⟩ => ⟨S4x4096x512, .f32⟩
  | .hbm, ⟨37, _⟩ => ⟨S4x4096x2048, .f32⟩
  | .hbm, ⟨38, _⟩ => ⟨S4x4096x1024, .f32⟩
  | .hbm, ⟨39, _⟩ => ⟨S4x4096x1024, .f32⟩
  | .hbm, ⟨40, _⟩ => ⟨S1024x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S512x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096x1024, .f32⟩
  | .hbm, ⟨50, _⟩ => ⟨S4x4096x1024, .f32⟩
  | .hbm, ⟨51, _⟩ => ⟨S1024x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | .hbm, ⟨81, _⟩ => ⟨S1024, .f32⟩
  | .hbm, ⟨82, _⟩ => ⟨S1x1x1024, .f32⟩
  | .hbm, ⟨83, _⟩ => ⟨S4x4096x1024, .f32⟩
  | .hbm, ⟨84, _⟩ => ⟨S4x4096x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_1 : Ref sig .tc := ⟨.hbm, 54, rfl⟩
abbrev main_v38 : Ref sig .tc := ⟨.hbm, 55, rfl⟩
abbrev main_v39 : Ref sig .tc := ⟨.hbm, 56, rfl⟩
abbrev main_cst_2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_3 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Proof.Ops.lean ====
/-
  The differential attention kernel written as a structured program: the values it computes, each as a function of the
  values it has loaded, and the stages it is made of (preparing a query block, the scores of a key block, the running
  update, the diagonal block in two halves, the normalisation), each as a small program over the buffers it names.
  The stages are stated once, at a symbolic query block, key block and score buffer.
-/
module

public import Idealize.ShloMosaic.Lib.Pipeline
public import Idealize.ShloMosaic.Lib.Scf
public import Idealize.ShloMosaic.Lib.Sig
public import Idealize.ShloMosaic.PureOps

@[expose] public section

set_option maxRecDepth 16384

noncomputable section

namespace DiffAttn

open Idealize.ShloMosaic Idealize.SL.Sem

abbrev S8 : Shape := ⟨1, ![8]⟩
abbrev S1 : Shape := ⟨1, ![1]⟩
abbrev S256 : Shape := ⟨1, ![256]⟩
abbrev S512 : Shape := ⟨1, ![512]⟩
abbrev S1x1 : Shape := ⟨2, ![1, 1]⟩
abbrev S1x64 : Shape := ⟨2, ![1, 64]⟩
abbrev S1x256 : Shape := ⟨2, ![1, 256]⟩
abbrev S1x512 : Shape := ⟨2, ![1, 512]⟩
abbrev S16x512 : Shape := ⟨2, ![16, 512]⟩
abbrev S128x1 : Shape := ⟨2, ![128, 1]⟩
abbrev S128x512 : Shape := ⟨2, ![128, 512]⟩
abbrev S144x256 : Shape := ⟨2, ![144, 256]⟩
abbrev S144x512 : Shape := ⟨2, ![144, 512]⟩
abbrev S256x128 : Shape := ⟨2, ![256, 128]⟩
abbrev S256x256 : Shape := ⟨2, ![256, 256]⟩
abbrev S256x512 : Shape := ⟨2, ![256, 512]⟩
abbrev S512x128 : Shape := ⟨2, ![512, 128]⟩
abbrev S512x256 : Shape := ⟨2, ![512, 256]⟩
abbrev S512x512 : Shape := ⟨2, ![512, 512]⟩
abbrev S1x1x256 : Shape := ⟨3, ![1, 1, 256]⟩
abbrev S1x1x512 : Shape := ⟨3, ![1, 1, 512]⟩
abbrev S1x16x512 : Shape := ⟨3, ![1, 16, 512]⟩
abbrev S1x128x512 : Shape := ⟨3, ![1, 128, 512]⟩
abbrev S1x144x256 : Shape := ⟨3, ![1, 144, 256]⟩
abbrev S1x144x512 : Shape := ⟨3, ![1, 144, 512]⟩
abbrev S1x256x128 : Shape := ⟨3, ![1, 256, 128]⟩
abbrev S1x256x256 : Shape := ⟨3, ![1, 256, 256]⟩
abbrev S1x256x512 : Shape := ⟨3, ![1, 256, 512]⟩
abbrev S1x512x128 : Shape := ⟨3, ![1, 512, 128]⟩
abbrev S1x512x512 : Shape := ⟨3, ![1, 512, 512]⟩
abbrev S2x1x512 : Shape := ⟨3, ![2, 1, 512]⟩
abbrev S2x144x512 : Shape := ⟨3, ![2, 144, 512]⟩
abbrev S2x512x512 : Shape := ⟨3, ![2, 512, 512]⟩
abbrev S8x144x512 : Shape := ⟨3, ![8, 144, 512]⟩
abbrev S1x4096x128 : Shape := ⟨3, ![1, 4096, 128]⟩
abbrev S1x2x144x512 : Shape := ⟨4, ![1, 2, 144, 512]⟩
abbrev S2x2x144x512 : Shape := ⟨4, ![2, 2, 144, 512]⟩

def dotS : DotDims S512x256 S256x512 S512x512 := ⟨[1], [0], [0], [1], [], [], by decide⟩
def dotPV : DotDims S144x512 S512x512 S144x512 := ⟨[1], [0], [0], [1], [], [], by decide⟩
def dotLo : DotDims S256x256 S256x512 S256x512 := ⟨[1], [0], [0], [1], [], [], by decide⟩
def dotHi : DotDims S256x256 S256x256 S256x256 := ⟨[1], [0], [0], [1], [], [], by decide⟩
def dotPVLo : DotDims S144x256 S256x512 S144x512 := ⟨[1], [0], [0], [1], [], [], by decide⟩
def dotPVHi : DotDims S144x256 S256x256 S144x256 := ⟨[1], [0], [0], [1], [], [], by decide⟩

theorem bits_lt : FTy.bits .bf16 < FTy.bits .f32 := by decide

variable {F : FTy → Type} [FloatOps F]

/-! ## The values -/

/-- The remainder modulo 256 with the sign of the divisor, as the program spells it. -/
def mod256 (v : IVec S512x128 32) : IVec S512x128 32 :=
  let c : BitVec 32 := Scalar.select (Scalar.cmpi .eq 256#32 0#32) 1#32 256#32
  let r : IVec S512x128 32 := remsi v (broadcast S512x128 c)
  let ne : IVec S512x128 1 := cmpi .ne r (broadcast S512x128 0#32)
  let lt : IVec S512x128 1 := cmpi .slt r (broadcast S512x128 0#32)
  let neg : IVec S512x128 1 := broadcastTo S512x128 (broadcast S512x128 (Scalar.cmpi .slt c 0#32)) (by decide : S512x128.Broadcasts S512x128)
  select (andi (xori lt neg) ne) (addi r (broadcast S512x128 c)) r

/-- The mask of the diagonal block: zero where the key is not after the query, minus infinity elsewhere. -/
def maskV : FVec F S512x512 .f32 :=
  select (cmpi .sle (iota .tc S512x512 32 [0] (by decide)) (iota .tc S512x512 32 [1] (by decide)))
    (broadcast S512x512 (Scalar.ofBits .f32 0x00000000#32)) (broadcast S512x512 (Scalar.ofBits .f32 0xFF800000#32))

/-- The key side of the position bias: the position modulo 256 in columns 0 to 2, the rest of it in columns 3 to 5. -/
def kaugV : FVec F S512x128 .bf16 :=
  let row : IVec S512x128 32 := iota .tc S512x128 32 [0] (by decide)
  let col : IVec S512x128 32 := iota .tc S512x128 32 [1] (by decide)
  truncf .bf16 (select (cmpi .slt col (broadcast S512x128 3#32)) (sitofp .f32 (mod256 row))
    (select (cmpi .slt col (broadcast S512x128 6#32)) (sitofp .f32 (subi row (mod256 row)))
      (broadcast S512x128 (Scalar.ofBits .f32 0x00000000#32)))) bits_lt

/-- The query side of the position bias: the slope as a sum of three bfloat16 terms, on rows 0 to 2 and again on rows 3 to 5. -/
def waugV (v2 : F .f32) : FVec F S128x512 .bf16 :=
  let w : FVec F S128x512 .f32 := broadcast S128x512 v2
  let row : IVec S128x512 32 := iota .tc S128x512 32 [0] (by decide)
  let z : FVec F S128x512 .f32 := broadcast S128x512 (Scalar.ofBits .f32 0x00000000#32)
  let w1 : FVec F S128x512 .f32 := extf .f32 (truncf .bf16 w bits_lt) bits_lt
  let a1 := select (ori (cmpi .eq row (broadcast S128x512 0#32)) (cmpi .eq row (broadcast S128x512 3#32))) w1 z
  let r1 := subf w w1
  let w2 : FVec F S128x512 .f32 := extf .f32 (truncf .bf16 r1 bits_lt) bits_lt
  let a2 := select (ori (cmpi .eq row (broadcast S128x512 1#32)) (cmpi .eq row (broadcast S128x512 4#32))) w2 a1
  let r2 := subf r1 w2
  let w3 : FVec F S128x512 .f32 := extf .f32 (truncf .bf16 r2 bits_lt) bits_lt
  let a3 := select (ori (cmpi .eq row (broadcast S128x512 2#32)) (cmpi .eq row (broadcast S128x512 5#32))) w3 a2
  truncf .bf16 a3 bits_lt

/-- One exponential of the coefficient: of the sum of the products of two rows. -/
def expDot (a b : Vec F S1x64 .f32) : FVec F S1x1 .f32 :=
  exp (shapeCast S1x1 (multiReduction .add [1] S1
    (mulf (shapeCast S1x64 a (by decide : S1x64.ShapeCasts S1x64)) (shapeCast S1x64 b (by decide : S1x64.ShapeCasts S1x64))) 0x00000000#32 (by decide) (.inl rfl) rfl)
    (by decide : S1.ShapeCasts S1x1))

/-- The coefficient of the second softmax. -/
def lamV (q1 k1 q2 k2 : Vec F S1x64 .f32) : FVec F S1x1 .f32 :=
  addf (subf (expDot q1 k1) (expDot q2 k2)) (broadcast S1x1 (Scalar.ofBits .f32 0x3E4CCCCD#32))

/-- The running maximum before any key. -/
def negV : FVec F S1x512 .f32 := broadcast S1x512 (Scalar.ofBits .f32 0xFF800000#32)

/-- A block of values, transposed. -/
def vtV (v : Vec F S1x512x128 .bf16) : FVec F S1x128x512 .bf16 :=
  shapeCast S1x128x512 (truncf .bf16 (transpose S128x512 [1, 0] (extf .f32 (shapeCast S512x128 v (by decide : S1x512x128.ShapeCasts S512x128)) bits_lt)
    (by decide)) bits_lt) (by decide : S128x512.ShapeCasts S1x128x512)

/-- Rows of ones under a block of values, for the sum of the weights. -/
def onesV : FVec F S1x16x512 .bf16 :=
  shapeCast S1x16x512 (broadcast S16x512 (Scalar.ofBits .bf16 0x3F80#16)) (by decide : S16x512.ShapeCasts S1x16x512)

/-- A block of queries, transposed and scaled. -/
def qsV (qs : F .f32) (q : Vec F S1x512x128 .bf16) : FVec F S128x512 .f32 :=
  mulf (transpose S128x512 [1, 0] (extf .f32 (shapeCast S512x128 q (by decide : S1x512x128.ShapeCasts S512x128)) bits_lt) (by decide)) (broadcast S128x512 qs)

/-- The rows of the first map. -/
def firstRows : IVec S128x512 1 := cmpi .slt (iota .tc S128x512 32 [0] (by decide)) (broadcast S128x512 64#32)

/-- The queries of the first map over the position bias. -/
def qt0V (w : FVec F S128x512 .bf16) (q : FVec F S128x512 .f32) : FVec F S256x512 .bf16 :=
  concatenate S256x512 0 [⟨S128x512, truncf .bf16 (select firstRows q (broadcast S128x512 (Scalar.ofBits .f32 0x00000000#32))) bits_lt⟩, ⟨S128x512, w⟩] (by decide : Shape.Concatenates [S128x512, S128x512] S256x512 0)

/-- The queries of the second map over the position bias. -/
def qt1V (w : FVec F S128x512 .bf16) (q : FVec F S128x512 .f32) : FVec F S256x512 .bf16 :=
  concatenate S256x512 0 [⟨S128x512, truncf .bf16 (select firstRows (broadcast S128x512 (Scalar.ofBits .f32 0x00000000#32)) q) bits_lt⟩, ⟨S128x512, w⟩] (by decide : Shape.Concatenates [S128x512, S128x512] S256x512 0)

/-- An accumulator's start. -/
def zeroV : FVec F S1x2x144x512 .f32 :=
  shapeCast S1x2x144x512 (broadcast S2x144x512 (Scalar.ofBits .f32 0x00000000#32)) (by decide : S2x144x512.ShapeCasts S1x2x144x512)

/-- The scores of a key block against a query block. -/
def scoreV (k : Vec F S1x512x128 .bf16) (ka : Vec F S512x128 .bf16) (qt : FVec F S256x512 .bf16) : FVec F S512x512 .f32 :=
  matmul dotS none (concatenate S512x256 1 [⟨S512x128, shapeCast S512x128 k (by decide : S1x512x128.ShapeCasts S512x128)⟩, ⟨S512x128, ka⟩] (by decide : Shape.Concatenates [S512x128, S512x128] S512x256 1)) qt
    (constant S512x512 .f32 0x00000000#32)

/-- The greatest score of each query. -/
def maxV (s : FVec F S512x512 .f32) : FVec F S1x512 .f32 :=
  shapeCast S1x512 (multiReduction .maximumf [0] S512 s 0xFF800000#32 (by decide) (.inl rfl) rfl) (by decide : S512.ShapeCasts S1x512)

/-- The part of the position bias that is the same for a whole block. -/
def shiftV (v2 : F .f32) (d : BitVec 32) : F .f32 := Scalar.mulf v2 (Scalar.sitofp .f32 (Scalar.muli d 512#32))

/-- The running maximum after a block. -/
def mNewV (st : FVec F S1x512 .f32) (m : Vec F S1x1x512 .f32) (sh : F .f32) : FVec F S1x512 .f32 :=
  maximumf st (addf (shapeCast S1x512 m (by decide : S1x1x512.ShapeCasts S1x512)) (broadcast S1x512 sh))

/-- The weights of a block. -/
def pV (s : Vec F S1x512x512 .f32) (n : FVec F S1x512 .f32) (sh : F .f32) : FVec F S512x512 .bf16 :=
  truncf .bf16 (exp2 (subf (shapeCast S512x512 s (by decide : S1x512x512.ShapeCasts S512x512))
    (broadcastTo S512x512 (subf n (broadcast S1x512 sh)) (by decide : S1x512.Broadcasts S512x512)))) bits_lt

/-- The factor an accumulator takes when the running maximum grows. -/
def alphaV (st n : FVec F S1x512 .f32) : FVec F S1x512 .f32 := exp2 (subf st n)

/-- The accumulator after a block. -/
def accV (al : FVec F S1x512 .f32) (a : Vec F S1x144x512 .f32) (vt : Vec F S1x144x512 .bf16) (p : FVec F S512x512 .bf16) : FVec F S1x144x512 .f32 :=
  shapeCast S1x144x512 (addf (mulf (broadcastTo S144x512 al (by decide : S1x512.Broadcasts S144x512)) (shapeCast S144x512 a (by decide : S1x144x512.ShapeCasts S144x512)))
    (matmul dotPV none (shapeCast S144x512 vt (by decide : S1x144x512.ShapeCasts S144x512)) p (constant S144x512 .f32 0x00000000#32)))
    (by decide : S144x512.ShapeCasts S1x144x512)

/-- Half a key block beside its half of the position bias. -/
def khV (k : Vec F S1x256x128 .bf16) (ka : Vec F S256x128 .bf16) : FVec F S256x256 .bf16 :=
  concatenate S256x256 1 [⟨S256x128, shapeCast S256x128 k (by decide : S1x256x128.ShapeCasts S256x128)⟩, ⟨S256x128, ka⟩] (by decide : Shape.Concatenates [S256x128, S256x128] S256x256 1)

/-- The masked scores of the first half of the diagonal block. -/
def loV (kh : FVec F S256x256 .bf16) (qt : FVec F S256x512 .bf16) (mk : Vec F S256x512 .f32) : FVec F S256x512 .f32 :=
  addf (matmul dotLo none kh qt (constant S256x512 .f32 0x00000000#32)) mk

/-- The masked scores of the second half of the diagonal block, against the second half of the queries. -/
def hiV (kh : FVec F S256x256 .bf16) (qt : FVec F S256x512 .bf16) (mk : Vec F S256x256 .f32) : FVec F S256x256 .f32 :=
  addf (matmul dotHi none kh (extractStridedSlice S256x256 ![0, 256] qt (by decide)) (constant S256x256 .f32 0x00000000#32)) mk

/-- The greatest score of each query in the first half. -/
def maxLoV (s : FVec F S256x512 .f32) : FVec F S1x512 .f32 :=
  shapeCast S1x512 (multiReduction .maximumf [0] S512 s 0xFF800000#32 (by decide) (.inl rfl) rfl) (by decide : S512.ShapeCasts S1x512)

/-- The greatest diagonal score of the first queries. -/
def mxLoV (s : FVec F S256x512 .f32) : FVec F S1x1x256 .f32 :=
  shapeCast S1x1x256 (extractStridedSlice S1x256 ![0, 0] (maxLoV s) (by decide)) (by decide : S1x256.ShapeCasts S1x1x256)

/-- The greatest diagonal score of the last queries. -/
def mxHiV (s : FVec F S256x512 .f32) (t : FVec F S256x256 .f32) : FVec F S1x1x256 .f32 :=
  shapeCast S1x1x256 (maximumf (extractStridedSlice S1x256 ![0, 256] (maxLoV s) (by decide))
    (shapeCast S1x256 (multiReduction .maximumf [0] S256 t 0xFF800000#32 (by decide) (.inl rfl) rfl) (by decide : S256.ShapeCasts S1x256)))
    (by decide : S1x256.ShapeCasts S1x1x256)

/-- The running maximum after the diagonal block. -/
def mDiagV (st : FVec F S1x512 .f32) (m : Vec F S1x1x512 .f32) : FVec F S1x512 .f32 :=
  maximumf st (shapeCast S1x512 m (by decide : S1x1x512.ShapeCasts S1x512))

/-- The weights of the first half of the diagonal block. -/
def pLoV (s : Vec F S1x256x512 .f32) (n : FVec F S1x512 .f32) : FVec F S256x512 .bf16 :=
  truncf .bf16 (exp2 (subf (shapeCast S256x512 s (by decide : S1x256x512.ShapeCasts S256x512)) (broadcastTo S256x512 n (by decide : S1x512.Broadcasts S256x512)))) bits_lt

/-- The weights of the second half of the diagonal block. -/
def pHiV (s : Vec F S1x256x256 .f32) (n : FVec F S1x512 .f32) : FVec F S256x256 .bf16 :=
  truncf .bf16 (exp2 (subf (shapeCast S256x256 s (by decide : S1x256x256.ShapeCasts S256x256))
    (broadcastTo S256x256 (extractStridedSlice S1x256 ![0, 256] n (by decide)) (by decide : S1x256.Broadcasts S256x256)))) bits_lt

/-- The values of the first half, weighted. -/
def pvLoV (vt : Vec F S1x144x256 .bf16) (p : FVec F S256x512 .bf16) : FVec F S144x512 .f32 :=
  matmul dotPVLo none (shapeCast S144x256 vt (by decide : S1x144x256.ShapeCasts S144x256)) p (constant S144x512 .f32 0x00000000#32)

/-- The values of the second half, weighted. -/
def pvHiV (vt : Vec F S1x144x256 .bf16) (p : FVec F S256x256 .bf16) : FVec F S144x256 .f32 :=
  matmul dotPVHi none (shapeCast S144x256 vt (by decide : S1x144x256.ShapeCasts S144x256)) p (constant S144x256 .f32 0x00000000#32)

/-- The accumulator of the first queries after the diagonal block. -/
def accLoV (al : FVec F S1x512 .f32) (a : Vec F S1x144x256 .f32) (pl : FVec F S144x512 .f32) : FVec F S1x144x256 .f32 :=
  shapeCast S1x144x256 (addf (mulf (broadcastTo S144x256 (extractStridedSlice S1x256 ![0, 0] al (by decide)) (by decide : S1x256.Broadcasts S144x256))
    (shapeCast S144x256 a (by decide : S1x144x256.ShapeCasts S144x256))) (extractStridedSlice S144x256 ![0, 0] pl (by decide)))
    (by decide : S144x256.ShapeCasts S1x144x256)

/-- The accumulator of the last queries after the diagonal block. -/
def accHiV (al : FVec F S1x512 .f32) (a : Vec F S1x144x256 .f32) (pl : FVec F S144x512 .f32) (ph : FVec F S144x256 .f32) : FVec F S1x144x256 .f32 :=
  shapeCast S1x144x256 (addf (mulf (broadcastTo S144x256 (extractStridedSlice S1x256 ![0, 256] al (by decide)) (by decide : S1x256.Broadcasts S144x256))
    (shapeCast S144x256 a (by decide : S1x144x256.ShapeCasts S144x256))) (addf (extractStridedSlice S144x256 ![0, 256] pl (by decide)) ph))
    (by decide : S144x256.ShapeCasts S1x144x256)

/-- One map's attention: the weighted values over the sum of the weights. -/
def ratioV (a : Vec F S1x144x512 .f32) : FVec F S128x512 .f32 :=
  let b : FVec F S144x512 .f32 := shapeCast S144x512 a (by decide : S1x144x512.ShapeCasts S144x512)
  divf (extractStridedSlice S128x512 ![0, 0] b (by decide))
    (broadcastTo S128x512 (extractStridedSlice S1x512 ![128, 0] b (by decide)) (by decide : S1x512.Broadcasts S128x512))

/-- The difference of the two maps. -/
def diffV (lam : FVec F S1x1 .f32) (a0 a1 : Vec F S1x144x512 .f32) : FVec F S128x512 .f32 :=
  subf (ratioV a0) (mulf (broadcastTo S128x512 lam (by decide : S1x1.Broadcasts S128x512)) (ratioV a1))

/-- A block of the result: the difference normalised, scaled and transposed back. -/
def outV (lam : FVec F S1x1 .f32) (a0 a1 : Vec F S1x144x512 .f32) (w : Vec F S128x1 .f32) : FVec F S1x512x128 .bf16 :=
  let d := diffV lam a0 a1
  let ms : FVec F S1x512 .f32 := divf (shapeCast S1x512 (multiReduction .add [0] S512 (mulf d d) 0x00000000#32 (by decide) (.inl rfl) rfl)
    (by decide : S512.ShapeCasts S1x512)) (broadcast S1x512 (Scalar.ofBits .f32 0x43000000#32))
  let r : FVec F S1x512 .f32 := rsqrt (addf ms (broadcast S1x512 (Scalar.ofBits .f32 0x3727C5AC#32)))
  let n := mulf d (broadcastTo S128x512 r (by decide : S1x512.Broadcasts S128x512))
  let y := mulf (mulf n (broadcastTo S128x512 (shapeCast S128x1 w (by decide : S128x1.ShapeCasts S128x1)) (by decide : S128x1.Broadcasts S128x512)))
    (broadcast S128x512 (Scalar.ofBits .f32 0x3F4CCCCD#32))
  shapeCast S1x512x128 (truncf .bf16 (transpose S512x128 [1, 0] y (by decide)) bits_lt) (by decide : S512x128.ShapeCasts S1x512x128)

/-! ## The stages -/

variable {nD : Nat} {τ : Topo} {sig : RefSig} {Λ : Labels}

/-- A load of the window of sizes `size` at `off`. -/
def ld {s : Shape} {e : EltTy} (m : Memref sig .tc .vmem s e) (off size : Fin s.rank → ℕ) (inb : ∀ a, off a + size a ≤ s.size a)
    (h : 0 < (⟨s.rank, size⟩ : Shape).numel) : Prog (TpuEff nD τ sig (Elt F) Λ .tc) ((⟨s.rank, size⟩ : Shape).Idx → Elt F e) :=
  Prog.lift (.load m (Rect.unit (s := s) off size inb).toLoadRect (View.loadsAt_vmem h))

/-- An unmasked store over the window of sizes `size` at `off`. -/
def st {s : Shape} {e : EltTy} (m : Memref sig .tc .vmem s e) (off size : Fin s.rank → ℕ) (inb : ∀ a, off a + size a ≤ s.size a)
    (hx : (m.access (Rect.unit (s := s) off size inb)).Stores Finset.univ) (w : (⟨s.rank, size⟩ : Shape).Idx → Elt F e) :
    Prog (TpuEff nD τ sig (Elt F) Λ .tc) PUnit :=
  Prog.lift (.store m (Rect.unit (s := s) off size inb) w Finset.univ hx (.inl rfl))

/-- The same for a 32-bit element type, where every store is exact. -/
def st32 {s : Shape} (m : Memref sig .tc .vmem s .f32) (off size : Fin s.rank → ℕ) (inb : ∀ a, off a + size a ≤ s.size a)
    (h : 0 < (⟨s.rank, size⟩ : Shape).numel) (w : (⟨s.rank, size⟩ : Shape).Idx → F .f32) : Prog (TpuEff nD τ sig (Elt F) Λ .tc) PUnit :=
  st m off size inb (View.stores_vmem_bits_univ h rfl) w

theorem inbK {o n : ℕ} (h : o + n ≤ 4096) : ∀ a, (![0, o, 0] : Fin 3 → ℕ) a + (![1, n, 128] : Fin 3 → ℕ) a ≤ (![1, 4096, 128] : Fin 3 → ℕ) a := by
  intro a; fin_cases a <;> simp_all

theorem inbVt {c o n z w : ℕ} (h : c < 8) (h1 : o + n ≤ 144) (h2 : z + w ≤ 512) :
    ∀ a, (![c, o, z] : Fin 3 → ℕ) a + (![1, n, w] : Fin 3 → ℕ) a ≤ (![8, 144, 512] : Fin 3 → ℕ) a := by
  intro a; fin_cases a <;> simp_all; omega

/-- The two accumulators of one parity. -/
def accM (acc : Memref sig .tc .vmem S2x2x144x512 .f32) (p : Bool) : Memref sig .tc .vmem S2x144x512 .f32 :=
  (acc.slice (Rect.unit (s := S2x2x144x512) ![p.toNat, 0, 0, 0] S1x2x144x512.size (by cases p <;> decide)) (fun _ => rfl)).squeeze S2x144x512 (by decide : S1x2x144x512.Squeezes S2x144x512)

/-- Scores of the key block at row `ko` against the queries of both maps, with the greatest of each query. -/
def scores (k : Memref sig .tc .vmem S1x4096x128 .bf16) (ka : Memref sig .tc .vmem S512x128 .bf16) (s : Memref sig .tc .vmem S2x512x512 .f32)
    (mx : Memref sig .tc .vmem S2x1x512 .f32) (ko : ℕ) (hko : ko + 512 ≤ 4096) (qt0 qt1 : FVec F S256x512 .bf16) :
    Prog (TpuEff nD τ sig (Elt F) Λ .tc) PUnit := do
  let kc : Vec F S1x512x128 .bf16 ← ld k ![0, ko, 0] S1x512x128.size (inbK hko) (by decide)
  let kac : Vec F S512x128 .bf16 ← ld ka ![0, 0] S512x128.size (by decide) (by decide)
  let _d0 : Vec F S1x512x512 .f32 ← ld s ![0, 0, 0] S1x512x512.size (by decide) (by decide)
  st32 s ![0, 0, 0] S1x512x512.size (by decide) (by decide) (shapeCast S1x512x512 (scoreV kc kac qt0) (by decide : S512x512.ShapeCasts S1x512x512))
  let _d1 : Vec F S1x1x512 .f32 ← ld mx ![0, 0, 0] S1x1x512.size (by decide) (by decide)
  st32 mx ![0, 0, 0] S1x1x512.size (by decide) (by decide) (shapeCast S1x1x512 (maxV (scoreV kc kac qt0)) (by decide : S1x512.ShapeCasts S1x1x512))
  let _d2 : Vec F S1x512x512 .f32 ← ld s ![1, 0, 0] S1x512x512.size (by decide) (by decide)
  st32 s ![1, 0, 0] S1x512x512.size (by decide) (by decide) (shapeCast S1x512x512 (scoreV kc kac qt1) (by decide : S512x512.ShapeCasts S1x512x512))
  let _d3 : Vec F S1x1x512 .f32 ← ld mx ![1, 0, 0] S1x1x512.size (by decide) (by decide)
  st32 mx ![1, 0, 0] S1x1x512.size (by decide) (by decide) (shapeCast S1x1x512 (maxV (scoreV kc kac qt1)) (by decide : S1x512.ShapeCasts S1x1x512))

/-- The running update by the scores of a block: of both maps' accumulators, returning the new running maxima. -/
def update (v2 : F .f32) (vt : Memref sig .tc .vmem S8x144x512 .bf16) (s : Memref sig .tc .vmem S2x512x512 .f32) (mx : Memref sig .tc .vmem S2x1x512 .f32)
    (ac : Memref sig .tc .vmem S2x144x512 .f32) (vi : ℕ) (hvi : vi < 8) (d : BitVec 32) (t : FVec F S1x512 .f32 × FVec F S1x512 .f32) :
    Prog (TpuEff nD τ sig (Elt F) Λ .tc) (FVec F S1x512 .f32 × FVec F S1x512 .f32) := do
  let vc : Vec F S1x144x512 .bf16 ← ld vt ![vi, 0, 0] S1x144x512.size (inbVt hvi (by decide) (by decide)) (by decide)
  let m0 : Vec F S1x1x512 .f32 ← ld mx ![0, 0, 0] S1x1x512.size (by decide) (by decide)
  let s0 : Vec F S1x512x512 .f32 ← ld s ![0, 0, 0] S1x512x512.size (by decide) (by decide)
  let a0 : Vec F S1x144x512 .f32 ← ld ac ![0, 0, 0] S1x144x512.size (by decide) (by decide)
  let _d0 : Vec F S1x144x512 .f32 ← ld ac ![0, 0, 0] S1x144x512.size (by decide) (by decide)
  st32 ac ![0, 0, 0] S1x144x512.size (by decide) (by decide)
    (accV (alphaV t.1 (mNewV t.1 m0 (shiftV v2 d))) a0 vc (pV s0 (mNewV t.1 m0 (shiftV v2 d)) (shiftV v2 d)))
  let m1 : Vec F S1x1x512 .f32 ← ld mx ![1, 0, 0] S1x1x512.size (by decide) (by decide)
  let s1 : Vec F S1x512x512 .f32 ← ld s ![1, 0, 0] S1x512x512.size (by decide) (by decide)
  let a1 : Vec F S1x144x512 .f32 ← ld ac ![1, 0, 0] S1x144x512.size (by decide) (by decide)
  let _d1 : Vec F S1x144x512 .f32 ← ld ac ![1, 0, 0] S1x144x512.size (by decide) (by decide)
  st32 ac ![1, 0, 0] S1x144x512.size (by decide) (by decide)
    (accV (alphaV t.2 (mNewV t.2 m1 (shiftV v2 d))) a1 vc (pV s1 (mNewV t.2 m1 (shiftV v2 d)) (shiftV v2 d)))
  pure (mNewV t.1 m0 (shiftV v2 d), mNewV t.2 m1 (shiftV v2 d))

theorem inbS {p o z n w : ℕ} (h : p < 2) (h1 : o + n ≤ 512) (h2 : z + w ≤ 512) :
    ∀ a, (![p, o, z] : Fin 3 → ℕ) a + (![1, n, w] : Fin 3 → ℕ) a ≤ (![2, 512, 512] : Fin 3 → ℕ) a := by
  intro a; fin_cases a <;> simp_all; omega

theorem inbM {p z w : ℕ} (h : p < 2) (h2 : z + w ≤ 512) :
    ∀ a, (![p, 0, z] : Fin 3 → ℕ) a + (![1, 1, w] : Fin 3 → ℕ) a ≤ (![2, 1, 512] : Fin 3 → ℕ) a := by
  intro a; fin_cases a <;> simp_all; omega

theorem inbA {p z w : ℕ} (h : p < 2) (h2 : z + w ≤ 512) :
    ∀ a, (![p, 0, z] : Fin 3 → ℕ) a + (![1, 144, w] : Fin 3 → ℕ) a ≤ (![2, 144, 512] : Fin 3 → ℕ) a := by
  intro a; fin_cases a <;> simp_all; omega

/-- One map's scores of the diagonal block. -/
def diagMap (mask : Memref sig .tc .vmem S512x512 .f32) (s : Memref sig .tc .vmem S2x512x512 .f32) (mx : Memref sig .tc .vmem S2x1x512 .f32)
    (p : ℕ) (hp : p < 2) (klo khi : FVec F S256x256 .bf16) (qt : FVec F S256x512 .bf16) : Prog (TpuEff nD τ sig (Elt F) Λ .tc) PUnit := do
  let ml : Vec F S256x512 .f32 ← ld mask ![0, 0] S256x512.size (by decide) (by decide)
  let mh : Vec F S256x256 .f32 ← ld mask ![256, 256] S256x256.size (by decide) (by decide)
  let _d0 : Vec F S1x256x512 .f32 ← ld s ![p, 0, 0] S1x256x512.size (inbS hp (by decide) (by decide)) (by decide)
  st32 s ![p, 0, 0] S1x256x512.size (inbS hp (by decide) (by decide)) (by decide)
    (shapeCast S1x256x512 (loV klo qt ml) (by decide : S256x512.ShapeCasts S1x256x512))
  let _d1 : Vec F S1x256x256 .f32 ← ld s ![p, 256, 256] S1x256x256.size (inbS hp (by decide) (by decide)) (by decide)
  st32 s ![p, 256, 256] S1x256x256.size (inbS hp (by decide) (by decide)) (by decide)
    (shapeCast S1x256x256 (hiV khi qt mh) (by decide : S256x256.ShapeCasts S1x256x256))
  let _d2 : Vec F S1x1x256 .f32 ← ld mx ![p, 0, 0] S1x1x256.size (inbM hp (by decide)) (by decide)
  st32 mx ![p, 0, 0] S1x1x256.size (inbM hp (by decide)) (by decide) (mxLoV (loV klo qt ml))
  let _d3 : Vec F S1x1x256 .f32 ← ld mx ![p, 0, 256] S1x1x256.size (inbM hp (by decide)) (by decide)
  st32 mx ![p, 0, 256] S1x1x256.size (inbM hp (by decide)) (by decide) (mxHiV (loV klo qt ml) (hiV khi qt mh))

/-- Scores of the diagonal block at row `ko`. -/
def scoresDiag (k : Memref sig .tc .vmem S1x4096x128 .bf16) (ka : Memref sig .tc .vmem S512x128 .bf16) (mask : Memref sig .tc .vmem S512x512 .f32)
    (s : Memref sig .tc .vmem S2x512x512 .f32) (mx : Memref sig .tc .vmem S2x1x512 .f32) (ko : ℕ) (hko : ko + 512 ≤ 4096) (qt0 qt1 : FVec F S256x512 .bf16) :
    Prog (TpuEff nD τ sig (Elt F) Λ .tc) PUnit := do
  let kl : Vec F S1x256x128 .bf16 ← ld k ![0, ko, 0] S1x256x128.size (inbK (by omega)) (by decide)
  let kal : Vec F S256x128 .bf16 ← ld ka ![0, 0] S256x128.size (by decide) (by decide)
  let kh : Vec F S1x256x128 .bf16 ← ld k ![0, ko + 256, 0] S1x256x128.size (inbK (by omega)) (by decide)
  let kah : Vec F S256x128 .bf16 ← ld ka ![256, 0] S256x128.size (by decide) (by decide)
  diagMap mask s mx 0 (by decide) (khV kl kal) (khV kh kah) qt0
  diagMap mask s mx 1 (by decide) (khV kl kal) (khV kh kah) qt1

/-- One map's update by the diagonal block. -/
def updateDiagMap (vt : Memref sig .tc .vmem S8x144x512 .bf16) (s : Memref sig .tc .vmem S2x512x512 .f32) (mx : Memref sig .tc .vmem S2x1x512 .f32)
    (ac : Memref sig .tc .vmem S2x144x512 .f32) (p : ℕ) (hp : p < 2) (vi : ℕ) (hvi : vi < 8) (t : FVec F S1x512 .f32) :
    Prog (TpuEff nD τ sig (Elt F) Λ .tc) PUnit := do
  let m : Vec F S1x1x512 .f32 ← ld mx ![p, 0, 0] S1x1x512.size (inbM hp (by decide)) (by decide)
  let sl : Vec F S1x256x512 .f32 ← ld s ![p, 0, 0] S1x256x512.size (inbS hp (by decide) (by decide)) (by decide)
  let sh : Vec F S1x256x256 .f32 ← ld s ![p, 256, 256] S1x256x256.size (inbS hp (by decide) (by decide)) (by decide)
  let vl : Vec F S1x144x256 .bf16 ← ld vt ![vi, 0, 0] S1x144x256.size (inbVt hvi (by decide) (by decide)) (by decide)
  let vh : Vec F S1x144x256 .bf16 ← ld vt ![vi, 0, 256] S1x144x256.size (inbVt hvi (by decide) (by decide)) (by decide)
  let al : Vec F S1x144x256 .f32 ← ld ac ![p, 0, 0] S1x144x256.size (inbA hp (by decide)) (by decide)
  let _d0 : Vec F S1x144x256 .f32 ← ld ac ![p, 0, 0] S1x144x256.size (inbA hp (by decide)) (by decide)
  st32 ac ![p, 0, 0] S1x144x256.size (inbA hp (by decide)) (by decide) (accLoV (alphaV t (mDiagV t m)) al (pvLoV vl (pLoV sl (mDiagV t m))))
  let ah : Vec F S1x144x256 .f32 ← ld ac ![p, 0, 256] S1x144x256.size (inbA hp (by decide)) (by decide)
  let _d1 : Vec F S1x144x256 .f32 ← ld ac ![p, 0, 256] S1x144x256.size (inbA hp (by decide)) (by decide)
  st32 ac ![p, 0, 256] S1x144x256.size (inbA hp (by decide)) (by decide)
    (accHiV (alphaV t (mDiagV t m)) ah (pvLoV vl (pLoV sl (mDiagV t m))) (pvHiV vh (pHiV sh (mDiagV t m))))

/-- The update by the diagonal block. -/
def updateDiag (vt : Memref sig .tc .vmem S8x144x512 .bf16) (s : Memref sig .tc .vmem S2x512x512 .f32) (mx : Memref sig .tc .vmem S2x1x512 .f32)
    (ac : Memref sig .tc .vmem S2x144x512 .f32) (vi : ℕ) (hvi : vi < 8) (t : FVec F S1x512 .f32 × FVec F S1x512 .f32) :
    Prog (TpuEff nD τ sig (Elt F) Λ .tc) PUnit := do
  updateDiagMap vt s mx ac 0 (by decide) vi hvi t.1
  updateDiagMap vt s mx ac 1 (by decide) vi hvi t.2

theorem packed_vt (c o n : ℕ) (hc : c < 8) (ho : 2 ∣ o) (hn : 2 ∣ n) (h1 : o + n ≤ 144) :
    (Rect.unit (s := S8x144x512) ![c, o, 0] ![1, n, 512] (inbVt hc h1 (by decide))).PackedRows (EltTy.packing .bf16) :=
  by refine .inr ⟨(by decide : 2 ≤ S8x144x512.rank), rfl, .inl ⟨?_, ?_⟩⟩; exacts [ho, hn]

theorem packed_out (o : ℕ) (ho : 2 ∣ o) (h : o + 512 ≤ 4096) :
    (Rect.unit (s := S1x4096x128) ![0, o, 0] S1x512x128.size (inbK h)).PackedRows (EltTy.packing .bf16) :=
  by refine .inr ⟨(by decide : 2 ≤ S1x4096x128.rank), rfl, .inl ⟨?_, ⟨256, rfl⟩⟩⟩; exact ho

/-- A query block's preparation: its values beside the others', its queries loaded, its accumulators cleared. Returns the queries of both maps. -/
def prep (q v : Memref sig .tc .vmem S1x4096x128 .bf16) (vt : Memref sig .tc .vmem S8x144x512 .bf16) (hvt : vt.IsWhole)
    (acc : Memref sig .tc .vmem S2x2x144x512 .f32) (p : Bool) (qs : F .f32) (w : FVec F S128x512 .bf16) (qi : ℕ) (hqi : qi < 8) :
    Prog (TpuEff nD τ sig (Elt F) Λ .tc) (FVec F S256x512 .bf16 × FVec F S256x512 .bf16) := do
  let vc : Vec F S1x512x128 .bf16 ← ld v ![0, 512 * qi, 0] S1x512x128.size (inbK (by omega)) (by decide)
  let _d0 : Vec F S1x128x512 .bf16 ← ld vt ![qi, 0, 0] S1x128x512.size (inbVt hqi (by decide) (by decide)) (by decide)
  st vt ![qi, 0, 0] S1x128x512.size (inbVt hqi (by decide) (by decide))
    (View.stores_vmem (by decide : 0 < S1x128x512.numel) (hvt.storeExact_slice rfl _ (packed_vt qi 0 128 hqi (by decide) (by decide) (by decide))) (fun _ => rfl)) (vtV vc)
  let _d1 : Vec F S1x16x512 .bf16 ← ld vt ![qi, 128, 0] S1x16x512.size (inbVt hqi (by decide) (by decide)) (by decide)
  st vt ![qi, 128, 0] S1x16x512.size (inbVt hqi (by decide) (by decide))
    (View.stores_vmem (by decide : 0 < S1x16x512.numel) (hvt.storeExact_slice rfl _ (packed_vt qi 128 16 hqi (by decide) (by decide) (by decide))) (fun _ => rfl)) onesV
  let qc : Vec F S1x512x128 .bf16 ← ld q ![0, 512 * qi, 0] S1x512x128.size (inbK (by omega)) (by decide)
  let _d2 : Vec F S1x2x144x512 .f32 ← ld acc ![p.toNat, 0, 0, 0] S1x2x144x512.size (by cases p <;> decide) (by decide)
  st32 acc ![p.toNat, 0, 0, 0] S1x2x144x512.size (by cases p <;> decide) (by decide) zeroV
  pure (qt0V w (qsV qs qc), qt1V w (qsV qs qc))

/-- A query block's result. -/
def finish (ac : Memref sig .tc .vmem S2x144x512 .f32) (subln : Memref sig .tc .vmem S128x1 .f32) (out : Memref sig .tc .vmem S1x4096x128 .bf16)
    (hout : out.IsWhole) (lam : FVec F S1x1 .f32) (qi : ℕ) (hqi : qi < 8) : Prog (TpuEff nD τ sig (Elt F) Λ .tc) PUnit := do
  let a0 : Vec F S1x144x512 .f32 ← ld ac ![0, 0, 0] S1x144x512.size (by decide) (by decide)
  let a1 : Vec F S1x144x512 .f32 ← ld ac ![1, 0, 0] S1x144x512.size (by decide) (by decide)
  let w : Vec F S128x1 .f32 ← ld subln ![0, 0] S128x1.size (by decide) (by decide)
  let _d0 : Vec F S1x512x128 .bf16 ← ld out ![0, 512 * qi, 0] S1x512x128.size (inbK (by omega)) (by decide)
  st out ![0, 512 * qi, 0] S1x512x128.size (inbK (by omega))
    (View.stores_vmem (by decide : 0 < S1x512x128.numel) (hout.storeExact_slice rfl _ (packed_out (512 * qi) ⟨256 * qi, by omega⟩ (by omega))) (fun _ => rfl)) (outV lam a0 a1 w)

/-! ## The body -/

/-- The buffers of the kernel. -/
structure Bufs (sig : RefSig) where
  slopes : Memref sig .tc .smem S8 .f32
  q : Memref sig .tc .vmem S1x4096x128 .bf16
  k : Memref sig .tc .vmem S1x4096x128 .bf16
  v : Memref sig .tc .vmem S1x4096x128 .bf16
  lq1 : Memref sig .tc .vmem S1x64 .f32
  lk1 : Memref sig .tc .vmem S1x64 .f32
  lq2 : Memref sig .tc .vmem S1x64 .f32
  lk2 : Memref sig .tc .vmem S1x64 .f32
  subln : Memref sig .tc .vmem S128x1 .f32
  out : Memref sig .tc .vmem S1x4096x128 .bf16
  hout : out.IsWhole
  vt : Memref sig .tc .vmem S8x144x512 .bf16
  hvt : vt.IsWhole
  mask : Memref sig .tc .vmem S512x512 .f32
  kaug : Memref sig .tc .vmem S512x128 .bf16
  hkaug : kaug.IsWhole
  sa : Memref sig .tc .vmem S2x512x512 .f32
  sb : Memref sig .tc .vmem S2x512x512 .f32
  ma : Memref sig .tc .vmem S2x1x512 .f32
  mb : Memref sig .tc .vmem S2x1x512 .f32
  acc : Memref sig .tc .vmem S2x2x144x512 .f32

/-- The score buffer of a name. -/
def Bufs.s (B : Bufs sig) (b : Bool) : Memref sig .tc .vmem S2x512x512 .f32 := bif b then B.sb else B.sa
/-- The maxima beside a score buffer. -/
def Bufs.mx (B : Bufs sig) (b : Bool) : Memref sig .tc .vmem S2x1x512 .f32 := bif b then B.mb else B.ma

/-- The running maxima of both maps. -/
abbrev Stats (F : FTy → Type) := FVec F S1x512 .f32 × FVec F S1x512 .f32

/-- Two key blocks of the pipelined walk: the scores of the next block are computed before the update by the last. -/
def pair (B : Bufs sig) (v2 : F .f32) (qt : FVec F S256x512 .bf16 × FVec F S256x512 .bf16) (f p : Bool)
    (k1 : ℕ) (hk1 : k1 + 512 ≤ 4096) (v1 : ℕ) (hv1 : v1 < 8) (d1 : BitVec 32)
    (k2 : ℕ) (hk2 : k2 + 512 ≤ 4096) (w1 : ℕ) (hw1 : w1 < 8) (d2 : BitVec 32) (t : Stats F) :
    Prog (TpuEff nD τ sig (Elt F) Λ .tc) (Stats F) := do
  scores B.k B.kaug (B.s !f) (B.mx !f) k1 hk1 qt.1 qt.2
  let t ← update v2 B.vt (B.s f) (B.mx f) (accM B.acc p) v1 hv1 d1 t
  scores B.k B.kaug (B.s f) (B.mx f) k2 hk2 qt.1 qt.2
  update v2 B.vt (B.s !f) (B.mx !f) (accM B.acc p) w1 hw1 d2 t

/-- Blocks `2 i` and `2 i + 1` of query block `qi`. -/
def pairAt (B : Bufs sig) (v2 : F .f32) (qt : FVec F S256x512 .bf16 × FVec F S256x512 .bf16) (f p : Bool) (qi i : ℕ) (h : 2 * i + 2 < 8) (t : Stats F) :
    Prog (TpuEff nD τ sig (Elt F) Λ .tc) (Stats F) :=
  pair B v2 qt f p (512 * (2 * i + 1)) (by omega) (2 * i) (by omega) (Scalar.subi (BitVec.ofNat 32 (2 * i)) (BitVec.ofNat 32 qi))
    (512 * (2 * i + 2)) (by omega) (2 * i + 1) (by omega) (Scalar.subi (BitVec.ofNat 32 (2 * i + 1)) (BitVec.ofNat 32 qi)) t

/-- The first `n` pairs of blocks. -/
def pairs (B : Bufs sig) (v2 : F .f32) (qt : FVec F S256x512 .bf16 × FVec F S256x512 .bf16) (f p : Bool) (qi : ℕ) :
    (n : ℕ) → 2 * n < 8 → Stats F → Prog (TpuEff nD τ sig (Elt F) Λ .tc) (Stats F)
  | 0, _, t => pure t
  | n + 1, h, t => do
    let t ← pairs B v2 qt f p qi n (by omega) t
    pairAt B v2 qt f p qi n (by omega) t

/-- The last key blocks of a query block: one or two before the diagonal, and the diagonal. -/
def tail (B : Bufs sig) (v2 : F .f32) (qt : FVec F S256x512 .bf16 × FVec F S256x512 .bf16) (f p : Bool) (qi : ℕ) (hqi : qi < 8) (t : Stats F) :
    Prog (TpuEff nD τ sig (Elt F) Λ .tc) PUnit :=
  bif p then do
    scoresDiag B.k B.kaug B.mask (B.s !f) (B.mx !f) (512 * qi) (by omega) qt.1 qt.2
    let t ← update v2 B.vt (B.s f) (B.mx f) (accM B.acc p) (qi - 1) (by omega) (Scalar.subi (BitVec.ofNat 32 (qi - 1)) (BitVec.ofNat 32 qi)) t
    updateDiag B.vt (B.s !f) (B.mx !f) (accM B.acc p) qi hqi t
  else do
    scores B.k B.kaug (B.s !f) (B.mx !f) (512 * (qi - 1)) (by omega) qt.1 qt.2
    let t ← update v2 B.vt (B.s f) (B.mx f) (accM B.acc p) (qi - 2) (by omega) (Scalar.subi (BitVec.ofNat 32 (qi - 2)) (BitVec.ofNat 32 qi)) t
    scoresDiag B.k B.kaug B.mask (B.s f) (B.mx f) (512 * qi) (by omega) qt.1 qt.2
    let t ← update v2 B.vt (B.s !f) (B.mx !f) (accM B.acc p) (qi - 1) (by omega) (Scalar.subi (BitVec.ofNat 32 (qi - 1)) (BitVec.ofNat 32 qi)) t
    updateDiag B.vt (B.s f) (B.mx f) (accM B.acc p) qi hqi t

/-- The first query block: the diagonal alone. -/
def chunkZero (B : Bufs sig) (qs : F .f32) (w : FVec F S128x512 .bf16) (lam : FVec F S1x1 .f32) : Prog (TpuEff nD τ sig (Elt F) Λ .tc) PUnit := do
  let qt ← prep B.q B.v B.vt B.hvt B.acc false qs w 0 (by decide)
  scoresDiag B.k B.kaug B.mask (B.s false) (B.mx false) (512 * 0) (by omega) qt.1 qt.2
  updateDiag B.vt (B.s false) (B.mx false) (accM B.acc false) 0 (by decide) (negV, negV)
  finish (accM B.acc false) B.subln B.out B.hout lam 0 (by decide)

/-- A later query block: `f` names the first score buffer, `p` the parity, `n` the number of pairs. -/
def chunk (B : Bufs sig) (v2 qs : F .f32) (w : FVec F S128x512 .bf16) (lam : FVec F S1x1 .f32) (f p : Bool) (qi : ℕ) (hqi : qi < 8) (n : ℕ) (hn : 2 * n < 8) :
    Prog (TpuEff nD τ sig (Elt F) Λ .tc) PUnit := do
  let qt ← prep B.q B.v B.vt B.hvt B.acc p qs w qi hqi
  scores B.k B.kaug (B.s f) (B.mx f) (512 * 0) (by omega) qt.1 qt.2
  let t ← pairs B v2 qt f p qi n hn (negV, negV)
  tail B v2 qt f p qi hqi t
  finish (accM B.acc p) B.subln B.out B.hout lam qi hqi

/-- The mask and the key side of the position bias, written at the first grid point. -/
def init (B : Bufs sig) : Prog (TpuEff nD τ sig (Elt F) Λ .tc) PUnit := do
  let _d0 : Vec F S512x512 .f32 ← ld B.mask ![0, 0] S512x512.size (by decide) (by decide)
  st32 B.mask ![0, 0] S512x512.size (by decide) (by decide) (shapeCast S512x512 maskV (by decide : S512x512.ShapeCasts S512x512))
  let _d1 : Vec F S512x128 .bf16 ← ld B.kaug ![0, 0] S512x128.size (by decide) (by decide)
  st B.kaug ![0, 0] S512x128.size (by decide) (View.stores_vmem (by decide) (B.hkaug.storeExact_slice rfl _ (by decide)) (fun _ => rfl))
    (shapeCast S512x128 kaugV (by decide : S512x128.ShapeCasts S512x128))

/-- The whole body at the slope's offset `off`; `c` says whether this is the first grid point. -/
def body (B : Bufs sig) (l2e qs : F .f32) (off : Fin 1 → ℕ) (hoff : ∀ a, off a + S1.size a ≤ S8.size a) (c : Bool) :
    Prog (TpuEff nD τ sig (Elt F) Λ .tc) PUnit := do
  let v1 : Elt F .f32 ← smemLoad B.slopes (Rect.unit (s := S8) off S1.size hoff) (by decide : S1.numel = 1) rfl
  let v2 : F .f32 := Scalar.mulf v1 l2e
  bif c then init B else pure ⟨⟩
  let q1 : Vec F S1x64 .f32 ← ld B.lq1 ![0, 0] S1x64.size (by decide) (by decide)
  let k1 : Vec F S1x64 .f32 ← ld B.lk1 ![0, 0] S1x64.size (by decide) (by decide)
  let q2 : Vec F S1x64 .f32 ← ld B.lq2 ![0, 0] S1x64.size (by decide) (by decide)
  let k2 : Vec F S1x64 .f32 ← ld B.lk2 ![0, 0] S1x64.size (by decide) (by decide)
  chunkZero B qs (waugV v2) (lamV q1 k1 q2 k2)
  chunk B v2 qs (waugV v2) (lamV q1 k1 q2 k2) true true 1 (by decide) 0 (by decide)
  chunk B v2 qs (waugV v2) (lamV q1 k1 q2 k2) true false 2 (by decide) 0 (by decide)
  chunk B v2 qs (waugV v2) (lamV q1 k1 q2 k2) false true 3 (by decide) 1 (by decide)
  chunk B v2 qs (waugV v2) (lamV q1 k1 q2 k2) false false 4 (by decide) 1 (by decide)
  chunk B v2 qs (waugV v2) (lamV q1 k1 q2 k2) true true 5 (by decide) 2 (by decide)
  chunk B v2 qs (waugV v2) (lamV q1 k1 q2 k2) true false 6 (by decide) 2 (by decide)
  chunk B v2 qs (waugV v2) (lamV q1 k1 q2 k2) false true 7 (by decide) 3 (by decide)

end DiffAttn

end
-- ==== Proof.BodyK.lean ====
/-
  The printed kernel body of `Kernel` is the structured program of `Ops`: at the first grid point with the mask and the
  position columns written, at the others without.
-/
module

public import proofs.«01_k».proof.Proof.Ops
public import proofs.«01_k».proof.Kernel
public import Idealize.ShloMosaic.Lib.Tactic

@[expose] public section

set_option maxRecDepth 65536

noncomputable section

namespace Cert.Kernel

open Idealize.ShloMosaic Idealize.SL.Sem

variable {F : FTy → Type} [FloatOps F]
variable [Facts]

/-- The test of the first grid point, as the program computes it. -/
def firstTest (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The buffers of the launch, as the stages name them. -/
abbrev bufs (arg2 : Memref sig .tc .smem S8 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x4096x128 .bf16) (harg11 : arg11.IsWhole) (arg12 : Memref sig .tc .vmem S8x144x512 .bf16) (harg12 : arg12.IsWhole) (arg13 : Memref sig .tc .vmem S512x512 .f32) (harg13 : arg13.IsWhole) (arg14 : Memref sig .tc .vmem S512x128 .bf16) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole) (arg19 : Memref sig .tc .vmem S2x2x144x512 .f32) (harg19 : arg19.IsWhole) : DiffAttn.Bufs sig :=
  ⟨arg2, arg3, arg4, arg5, arg6, arg7, arg8, arg9, arg10, arg11, harg11, arg12, harg12, arg13, arg14, harg14, arg15, arg16, arg17, arg18, arg19⟩

set_option maxHeartbeats 0 in
theorem body_first (i : grid0.Coords) (arg2 : Memref sig .tc .smem S8 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x4096x128 .bf16) (harg11 : arg11.IsWhole) (arg12 : Memref sig .tc .vmem S8x144x512 .bf16) (harg12 : arg12.IsWhole) (arg13 : Memref sig .tc .vmem S512x512 .f32) (harg13 : arg13.IsWhole) (arg14 : Memref sig .tc .vmem S512x128 .bf16) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole) (arg19 : Memref sig .tc .vmem S2x2x144x512 .f32) (harg19 : arg19.IsWhole) (h : firstTest i = 1#1) :
    cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = DiffAttn.body (bufs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (Scalar.ofBits .f32 0x3FB8AA3B#32) (Scalar.ofBits .f32 0x3E38AA3B#32) (k0_off1 i) (Facts₀.k0_off1_inb i) true := by
  unfold firstTest at h
  unfold cc0_diff_attn k0_part133 k0_part124 k0_part132 k0_part7
  simp only [dif_pos h, Scf.Loop.for, Scf.for_eq]
  sl_kernel_rfl

set_option maxHeartbeats 0 in
theorem body_later (i : grid0.Coords) (arg2 : Memref sig .tc .smem S8 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x4096x128 .bf16) (harg11 : arg11.IsWhole) (arg12 : Memref sig .tc .vmem S8x144x512 .bf16) (harg12 : arg12.IsWhole) (arg13 : Memref sig .tc .vmem S512x512 .f32) (harg13 : arg13.IsWhole) (arg14 : Memref sig .tc .vmem S512x128 .bf16) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole) (arg19 : Memref sig .tc .vmem S2x2x144x512 .f32) (harg19 : arg19.IsWhole) (h : ¬ firstTest i = 1#1) :
    cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = DiffAttn.body (bufs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (Scalar.ofBits .f32 0x3FB8AA3B#32) (Scalar.ofBits .f32 0x3E38AA3B#32) (k0_off1 i) (Facts₀.k0_off1_inb i) false := by
  unfold firstTest at h
  unfold cc0_diff_attn k0_part133 k0_part124 k0_part132 k0_part7
  simp only [dif_neg h, Scf.Loop.for, Scf.for_eq]
  sl_kernel_rfl

end Cert.Kernel

end
-- ==== Proof.Runs.lean ====
/-
  Runs by values: the buffers of the kernel named, what each of them reads collected in one state, and a program
  described by the state it starts from, what it returns and the state it leaves. A load returns a window of a buffer's
  values, a store puts a window over them, and programs run one after the other compose.
-/
module

public import proofs.«01_k».proof.Proof.Ops
public import Idealize.ShloMosaic.Lib.VecWindow
public import Idealize.ShloMosaic.Lib.Writes
public import Idealize.ShloMosaic.Lib.Pipeline.TableIdle
public import Idealize.ShloMosaic.Lib.Pipeline.Value
public import Idealize.ShloMosaic.Rules.Step

@[expose] public section

set_option maxRecDepth 16384

noncomputable section

namespace DiffAttn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The vector buffers, by name: `s b` and `mx b` are the two score buffers and their maxima, `acc p` the accumulators
    of a parity (half a buffer each). -/
inductive Nm
  | q | k | v | lq1 | lk1 | lq2 | lk2 | subln | out | vt | mask | kaug
  | s (b : Bool) | mx (b : Bool) | acc (p : Bool)
  deriving DecidableEq

/-- A buffer's shape. -/
abbrev Nm.shape : Nm → Shape
  | .q | .k | .v | .out => S1x4096x128
  | .lq1 | .lk1 | .lq2 | .lk2 => S1x64
  | .subln => S128x1
  | .vt => S8x144x512
  | .mask => S512x512
  | .kaug => S512x128
  | .s _ => S2x512x512
  | .mx _ => S2x1x512
  | .acc _ => S2x144x512

/-- A buffer's element type. -/
abbrev Nm.elt : Nm → EltTy
  | .q | .k | .v | .out | .vt | .kaug => .bf16
  | _ => .f32

variable {sig : RefSig}

/-- The buffer of a name. -/
abbrev Bufs.ref (B : Bufs sig) : (n : Nm) → Memref sig .tc .vmem n.shape n.elt
  | .q => B.q
  | .k => B.k
  | .v => B.v
  | .out => B.out
  | .lq1 => B.lq1
  | .lk1 => B.lk1
  | .lq2 => B.lq2
  | .lk2 => B.lk2
  | .subln => B.subln
  | .vt => B.vt
  | .mask => B.mask
  | .kaug => B.kaug
  | .s b => B.s b
  | .mx b => B.mx b
  | .acc p => accM B.acc p

/-- What every buffer reads. -/
abbrev St (F : FTy → Type) := (n : Nm) → n.shape.Idx → Elt F n.elt

/-- All the names. -/
def names : List Nm :=
  [.q, .k, .v, .lq1, .lk1, .lq2, .lk2, .subln, .out, .vt, .mask, .kaug, .s false, .s true, .mx false, .mx true, .acc false, .acc true]

theorem mem_names (n : Nm) : n ∈ names := by
  cases n with
  | s b => cases b <;> decide
  | mx b => cases b <;> decide
  | acc b => cases b <;> decide
  | _ => decide

theorem nodup_names : names.Nodup := by decide

variable {F : FTy → Type} [FloatOps F]
variable {nD : Nat} {τ : Topo} {Ix : Type} [DecidableEq Ix] {Name : Type} [DecidableEq Name] {U : Type} [URA U] {Lvl : Type} [Preorder Lvl] {Λ : Labels}

local notation "𝕄" => MT nD τ sig Ix (Elt F) Name U Lvl

instance nonempty_elt (e : EltTy) : Nonempty (Elt F e) := inferInstance

variable (c : Dev nD) (B : Bufs sig)

/-- The buffers of a list, each owned at what the state says. -/
def heldL (S : St F) : List Nm → sProp 𝕄
  | [] => iprop(emp)
  | n :: l => iprop(owns (c : Thread nD τ) (B.ref n) fullShare (S n) ∗ heldL S l)

/-- All the buffers, owned at a state. -/
def held (S : St F) : sProp 𝕄 := heldL c B S names

theorem heldL_update_of_notMem (S : St F) (n : Nm) (X : n.shape.Idx → Elt F n.elt) (l : List Nm) (h : n ∉ l) :
    (heldL c B (Function.update S n X) l : sProp 𝕄) = heldL c B S l := by
  induction l with
  | nil => rfl
  | cons m l ih =>
    have hm : m ≠ n := fun e => h (e ▸ List.mem_cons_self)
    unfold heldL
    rw [ih fun h' => h (List.mem_cons_of_mem _ h'), Function.update_of_ne hm]

/-- One buffer taken out of the others, to be put back at any values. -/
theorem heldL_focus (S : St F) (n : Nm) (l : List Nm) (h : n ∈ l) (hl : l.Nodup) :
    (heldL c B S l : sProp 𝕄) ⊢ iprop(owns (c : Thread nD τ) (B.ref n) fullShare (S n) ∗
      (∀ X, owns (c : Thread nD τ) (B.ref n) fullShare X -∗ heldL c B (Function.update S n X) l)) := by
  induction l with
  | nil => cases h
  | cons m l ih =>
    obtain ⟨hm, hl'⟩ := List.nodup_cons.mp hl
    by_cases e : n = m
    · subst e
      unfold heldL
      iintro ⟨H, HR⟩
      isplitl [H]; · iexact H
      iintro %X HX
      rw [Function.update_self, heldL_update_of_notMem c B S n X l hm]
      isplitl [HX]; · iexact HX
      iexact HR
    · have hn : n ∈ l := (List.mem_cons.mp h).resolve_left e
      unfold heldL
      iintro ⟨H, HR⟩
      ihave HF := (ih hn hl') $$ HR
      icases HF with ⟨HO, HB⟩
      isplitl [HO]; · iexact HO
      iintro %X HX
      rw [Function.update_of_ne (Ne.symm e)]
      isplitl [H]; · iexact H
      iapply HB $$ %X
      iexact HX

theorem held_focus (S : St F) (n : Nm) :
    (held c B S : sProp 𝕄) ⊢ iprop(owns (c : Thread nD τ) (B.ref n) fullShare (S n) ∗
      (∀ X, owns (c : Thread nD τ) (B.ref n) fullShare X -∗ held c B (Function.update S n X))) :=
  heldL_focus c B S n names (mem_names n) nodup_names

variable {α β : Type}

/-- From the state `S` the program returns `a` and leaves the state `S'`. -/
def Runs (defs : Defs nD τ sig (Elt F) Λ) (𝒱 : Variants) (bd : Option 𝒱.V) (p : Prog (TpuEff nD τ sig (Elt F) Λ .tc) α) (S : St F) (a : α) (S' : St F) : Prop :=
  ∀ (E : Set Name) (K : α → sProp 𝕄), iprop(held c B S ∗ (held c B S' -∗ K a)) ⊢ wp frame (wpE defs 𝒱 (c : Thread nD τ) bd) E p K

variable {defs : Defs nD τ sig (Elt F) Λ} {𝒱 : Variants} {bd : Option 𝒱.V}

local notation "Run" => Runs (Ix := Ix) (Name := Name) (U := U) (Lvl := Lvl) c B defs 𝒱 bd

theorem Runs.pure (S : St F) (a : α) : Run (pure a) S a S := by
  intro E K
  rw [wp_pure]
  iintro ⟨H, HK⟩
  imodintro
  iapply HK
  iexact H

theorem Runs.bind {p : Prog (TpuEff nD τ sig (Elt F) Λ .tc) α} {k : α → Prog (TpuEff nD τ sig (Elt F) Λ .tc) β} {S S' S'' : St F} {a : α} {b : β}
    (h : Run p S a S') (h' : Run (k a) S' b S'') : Run (p >>= k) S b S'' := by
  intro E K
  rw [wp_bind]
  iintro ⟨H, HK⟩
  iapply (h E (fun a => wp frame (wpE defs 𝒱 (c : Thread nD τ) bd) E (k a) K))
  isplitl [H]; · iexact H
  iintro H
  iapply (h' E K)
  isplitl [H]; · iexact H
  iexact HK

/-- A load returns the window of what the buffer reads. -/
theorem Runs.load (n : Nm) (S : St F) {off size : Fin n.shape.rank → ℕ} (inb : ∀ a, off a + size a ≤ n.shape.size a)
    (h : 0 < (⟨n.shape.rank, size⟩ : Shape).numel) :
    Run (ld (B.ref n) off size inb h) S (VecWindow.window (S n) off size inb) S := by
  intro E K
  iintro ⟨H, HK⟩
  ihave HF := (held_focus c B S n) $$ H
  icases HF with ⟨HO, HB⟩
  ihave HO := (rep_of_owns (c : Thread nD τ) (B.ref n) fullShare (S n)) $$ HO
  unfold ld Prog.lift
  iapply (wp_load 𝒱 (c : Thread nD τ) bd E (S := (B.ref n).view.set) (f := (B.ref n).view.rep (S n)) (Finset.map_subset_map.mpr (Finset.subset_univ _))) $$ HO
  iintro HO
  rw [View.readAt_rep_unit (B.ref n).view (S n) inb rfl inb, wp_ret]
  imodintro
  iapply HK
  ihave HO := (owns_of_rep (c : Thread nD τ) (B.ref n) fullShare (S n)) $$ HO
  ihave H := HB $$ %(S n)
  rw [Function.update_eq_self]
  iapply H
  iexact HO

/-- A store puts its window over what the buffer reads. -/
theorem Runs.store (n : Nm) (S : St F) {off size : Fin n.shape.rank → ℕ} (inb : ∀ a, off a + size a ≤ n.shape.size a)
    (hx : ((B.ref n).access (Rect.unit off size inb)).Stores Finset.univ) (w : (⟨n.shape.rank, size⟩ : Shape).Idx → Elt F n.elt) :
    Run (st (B.ref n) off size inb hx w) S ⟨⟩ (Function.update S n (VecWindow.put (S n) off size w)) := by
  intro E K
  iintro ⟨H, HK⟩
  ihave HF := (held_focus c B S n) $$ H
  icases HF with ⟨HO, HB⟩
  ihave HO := (rep_of_owns (c : Thread nD τ) (B.ref n) fullShare (S n)) $$ HO
  unfold st Prog.lift
  iapply (wp_store_writes₀ (m := B.ref n) 𝒱 (c : Thread nD τ) bd E (r := Rect.unit off size inb) (w := w) (f := (B.ref n).view.rep (S n))
    (S := (B.ref n).view.set) (View.set_slice_subset _ _)) $$ HO
  iintro HO
  rw [wp_ret]
  imodintro
  iapply HK
  iapply HB $$ %(VecWindow.put (S n) off size w)
  unfold owns
  iexists _
  isplitr
  rotate_left
  · iexact HO
  · ipureintro
    exact View.read_writes_rep_unit (B.ref n).view (S n) inb w rfl

end DiffAttn

end
-- ==== Proof.Segs.lean ====
/-
  The stages run: for each, the state it leaves, as what the windows of the buffers it writes read. `ScoreAt` is a block's
  scores and maxima in a score buffer, `DiagAt` the diagonal block's, `AccAt` the two accumulators of a parity.
-/
module

public import proofs.«01_k».proof.Proof.Runs

@[expose] public section

set_option maxRecDepth 16384

noncomputable section

namespace DiffAttn

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem

variable {sig : RefSig} {F : FTy → Type} [FloatOps F]
variable {nD : Nat} {τ : Topo} {Ix : Type} [DecidableEq Ix] {Name : Type} [DecidableEq Name] {U : Type} [URA U] {Lvl : Type} [Preorder Lvl] {Λ : Labels}

local notation "𝕄" => MT nD τ sig Ix (Elt F) Name U Lvl

variable (c : Dev nD) (B : Bufs sig)
variable {defs : Defs nD τ sig (Elt F) Λ} {𝒱 : Variants} {bd : Option 𝒱.V}

local notation "Run" => Runs (Ix := Ix) (Name := Name) (U := U) (Lvl := Lvl) c B defs 𝒱 bd

/-- A block's scores and their maxima are in the score buffer `b`. -/
structure ScoreAt (S : St F) (b : Bool) (X0 X1 : FVec F S512x512 .f32) : Prop where
  s0 : window (s := S2x512x512) (S (.s b)) ![0, 0, 0] S1x512x512.size (by decide) = shapeCast S1x512x512 X0 (by decide : S512x512.ShapeCasts S1x512x512)
  s1 : window (s := S2x512x512) (S (.s b)) ![1, 0, 0] S1x512x512.size (by decide) = shapeCast S1x512x512 X1 (by decide : S512x512.ShapeCasts S1x512x512)
  m0 : window (s := S2x1x512) (S (.mx b)) ![0, 0, 0] S1x1x512.size (by decide) = shapeCast S1x1x512 (maxV X0) (by decide : S1x512.ShapeCasts S1x1x512)
  m1 : window (s := S2x1x512) (S (.mx b)) ![1, 0, 0] S1x1x512.size (by decide) = shapeCast S1x1x512 (maxV X1) (by decide : S1x512.ShapeCasts S1x1x512)

/-- The accumulators of the parity `p`. -/
structure AccAt (S : St F) (p : Bool) (A0 A1 : Vec F S1x144x512 .f32) : Prop where
  a0 : window (s := S2x144x512) (S (.acc p)) ![0, 0, 0] S1x144x512.size (by decide) = A0
  a1 : window (s := S2x144x512) (S (.acc p)) ![1, 0, 0] S1x144x512.size (by decide) = A1

theorem ScoreAt.congr {S S' : St F} {b : Bool} {X0 X1 : FVec F S512x512 .f32} (h : ScoreAt S b X0 X1) (hs : S' (.s b) = S (.s b)) (hm : S' (.mx b) = S (.mx b)) :
    ScoreAt S' b X0 X1 := ⟨hs ▸ h.s0, hs ▸ h.s1, hm ▸ h.m0, hm ▸ h.m1⟩

theorem AccAt.congr {S S' : St F} {p : Bool} {A0 A1 : Vec F S1x144x512 .f32} (h : AccAt S p A0 A1) (ha : S' (.acc p) = S (.acc p)) :
    AccAt S' p A0 A1 := ⟨ha ▸ h.a0, ha ▸ h.a1⟩

theorem scores_run (S : St F) (b : Bool) (ko : ℕ) (hko : ko + 512 ≤ 4096) (qt0 qt1 : FVec F S256x512 .bf16) :
    ∃ S', Run (scores B.k B.kaug (B.s b) (B.mx b) ko hko qt0 qt1) S ⟨⟩ S' ∧ (∀ n, n ≠ .s b → n ≠ .mx b → S' n = S n) ∧
      ScoreAt S' b
        (scoreV (window (s := S1x4096x128) (S .k) ![0, ko, 0] S1x512x128.size (inbK hko)) (window (s := S512x128) (S .kaug) ![0, 0] S512x128.size (by decide)) qt0)
        (scoreV (window (s := S1x4096x128) (S .k) ![0, ko, 0] S1x512x128.size (inbK hko)) (window (s := S512x128) (S .kaug) ![0, 0] S512x128.size (by decide)) qt1) := by
  refine ⟨_, Runs.bind c B (Runs.load c B .k S _ _) (Runs.bind c B (Runs.load c B .kaug _ _ _)
    (Runs.bind c B (Runs.load c B (.s b) _ _ _) (Runs.bind c B (Runs.store c B (.s b) _ _ _ _)
    (Runs.bind c B (Runs.load c B (.mx b) _ _ _) (Runs.bind c B (Runs.store c B (.mx b) _ _ _ _)
    (Runs.bind c B (Runs.load c B (.s b) _ _ _) (Runs.bind c B (Runs.store c B (.s b) _ _ _ _)
    (Runs.bind c B (Runs.load c B (.mx b) _ _ _) (Runs.store c B (.mx b) _ _ _ _))))))))), ?_, ?_⟩
  · intro n h1 h2
    simp only [Function.update_of_ne h1, Function.update_of_ne h2]
  · have e : Nm.s b ≠ Nm.mx b := by simp
    constructor
    · simp only [Function.update_self, Function.update_of_ne e]
      rw [window_put_of_disjoint _ _ _ _ _ _ _ (0 : Fin 3) (by decide), window_put_same]
    · simp only [Function.update_self, Function.update_of_ne e]
      rw [window_put_same]
    · simp only [Function.update_self, Function.update_of_ne e.symm]
      rw [window_put_of_disjoint _ _ _ _ _ _ _ (0 : Fin 3) (by decide), window_put_same]
    · simp only [Function.update_self, Function.update_of_ne e.symm]
      rw [window_put_same]

/-- One map's running maximum and accumulator after a block of scores `X` and values `V`. -/
def upd (v2 : F .f32) (d : BitVec 32) (V : Vec F S1x144x512 .bf16) (X : FVec F S512x512 .f32) (t : FVec F S1x512 .f32 × Vec F S1x144x512 .f32) :
    FVec F S1x512 .f32 × Vec F S1x144x512 .f32 :=
  let n := mNewV t.1 (shapeCast S1x1x512 (maxV X) (by decide : S1x512.ShapeCasts S1x1x512)) (shiftV v2 d)
  (n, accV (alphaV t.1 n) t.2 V (pV (shapeCast S1x512x512 X (by decide : S512x512.ShapeCasts S1x512x512)) n (shiftV v2 d)))

theorem update_run (S : St F) (v2 : F .f32) (b p : Bool) (vi : ℕ) (hvi : vi < 8) (d : BitVec 32) (t : Stats F) {X0 X1 : FVec F S512x512 .f32}
    {A0 A1 : Vec F S1x144x512 .f32} {V : Vec F S1x144x512 .bf16} (hX : ScoreAt S b X0 X1) (hA : AccAt S p A0 A1)
    (hV : window (s := S8x144x512) (S .vt) ![vi, 0, 0] S1x144x512.size (inbVt hvi (by decide) (by decide)) = V) :
    ∃ S', Run (update v2 B.vt (B.s b) (B.mx b) (accM B.acc p) vi hvi d t) S ((upd v2 d V X0 (t.1, A0)).1, (upd v2 d V X1 (t.2, A1)).1) S' ∧
      (∀ n, n ≠ .acc p → S' n = S n) ∧ AccAt S' p (upd v2 d V X0 (t.1, A0)).2 (upd v2 d V X1 (t.2, A1)).2 := by
  have key : Run (update v2 B.vt (B.s b) (B.mx b) (accM B.acc p) vi hvi d t) S _ _ :=
    Runs.bind c B (Runs.load c B .vt S _ _) (Runs.bind c B (Runs.load c B (.mx b) _ _ _)
    (Runs.bind c B (Runs.load c B (.s b) _ _ _) (Runs.bind c B (Runs.load c B (.acc p) _ _ _) (Runs.bind c B (Runs.load c B (.acc p) _ _ _)
    (Runs.bind c B (Runs.store c B (.acc p) _ _ _ _) (Runs.bind c B (Runs.load c B (.mx b) _ _ _)
    (Runs.bind c B (Runs.load c B (.s b) _ _ _) (Runs.bind c B (Runs.load c B (.acc p) _ _ _) (Runs.bind c B (Runs.load c B (.acc p) _ _ _)
    (Runs.bind c B (Runs.store c B (.acc p) _ _ _ _) (Runs.pure c B _ _)))))))))))
  have e1 : Nm.s b ≠ Nm.acc p := by simp
  have e2 : Nm.mx b ≠ Nm.acc p := by simp
  simp only [Function.update_self, Function.update_of_ne e1, Function.update_of_ne e2] at key
  rw [hX.s0, hX.s1, hX.m0, hX.m1, hA.a0, hV, window_put_of_disjoint _ _ _ _ _ _ _ (0 : Fin 3) (by decide), hA.a1] at key
  refine ⟨_, key, ?_, ?_⟩
  · intro n h; simp only [Function.update_of_ne h]
  · constructor
    · rw [Function.update_self, window_put_of_disjoint _ _ _ _ _ _ _ (0 : Fin 3) (by decide), window_put_same]; rfl
    · rw [Function.update_self, window_put_same]; rfl

/-! ## Windows of windows -/

section Windows

variable {s : Shape} {α : Type}

theorem put_apply_of_mem (x : s.Idx → α) (off size : Fin s.rank → ℕ) (w : ((a : Fin s.rank) → Fin (size a)) → α) (y : s.Idx) (z : (a : Fin s.rank) → Fin (size a))
    (h : ∀ a, (y a).val = off a + (z a).val) : put x off size w y = w z := by
  have h' : ∀ a, off a ≤ (y a).val ∧ (y a).val < off a + size a := fun a => by have := h a; have := (z a).isLt; omega
  unfold put
  rw [dif_pos h']
  exact congrArg w (funext fun a => Fin.ext (by have := h a; show (y a).val - off a = (z a).val; omega))

theorem put_apply_of_notMem (x : s.Idx → α) (off size : Fin s.rank → ℕ) (w : ((a : Fin s.rank) → Fin (size a)) → α) (y : s.Idx)
    (h : ¬ ∀ a, off a ≤ (y a).val ∧ (y a).val < off a + size a) : put x off size w y = x y := by
  unfold put
  rw [dif_neg h]

theorem put_full (x : s.Idx → α) (off : Fin s.rank → ℕ) (h : ∀ a, off a = 0) (w : s.Idx → α) : put x off s.size w = w :=
  funext fun y => put_apply_of_mem x off s.size w y y fun a => by rw [h a]; omega

/-- A window of a window. -/
theorem window_window (x : s.Idx → α) (off size off' size' off'' : Fin s.rank → ℕ) (inb : ∀ a, off a + size a ≤ s.size a)
    (inb' : ∀ a, off' a + size' a ≤ size a) (h : ∀ a, off'' a = off a + off' a) (inb'' : ∀ a, off'' a + size' a ≤ s.size a) :
    window x off'' size' inb'' = window (s := ⟨s.rank, size⟩) (window x off size inb) off' size' inb' :=
  funext fun y => congrArg x (funext fun a => Fin.ext (by
    show off'' a + 1 * (y a).val = off a + 1 * (off' a + 1 * (y a).val)
    rw [h a]; omega))

/-- A window that holds the place a store puts its values at. -/
theorem window_put_of_contains (x : s.Idx → α) (off size o z off' : Fin s.rank → ℕ) (inb : ∀ a, o a + z a ≤ s.size a) (w : ((a : Fin s.rank) → Fin (size a)) → α)
    (h : ∀ a, off a = o a + off' a) :
    window (put x off size w) o z inb = put (s := ⟨s.rank, z⟩) (window x o z inb) off' size w := by
  funext y
  have e : ∀ a, ((Rect.unit o z inb).emb y a).val = o a + (y a).val := fun a => by
    show o a + 1 * (y a).val = _; omega
  by_cases hm : ∀ a, off' a ≤ (y a).val ∧ (y a).val < off' a + size a
  · have l := put_apply_of_mem (s := ⟨s.rank, z⟩) (window x o z inb) off' size w y (fun a => ⟨(y a).val - off' a, by have := hm a; omega⟩)
      (fun a => by have := hm a; show (y a).val = off' a + ((y a).val - off' a); omega)
    rw [l]
    exact put_apply_of_mem x off size w _ _ fun a => by
      rw [e a, h a]; have := hm a; show _ = _ + ((y a).val - off' a); omega
  · rw [put_apply_of_notMem _ _ _ _ _ hm]
    exact put_apply_of_notMem x off size w _ fun hall => hm fun a => by
      have := hall a; rw [e a, h a] at this; omega

/-- Two stores that cover everything leave nothing of what was there. -/
theorem put_put_cover (x x' : s.Idx → α) (o₁ z₁ o₂ z₂ : Fin s.rank → ℕ) (w₁ : ((a : Fin s.rank) → Fin (z₁ a)) → α) (w₂ : ((a : Fin s.rank) → Fin (z₂ a)) → α)
    (h : ∀ y : s.Idx, (∀ a, o₁ a ≤ (y a).val ∧ (y a).val < o₁ a + z₁ a) ∨ (∀ a, o₂ a ≤ (y a).val ∧ (y a).val < o₂ a + z₂ a)) :
    put (put x o₁ z₁ w₁) o₂ z₂ w₂ = put (put x' o₁ z₁ w₁) o₂ z₂ w₂ := by
  funext y
  by_cases h2 : ∀ a, o₂ a ≤ (y a).val ∧ (y a).val < o₂ a + z₂ a
  · unfold put; rw [dif_pos h2, dif_pos h2]
  · have h1 := (h y).resolve_right h2
    rw [put_apply_of_notMem _ _ _ _ _ h2, put_apply_of_notMem _ _ _ _ _ h2]
    unfold put; rw [dif_pos h1, dif_pos h1]

end Windows

/-! ## The diagonal block -/

/-- Two halves of a row of maxima side by side. -/
def joinM (lo hi : FVec F S1x1x256 .f32) : Vec F S1x1x512 .f32 :=
  put (s := S1x1x512) (put (s := S1x1x512) (fun _ => Scalar.ofBits .f32 0#32) ![0, 0, 0] S1x1x256.size lo) ![0, 0, 256] S1x1x256.size hi

/-- Two halves of an accumulator side by side. -/
def joinA (A : Vec F S1x144x512 .f32) (lo hi : FVec F S1x144x256 .f32) : Vec F S1x144x512 .f32 :=
  put (s := S1x144x512) (put (s := S1x144x512) A ![0, 0, 0] S1x144x256.size lo) ![0, 0, 256] S1x144x256.size hi

/-- One map's part of a score buffer holding the diagonal block: the first half of its keys, the second half, the maxima. -/
structure DiagMapAt (S : St F) (b : Bool) (p : ℕ) (hp : p < 2) (L : FVec F S256x512 .f32) (H : FVec F S256x256 .f32) : Prop where
  lo : window (s := S2x512x512) (S (.s b)) ![p, 0, 0] S1x256x512.size (inbS hp (by decide) (by decide)) = shapeCast S1x256x512 L (by decide : S256x512.ShapeCasts S1x256x512)
  hi : window (s := S2x512x512) (S (.s b)) ![p, 256, 256] S1x256x256.size (inbS hp (by decide) (by decide)) = shapeCast S1x256x256 H (by decide : S256x256.ShapeCasts S1x256x256)
  mx : window (s := S2x1x512) (S (.mx b)) ![p, 0, 0] S1x1x512.size (inbM hp (by decide)) = joinM (mxLoV L) (mxHiV L H)

theorem DiagMapAt.congr {S S' : St F} {b : Bool} {p : ℕ} {hp : p < 2} {L : FVec F S256x512 .f32} {H : FVec F S256x256 .f32} (h : DiagMapAt S b p hp L H)
    (hs : S' (.s b) = S (.s b)) (hm : S' (.mx b) = S (.mx b)) : DiagMapAt S' b p hp L H := ⟨hs ▸ h.lo, hs ▸ h.hi, hm ▸ h.mx⟩

theorem diagMap_run (S : St F) (b : Bool) (p : ℕ) (hp : p < 2) (klo khi : FVec F S256x256 .bf16) (qt : FVec F S256x512 .bf16) :
    ∃ S', Run (diagMap B.mask (B.s b) (B.mx b) p hp klo khi qt) S ⟨⟩ S' ∧ (∀ n, n ≠ .s b → n ≠ .mx b → S' n = S n) ∧
      DiagMapAt S' b p hp (loV klo qt (window (s := S512x512) (S .mask) ![0, 0] S256x512.size (by decide)))
        (hiV khi qt (window (s := S512x512) (S .mask) ![256, 256] S256x256.size (by decide))) ∧
      (∀ p' (hp' : p' < 2) L H, p' ≠ p → DiagMapAt S b p' hp' L H → DiagMapAt S' b p' hp' L H) := by
  have key : Run (diagMap B.mask (B.s b) (B.mx b) p hp klo khi qt) S _ _ :=
    Runs.bind c B (Runs.load c B .mask S _ _) (Runs.bind c B (Runs.load c B .mask _ _ _)
    (Runs.bind c B (Runs.load c B (.s b) _ _ _) (Runs.bind c B (Runs.store c B (.s b) _ _ _ _)
    (Runs.bind c B (Runs.load c B (.s b) _ _ _) (Runs.bind c B (Runs.store c B (.s b) _ _ _ _)
    (Runs.bind c B (Runs.load c B (.mx b) _ _ _) (Runs.bind c B (Runs.store c B (.mx b) _ _ _ _)
    (Runs.bind c B (Runs.load c B (.mx b) _ _ _) (Runs.store c B (.mx b) _ _ _ _)))))))))
  have e : Nm.s b ≠ Nm.mx b := by simp
  simp only [Function.update_self, Function.update_of_ne e, Function.update_of_ne e.symm] at key
  refine ⟨_, key, ?_, ⟨?_, ?_, ?_⟩, ?_⟩
  · intro n h1 h2
    simp only [Function.update_of_ne h1, Function.update_of_ne h2]
  · simp only [Function.update_self, Function.update_of_ne e]
    rw [window_put_of_disjoint _ _ _ _ _ _ _ (1 : Fin 3) (by left; show 0 + 256 ≤ 256; decide), window_put_same]
  · simp only [Function.update_self, Function.update_of_ne e]
    rw [window_put_same]
  · simp only [Function.update_self, Function.update_of_ne e.symm]
    rw [window_put_of_contains _ _ _ _ _ ![0, 0, 256] _ _ (by intro a; fin_cases a <;> simp),
      window_put_of_contains _ _ _ _ _ ![0, 0, 0] _ _ (by intro a; fin_cases a <;> simp)]
    refine put_put_cover _ _ _ _ _ _ _ _ fun y => ?_
    have h0 : (y 0).val < 1 := (y 0).isLt
    have h1 : (y 1).val < 1 := (y 1).isLt
    have h2 : (y 2).val < 512 := (y 2).isLt
    rcases Nat.lt_or_ge (y 2).val 256 with h | h
    · left; intro a; fin_cases a <;> simp <;> omega
    · right; intro a; fin_cases a <;> simp <;> omega
  · intro p' hp' L H hne h
    have hd : p' + 1 ≤ p ∨ p + 1 ≤ p' := by omega
    refine ⟨?_, ?_, ?_⟩ <;> simp only [Function.update_self, Function.update_of_ne e, Function.update_of_ne e.symm] <;>
      rw [window_put_of_disjoint _ _ _ _ _ _ _ (0 : Fin 3) hd, window_put_of_disjoint _ _ _ _ _ _ _ (0 : Fin 3) hd]
    exacts [h.lo, h.hi, h.mx]

theorem scoresDiag_run (S : St F) (b : Bool) (ko : ℕ) (hko : ko + 512 ≤ 4096) (qt0 qt1 : FVec F S256x512 .bf16) {kl kh : FVec F S256x256 .bf16}
    {ml : Vec F S256x512 .f32} {mh : Vec F S256x256 .f32}
    (hkl : khV (window (s := S1x4096x128) (S .k) ![0, ko, 0] S1x256x128.size (inbK (by omega))) (window (s := S512x128) (S .kaug) ![0, 0] S256x128.size (by decide)) = kl)
    (hkh : khV (window (s := S1x4096x128) (S .k) ![0, ko + 256, 0] S1x256x128.size (inbK (by omega))) (window (s := S512x128) (S .kaug) ![256, 0] S256x128.size (by decide)) = kh)
    (hml : window (s := S512x512) (S .mask) ![0, 0] S256x512.size (by decide) = ml)
    (hmh : window (s := S512x512) (S .mask) ![256, 256] S256x256.size (by decide) = mh) :
    ∃ S', Run (scoresDiag B.k B.kaug B.mask (B.s b) (B.mx b) ko hko qt0 qt1) S ⟨⟩ S' ∧ (∀ n, n ≠ .s b → n ≠ .mx b → S' n = S n) ∧
      DiagMapAt S' b 0 (by decide) (loV kl qt0 ml) (hiV kh qt0 mh) ∧ DiagMapAt S' b 1 (by decide) (loV kl qt1 ml) (hiV kh qt1 mh) := by
  obtain ⟨S1, r1, f1, d1, -⟩ := diagMap_run (τ := τ) (Ix := Ix) (Name := Name) (U := U) (Lvl := Lvl) (defs := defs) (𝒱 := 𝒱) (bd := bd) c B S b 0 (by decide) kl kh qt0
  obtain ⟨S2, r2, f2, d2, o2⟩ := diagMap_run (τ := τ) (Ix := Ix) (Name := Name) (U := U) (Lvl := Lvl) (defs := defs) (𝒱 := 𝒱) (bd := bd) c B S1 b 1 (by decide) kl kh qt1
  have hm : S1 .mask = S .mask := f1 .mask (by simp) (by simp)
  rw [hm, hml, hmh] at d2
  rw [hml, hmh] at d1
  subst hkl hkh
  refine ⟨S2, Runs.bind c B (Runs.load c B .k S _ _) (Runs.bind c B (Runs.load c B .kaug _ _ _)
    (Runs.bind c B (Runs.load c B .k _ _ _) (Runs.bind c B (Runs.load c B .kaug _ _ _) (Runs.bind c B r1 r2)))), ?_, ?_, d2⟩
  · intro n h1 h2; rw [f2 n h1 h2, f1 n h1 h2]
  · exact o2 0 (by decide) _ _ (by decide) d1

/-- One map's accumulator after the diagonal block of scores `L`, `H` and values `V`. -/
def updDiag (V : Vec F S1x144x512 .bf16) (L : FVec F S256x512 .f32) (H : FVec F S256x256 .f32) (t : FVec F S1x512 .f32 × Vec F S1x144x512 .f32) :
    Vec F S1x144x512 .f32 :=
  let n := mDiagV t.1 (joinM (mxLoV L) (mxHiV L H))
  let pl := pvLoV (window (s := S1x144x512) V ![0, 0, 0] S1x144x256.size (by decide)) (pLoV (shapeCast S1x256x512 L (by decide : S256x512.ShapeCasts S1x256x512)) n)
  let ph := pvHiV (window (s := S1x144x512) V ![0, 0, 256] S1x144x256.size (by decide)) (pHiV (shapeCast S1x256x256 H (by decide : S256x256.ShapeCasts S1x256x256)) n)
  joinA t.2 (accLoV (alphaV t.1 n) (window (s := S1x144x512) t.2 ![0, 0, 0] S1x144x256.size (by decide)) pl)
    (accHiV (alphaV t.1 n) (window (s := S1x144x512) t.2 ![0, 0, 256] S1x144x256.size (by decide)) pl ph)

theorem updateDiagMap_run (S : St F) (b par : Bool) (p : ℕ) (hp : p < 2) (vi : ℕ) (hvi : vi < 8) (t : FVec F S1x512 .f32) {L : FVec F S256x512 .f32} {H : FVec F S256x256 .f32}
    {A : Vec F S1x144x512 .f32} {V : Vec F S1x144x512 .bf16} (hD : DiagMapAt S b p hp L H)
    (hA : window (s := S2x144x512) (S (.acc par)) ![p, 0, 0] S1x144x512.size (inbA hp (by decide)) = A)
    (hV : window (s := S8x144x512) (S .vt) ![vi, 0, 0] S1x144x512.size (inbVt hvi (by decide) (by decide)) = V) :
    ∃ S', Run (updateDiagMap B.vt (B.s b) (B.mx b) (accM B.acc par) p hp vi hvi t) S ⟨⟩ S' ∧ (∀ n, n ≠ .acc par → S' n = S n) ∧
      window (s := S2x144x512) (S' (.acc par)) ![p, 0, 0] S1x144x512.size (inbA hp (by decide)) = updDiag V L H (t, A) ∧
      (∀ p' (hp' : p' < 2), p' ≠ p → window (s := S2x144x512) (S' (.acc par)) ![p', 0, 0] S1x144x512.size (inbA hp' (by decide))
        = window (s := S2x144x512) (S (.acc par)) ![p', 0, 0] S1x144x512.size (inbA hp' (by decide))) := by
  have key : Run (updateDiagMap B.vt (B.s b) (B.mx b) (accM B.acc par) p hp vi hvi t) S _ _ :=
    Runs.bind c B (Runs.load c B (.mx b) S _ _) (Runs.bind c B (Runs.load c B (.s b) _ _ _) (Runs.bind c B (Runs.load c B (.s b) _ _ _)
    (Runs.bind c B (Runs.load c B .vt _ _ _) (Runs.bind c B (Runs.load c B .vt _ _ _)
    (Runs.bind c B (Runs.load c B (.acc par) _ _ _) (Runs.bind c B (Runs.load c B (.acc par) _ _ _) (Runs.bind c B (Runs.store c B (.acc par) _ _ _ _)
    (Runs.bind c B (Runs.load c B (.acc par) _ _ _) (Runs.bind c B (Runs.load c B (.acc par) _ _ _) (Runs.store c B (.acc par) _ _ _ _))))))))))
  have hv0 := window_window (s := S8x144x512) (S .vt) ![vi, 0, 0] S1x144x512.size ![0, 0, 0] S1x144x256.size ![vi, 0, 0] (inbVt hvi (by decide) (by decide))
    (by decide) (by intro a; fin_cases a <;> simp) (inbVt hvi (by decide) (by decide))
  have hv1 := window_window (s := S8x144x512) (S .vt) ![vi, 0, 0] S1x144x512.size ![0, 0, 256] S1x144x256.size ![vi, 0, 256] (inbVt hvi (by decide) (by decide))
    (by decide) (by intro a; fin_cases a <;> simp) (inbVt hvi (by decide) (by decide))
  have ha0 := window_window (s := S2x144x512) (S (.acc par)) ![p, 0, 0] S1x144x512.size ![0, 0, 0] S1x144x256.size ![p, 0, 0] (inbA hp (by decide))
    (by decide) (by intro a; fin_cases a <;> simp) (inbA hp (by decide))
  have ha1 := window_window (s := S2x144x512) (S (.acc par)) ![p, 0, 0] S1x144x512.size ![0, 0, 256] S1x144x256.size ![p, 0, 256] (inbA hp (by decide))
    (by decide) (by intro a; fin_cases a <;> simp) (inbA hp (by decide))
  rw [hV] at hv0 hv1
  rw [hA] at ha0 ha1
  simp only [Function.update_self] at key
  rw [hD.mx, hD.lo, hD.hi, hv0, hv1, window_put_of_disjoint _ _ _ _ _ _ _ (2 : Fin 3) (by right; show 0 + 256 ≤ 256; decide), ha1, ha0] at key
  refine ⟨_, key, ?_, ?_, ?_⟩
  · intro n h; simp only [Function.update_of_ne h]
  · rw [Function.update_self, window_put_of_contains _ _ _ _ _ ![0, 0, 256] _ _ (by intro a; fin_cases a <;> simp),
      window_put_of_contains _ _ _ _ _ ![0, 0, 0] _ _ (by intro a; fin_cases a <;> simp), hA]
    rfl
  · intro p' hp' hne
    have hd : p' + 1 ≤ p ∨ p + 1 ≤ p' := by omega
    rw [Function.update_self, window_put_of_disjoint _ _ _ _ _ _ _ (0 : Fin 3) hd, window_put_of_disjoint _ _ _ _ _ _ _ (0 : Fin 3) hd]

theorem updateDiag_run (S : St F) (b par : Bool) (vi : ℕ) (hvi : vi < 8) (t : Stats F) {L0 L1 : FVec F S256x512 .f32} {H0 H1 : FVec F S256x256 .f32}
    {A0 A1 : Vec F S1x144x512 .f32} {V : Vec F S1x144x512 .bf16} (hD0 : DiagMapAt S b 0 (by decide) L0 H0) (hD1 : DiagMapAt S b 1 (by decide) L1 H1)
    (hA : AccAt S par A0 A1) (hV : window (s := S8x144x512) (S .vt) ![vi, 0, 0] S1x144x512.size (inbVt hvi (by decide) (by decide)) = V) :
    ∃ S', Run (updateDiag B.vt (B.s b) (B.mx b) (accM B.acc par) vi hvi t) S ⟨⟩ S' ∧ (∀ n, n ≠ .acc par → S' n = S n) ∧
      AccAt S' par (updDiag V L0 H0 (t.1, A0)) (updDiag V L1 H1 (t.2, A1)) := by
  obtain ⟨S1, r1, f1, d1, o1⟩ := updateDiagMap_run (τ := τ) (Ix := Ix) (Name := Name) (U := U) (Lvl := Lvl) (defs := defs) (𝒱 := 𝒱) (bd := bd) c B S b par 0 (by decide) vi hvi t.1 hD0 hA.a0 hV
  obtain ⟨S2, r2, f2, d2, o2⟩ := updateDiagMap_run (τ := τ) (Ix := Ix) (Name := Name) (U := U) (Lvl := Lvl) (defs := defs) (𝒱 := 𝒱) (bd := bd) c B S1 b par 1 (by decide) vi hvi t.2 (V := V)
    (hD1.congr (f1 _ (by simp)) (f1 _ (by simp))) ((o1 1 (by decide) (by decide)).trans hA.a1) (by rw [f1 .vt (by simp)]; exact hV)
  exact ⟨S2, Runs.bind c B r1 r2, fun n h => (f2 n h).trans (f1 n h), ⟨(o2 0 (by decide) (by decide)).trans d1, d2⟩⟩

/-! ## The other stages -/

/-- The rectangle of a parity's accumulators in their buffer. -/
abbrev accRect (p : Bool) (inb : ∀ a, (![p.toNat, 0, 0, 0] : Fin 4 → ℕ) a + S1x2x144x512.size a ≤ S2x2x144x512.size a) : Rect S2x2x144x512 :=
  Rect.unit (s := S2x2x144x512) ![p.toNat, 0, 0, 0] S1x2x144x512.size inb

theorem accRect_sub (p : Bool) (inb : ∀ a, (![p.toNat, 0, 0, 0] : Fin 4 → ℕ) a + S1x2x144x512.size a ≤ S2x2x144x512.size a) :
    (B.acc.access (accRect p inb)).setOn Finset.univ ⊆ (accM B.acc p).view.set := by
  intro i hi
  obtain ⟨x, -, rfl⟩ := Finset.mem_map.mp hi
  exact Finset.mem_map.mpr ⟨(Shape.reshapeEquiv (by decide : S2x144x512.numel = S1x2x144x512.numel)).symm x, Finset.mem_univ _,
    congrArg (fun y => (B.acc.access (accRect p inb)).emb y) (Equiv.apply_symm_apply _ x)⟩

/-- A parity's accumulators, as the whole buffer's memref names them. -/
theorem acc_of_owns (p : Bool) (inb : ∀ a, (![p.toNat, 0, 0, 0] : Fin 4 → ℕ) a + S1x2x144x512.size a ≤ S2x2x144x512.size a) (X : S2x144x512.Idx → Elt F .f32) :
    (owns (c : Thread nD τ) (accM B.acc p) fullShare X : sProp 𝕄)
      ⊢ ((B.acc.access (accRect p inb)).loc (c : Thread nD τ) ↦[(accM B.acc p).view.set]{fullShare} (accM B.acc p).view.rep X) :=
  (rep_of_owns (c : Thread nD τ) (accM B.acc p) fullShare X :
    _ ⊢ ((accM B.acc p).view.loc (c : Thread nD τ) ↦[(accM B.acc p).view.set]{fullShare} (accM B.acc p).view.rep X))

theorem owns_of_acc (p : Bool) (inb : ∀ a, (![p.toNat, 0, 0, 0] : Fin 4 → ℕ) a + S1x2x144x512.size a ≤ S2x2x144x512.size a) (X : S2x144x512.Idx → Elt F .f32)
    (f : (accM B.acc p).view.ty.Contents (Elt F)) (hf : (accM B.acc p).view.read (Elt F) f = X) :
    ((B.acc.access (accRect p inb)).loc (c : Thread nD τ) ↦[(accM B.acc p).view.set]{fullShare} f)
      ⊢ (owns (c : Thread nD τ) (accM B.acc p) fullShare X : sProp 𝕄) := by
  unfold owns
  iintro HO
  iexists f
  isplitr
  · ipureintro; exact hf
  · iexact HO

/-- Loading the accumulators of a parity whole. -/
theorem Runs.loadAcc (S : St F) (p : Bool) (inb : ∀ a, (![p.toNat, 0, 0, 0] : Fin 4 → ℕ) a + S1x2x144x512.size a ≤ S2x2x144x512.size a) (h : 0 < S1x2x144x512.numel) :
    ∃ x, Run (ld B.acc ![p.toNat, 0, 0, 0] S1x2x144x512.size inb h) S x S := by
  refine ⟨(B.acc.access (accRect p inb)).read (Elt F) ((accM B.acc p).view.rep (S (.acc p))), ?_⟩
  intro E K
  iintro ⟨H, HK⟩
  ihave HF := (held_focus c B S (.acc p)) $$ H
  icases HF with ⟨HO, HB⟩
  ihave HO := (acc_of_owns c B p inb (S (.acc p))) $$ HO
  unfold ld Prog.lift
  iapply (wp_load_rect (m := B.acc) 𝒱 (c : Thread nD τ) bd E (r := accRect p inb)
    (f := (accM B.acc p).view.rep (S (.acc p))) (S := (accM B.acc p).view.set) (accRect_sub B p inb)) $$ HO
  iintro HO
  rw [wp_ret]
  imodintro
  iapply HK
  ihave H := HB $$ %(S (.acc p))
  rw [Function.update_eq_self]
  iapply H
  iapply (owns_of_acc c B p inb (S (.acc p)) _ (View.read_rep _ _)) $$ HO

theorem acc_read_zero (p : Bool) (inb : ∀ a, (![p.toNat, 0, 0, 0] : Fin 4 → ℕ) a + S1x2x144x512.size a ≤ S2x2x144x512.size a) (f : B.acc.view.ty.Contents (Elt F)) :
    (accM B.acc p).view.read (Elt F) ((B.acc.access (accRect p inb)).write (Elt F) f (zeroV (F := F)) Finset.univ)
      = fun _ => (Scalar.ofBits .f32 0x00000000#32 : F .f32) := by
  have h1 : (accM B.acc p).view.read (Elt F) ((B.acc.access (accRect p inb)).write (Elt F) f (zeroV (F := F)) Finset.univ)
      = shapeCast S2x144x512 ((B.acc.access (accRect p inb)).read (Elt F) ((B.acc.access (accRect p inb)).write (Elt F) f (zeroV (F := F)) Finset.univ))
          (by decide : S1x2x144x512.ShapeCasts S2x144x512) := rfl
  rw [h1, View.read_write_univ]
  unfold zeroV shapeCast
  rfl

/-- Clearing the accumulators of a parity. -/
theorem Runs.zero (S : St F) (p : Bool) (inb : ∀ a, (![p.toNat, 0, 0, 0] : Fin 4 → ℕ) a + S1x2x144x512.size a ≤ S2x2x144x512.size a) (h : 0 < S1x2x144x512.numel) :
    Run (st32 B.acc ![p.toNat, 0, 0, 0] S1x2x144x512.size inb h zeroV) S ⟨⟩ (Function.update S (.acc p) (fun _ => (Scalar.ofBits .f32 0x00000000#32 : F .f32))) := by
  intro E K
  iintro ⟨H, HK⟩
  ihave HF := (held_focus c B S (.acc p)) $$ H
  icases HF with ⟨HO, HB⟩
  ihave HO := (acc_of_owns c B p inb (S (.acc p))) $$ HO
  unfold st32 st Prog.lift
  iapply (wp_store (m := B.acc) 𝒱 (c : Thread nD τ) bd E (r := accRect p inb) (w := zeroV (F := F))
    (Mk := Finset.univ) (f := (accM B.acc p).view.rep (S (.acc p))) (S := (accM B.acc p).view.set) (accRect_sub B p inb)) $$ HO
  iintro HO
  rw [wp_ret]
  imodintro
  iapply HK
  iapply HB $$ %(fun _ => (Scalar.ofBits .f32 0x00000000#32 : F .f32))
  iapply (owns_of_acc c B p inb (fun _ => (Scalar.ofBits .f32 0x00000000#32 : F .f32))
    ((B.acc.access (accRect p inb)).write (Elt F) ((accM B.acc p).view.rep (S (.acc p))) (zeroV (F := F)) Finset.univ) (acc_read_zero B p inb _)) $$ HO

/-- A block of values over its rows of ones. -/
def vtC (v : Vec F S1x512x128 .bf16) : Vec F S1x144x512 .bf16 :=
  put (s := S1x144x512) (put (s := S1x144x512) (fun _ => Scalar.ofBits .bf16 0#16) ![0, 0, 0] S1x128x512.size (vtV v)) ![0, 128, 0] S1x16x512.size onesV

/-- A cleared accumulator. -/
def zeroA : Vec F S1x144x512 .f32 := fun _ => (Scalar.ofBits .f32 0x00000000#32 : F .f32)

theorem prep_run (S : St F) (p : Bool) (qs : F .f32) (w : FVec F S128x512 .bf16) (qi : ℕ) (hqi : qi < 8) {vb qb : Vec F S1x512x128 .bf16}
    (hv : window (s := S1x4096x128) (S .v) ![0, 512 * qi, 0] S1x512x128.size (inbK (by omega)) = vb)
    (hq : window (s := S1x4096x128) (S .q) ![0, 512 * qi, 0] S1x512x128.size (inbK (by omega)) = qb) :
    ∃ S', Run (prep B.q B.v B.vt B.hvt B.acc p qs w qi hqi) S (qt0V w (qsV qs qb), qt1V w (qsV qs qb)) S' ∧ (∀ n, n ≠ .vt → n ≠ .acc p → S' n = S n) ∧
      AccAt S' p zeroA zeroA ∧ window (s := S8x144x512) (S' .vt) ![qi, 0, 0] S1x144x512.size (inbVt hqi (by decide) (by decide)) = vtC vb ∧
      (∀ j (hj : j < 8), j ≠ qi → window (s := S8x144x512) (S' .vt) ![j, 0, 0] S1x144x512.size (inbVt hj (by decide) (by decide))
        = window (s := S8x144x512) (S .vt) ![j, 0, 0] S1x144x512.size (inbVt hj (by decide) (by decide))) := by
  obtain ⟨x, hx⟩ := Runs.loadAcc (τ := τ) (Ix := Ix) (Name := Name) (U := U) (Lvl := Lvl) (defs := defs) (𝒱 := 𝒱) (bd := bd) c B
    (Function.update (Function.update S .vt (put (s := S8x144x512) (S .vt) ![qi, 0, 0] S1x128x512.size (vtV vb))) .vt
      (put (s := S8x144x512) (put (s := S8x144x512) (S .vt) ![qi, 0, 0] S1x128x512.size (vtV vb)) ![qi, 128, 0] S1x16x512.size onesV)) p
    (by cases p <;> decide) (by decide)
  have key : Run (prep B.q B.v B.vt B.hvt B.acc p qs w qi hqi) S _ _ :=
    Runs.bind c B (Runs.load c B .v S _ _) (Runs.bind c B (Runs.load c B .vt _ _ _) (Runs.bind c B (Runs.store c B .vt _ _ _ _)
    (Runs.bind c B (Runs.load c B .vt _ _ _) (Runs.bind c B (Runs.store c B .vt _ _ _ _) (Runs.bind c B (Runs.load c B .q _ _ _)
    (Runs.bind c B (by rw [hv, Function.update_self]; exact hx) (Runs.bind c B (Runs.zero c B _ p _ (by decide)) (Runs.pure c B _ _))))))))
  have e1 : Nm.q ≠ Nm.vt := by simp
  have e2 : Nm.vt ≠ Nm.acc p := by simp
  rw [Function.update_of_ne e1, Function.update_of_ne e1, hq] at key
  refine ⟨_, key, ?_, ⟨?_, ?_⟩, ?_, ?_⟩
  · intro n h1 h2
    rw [Function.update_of_ne h2, Function.update_of_ne h1, Function.update_of_ne h1]
  · rw [Function.update_self]; rfl
  · rw [Function.update_self]; rfl
  · rw [Function.update_of_ne e2, Function.update_self,
      window_put_of_contains _ _ _ _ _ ![0, 128, 0] _ _ (by intro a; fin_cases a <;> simp),
      window_put_of_contains _ _ _ _ _ ![0, 0, 0] _ _ (by intro a; fin_cases a <;> simp)]
    refine put_put_cover _ _ _ _ _ _ _ _ fun y => ?_
    have h0 : (y 0).val < 1 := (y 0).isLt
    have h1 : (y 1).val < 144 := (y 1).isLt
    have h2 : (y 2).val < 512 := (y 2).isLt
    rcases Nat.lt_or_ge (y 1).val 128 with h | h
    · left; intro a; fin_cases a <;> simp <;> omega
    · right; intro a; fin_cases a <;> simp <;> omega
  · intro j hj hne
    have hd : j + 1 ≤ qi ∨ qi + 1 ≤ j := by omega
    rw [Function.update_of_ne e2, Function.update_self, window_put_of_disjoint _ _ _ _ _ _ _ (0 : Fin 3) hd, window_put_of_disjoint _ _ _ _ _ _ _ (0 : Fin 3) hd]

theorem finish_run (S : St F) (p : Bool) (lam : FVec F S1x1 .f32) (qi : ℕ) (hqi : qi < 8) {A0 A1 : Vec F S1x144x512 .f32} {w : Vec F S128x1 .f32}
    (hA : AccAt S p A0 A1) (hw : window (s := S128x1) (S .subln) ![0, 0] S128x1.size (by decide) = w) :
    Run (finish (accM B.acc p) B.subln B.out B.hout lam qi hqi) S ⟨⟩
      (Function.update S .out (put (s := S1x4096x128) (S .out) ![0, 512 * qi, 0] S1x512x128.size (outV lam A0 A1 w))) := by
  have key : Run (finish (accM B.acc p) B.subln B.out B.hout lam qi hqi) S _ _ :=
    Runs.bind c B (Runs.load c B (.acc p) S _ _) (Runs.bind c B (Runs.load c B (.acc p) _ _ _) (Runs.bind c B (Runs.load c B .subln _ _ _)
    (Runs.bind c B (Runs.load c B .out _ _ _) (Runs.store c B .out _ _ _ _))))
  rw [hA.a0, hA.a1, hw] at key
  exact key

theorem init_run (S : St F) :
    Run (init B) S ⟨⟩ (Function.update (Function.update S .mask (shapeCast S512x512 maskV (by decide : S512x512.ShapeCasts S512x512))) .kaug
      (shapeCast S512x128 kaugV (by decide : S512x128.ShapeCasts S512x128))) := by
  have key : Run (init B) S _ _ :=
    Runs.bind c B (Runs.load c B .mask S _ _) (Runs.bind c B (Runs.store c B .mask _ _ _ _)
    (Runs.bind c B (Runs.load c B .kaug _ _ _) (Runs.store c B .kaug _ _ _ _)))
  rw [put_full _ _ (by decide), put_full _ _ (by decide)] at key
  exact key

end DiffAttn

end
-- ==== Proof.Chunk.lean ====
/-
  A query block run: the values of the running maxima and accumulators as functions of the inputs (`run`, `fin`, `outB`),
  and the theorem that a query block's program leaves its block of the result in the output buffer.
-/
module

public import proofs.«01_k».proof.Proof.Segs

@[expose] public section

set_option maxRecDepth 16384

noncomputable section

namespace DiffAttn

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem

variable {sig : RefSig} {F : FTy → Type} [FloatOps F]
variable {nD : Nat} {τ : Topo} {Ix : Type} [DecidableEq Ix] {Name : Type} [DecidableEq Name] {U : Type} [URA U] {Lvl : Type} [Preorder Lvl] {Λ : Labels}

local notation "𝕄" => MT nD τ sig Ix (Elt F) Name U Lvl

/-- What a grid point's result depends on. -/
structure In (F : FTy → Type) where
  v2 : F .f32
  qs : F .f32
  q : S1x4096x128.Idx → F .bf16
  k : S1x4096x128.Idx → F .bf16
  v : S1x4096x128.Idx → F .bf16
  lq1 : S1x64.Idx → F .f32
  lk1 : S1x64.Idx → F .f32
  lq2 : S1x64.Idx → F .f32
  lk2 : S1x64.Idx → F .f32
  subln : S128x1.Idx → F .f32

/-- The rows `512 j` to `512 j + 511` (of block 0 where there is no such block). -/
def blk (x : S1x4096x128.Idx → F .bf16) (j : ℕ) : Vec F S1x512x128 .bf16 :=
  if h : j < 8 then window (s := S1x4096x128) x ![0, 512 * j, 0] S1x512x128.size (inbK (by omega))
  else window (s := S1x4096x128) x ![0, 0, 0] S1x512x128.size (inbK (by decide))

theorem blk_eq (x : S1x4096x128.Idx → F .bf16) (j : ℕ) (h : j < 8) :
    window (s := S1x4096x128) x ![0, 512 * j, 0] S1x512x128.size (inbK (by omega)) = blk x j := by
  unfold blk; rw [dif_pos h]

/-- The mask, as stored. -/
def maskB : FVec F S512x512 .f32 := shapeCast S512x512 maskV (by decide : S512x512.ShapeCasts S512x512)
/-- The key side of the position bias, as stored. -/
def kaugB : FVec F S512x128 .bf16 := shapeCast S512x128 kaugV (by decide : S512x128.ShapeCasts S512x128)

/-- The queries of both maps of a query block. -/
def qtB (I : In F) (qi : ℕ) : FVec F S256x512 .bf16 × FVec F S256x512 .bf16 :=
  (qt0V (waugV I.v2) (qsV I.qs (blk I.q qi)), qt1V (waugV I.v2) (qsV I.qs (blk I.q qi)))

/-- The scores of a key block. -/
def XS (I : In F) (j : ℕ) (qt : FVec F S256x512 .bf16) : FVec F S512x512 .f32 := scoreV (blk I.k j) kaugB qt

/-- A map's running maximum and accumulator before key block `j` of the query block `qi`. -/
def run (I : In F) (qi : ℕ) (qt : FVec F S256x512 .bf16) : ℕ → FVec F S1x512 .f32 × Vec F S1x144x512 .f32
  | 0 => (negV, zeroA)
  | j + 1 => upd I.v2 (Scalar.subi (BitVec.ofNat 32 j) (BitVec.ofNat 32 qi)) (vtC (blk I.v j)) (XS I j qt) (run I qi qt j)

/-- The diagonal block's first half of scores. -/
def LD (I : In F) (qi : ℕ) (qt : FVec F S256x512 .bf16) : FVec F S256x512 .f32 :=
  loV (khV (window (s := S1x512x128) (blk I.k qi) ![0, 0, 0] S1x256x128.size (by decide)) (window (s := S512x128) (kaugB (F := F)) ![0, 0] S256x128.size (by decide))) qt
    (window (s := S512x512) (maskB (F := F)) ![0, 0] S256x512.size (by decide))

/-- The diagonal block's second half of scores. -/
def HD (I : In F) (qi : ℕ) (qt : FVec F S256x512 .bf16) : FVec F S256x256 .f32 :=
  hiV (khV (window (s := S1x512x128) (blk I.k qi) ![0, 256, 0] S1x256x128.size (by decide)) (window (s := S512x128) (kaugB (F := F)) ![256, 0] S256x128.size (by decide))) qt
    (window (s := S512x512) (maskB (F := F)) ![256, 256] S256x256.size (by decide))

/-- A map's accumulator after its last key block, the diagonal. -/
def fin (I : In F) (qi : ℕ) (qt : FVec F S256x512 .bf16) : Vec F S1x144x512 .f32 :=
  updDiag (vtC (blk I.v qi)) (LD I qi qt) (HD I qi qt) (run I qi qt qi)

/-- A query block's result. -/
def outB (I : In F) (qi : ℕ) : FVec F S1x512x128 .bf16 :=
  outV (lamV I.lq1 I.lk1 I.lq2 I.lk2) (fin I qi (qtB I qi).1) (fin I qi (qtB I qi).2) I.subln

/-- The inputs and the tables are in their buffers. -/
structure Base (I : In F) (S : St F) : Prop where
  q : S .q = I.q
  k : S .k = I.k
  v : S .v = I.v
  lq1 : S .lq1 = I.lq1
  lk1 : S .lk1 = I.lk1
  lq2 : S .lq2 = I.lq2
  lk2 : S .lk2 = I.lk2
  subln : S .subln = I.subln
  mask : S .mask = maskB
  kaug : S .kaug = kaugB

/-- The value blocks below `n` are in their buffer. -/
def VtAt (I : In F) (S : St F) (n : ℕ) : Prop :=
  ∀ j, j < n → ∀ hj : j < 8, window (s := S8x144x512) (S .vt) ![j, 0, 0] S1x144x512.size (inbVt hj (by decide) (by decide)) = vtC (blk I.v j)

/-- The result's blocks below `n` are in the output buffer. -/
def OutAt (I : In F) (S : St F) (n : ℕ) : Prop :=
  ∀ j, j < n → ∀ hj : j < 8, window (s := S1x4096x128) (S .out) ![0, 512 * j, 0] S1x512x128.size (inbK (by omega)) = outB I j

/-- The score buffers, their maxima and the accumulators may have changed, nothing else. -/
def Keep (S S' : St F) : Prop := ∀ n, (∀ b, n ≠ .s b) → (∀ b, n ≠ .mx b) → (∀ b, n ≠ .acc b) → S' n = S n

theorem Keep.trans {S S' S'' : St F} (h : Keep S S') (h' : Keep S' S'') : Keep S S'' :=
  fun n a b c => (h' n a b c).trans (h n a b c)

theorem Keep.base {I : In F} {S S' : St F} (h : Keep S S') (hB : Base I S) : Base I S' := by
  constructor <;> rw [h _ (by simp) (by simp) (by simp)]
  exacts [hB.q, hB.k, hB.v, hB.lq1, hB.lk1, hB.lq2, hB.lk2, hB.subln, hB.mask, hB.kaug]

theorem Keep.vt {I : In F} {S S' : St F} {n : ℕ} (h : Keep S S') (hV : VtAt I S n) : VtAt I S' n := fun j hj hj' => by
  rw [h .vt (by simp) (by simp) (by simp)]; exact hV j hj hj'

theorem window_full {s : Shape} {α : Type} (x : s.Idx → α) (off : Fin s.rank → ℕ) (inb : ∀ a, off a + s.size a ≤ s.size a) : window x off s.size inb = x :=
  funext fun y => congrArg x (funext fun a => Fin.ext (by
    show off a + 1 * (y a).val = (y a).val
    have := inb a; omega))

variable (c : Dev nD) (B : Bufs sig)
variable {defs : Defs nD τ sig (Elt F) Λ} {𝒱 : Variants} {bd : Option 𝒱.V}

local notation "Run" => Runs (Ix := Ix) (Name := Name) (U := U) (Lvl := Lvl) c B defs 𝒱 bd

/-- The running maxima of both maps before key block `j`. -/
abbrev stats (I : In F) (qi j : ℕ) : Stats F := ((run I qi (qtB I qi).1 j).1, (run I qi (qtB I qi).2 j).1)

/-- Both maps' scores of key block `j` are in the buffer `b`. -/
abbrev XAt (I : In F) (S : St F) (b : Bool) (qi j : ℕ) : Prop := ScoreAt S b (XS I j (qtB I qi).1) (XS I j (qtB I qi).2)

/-- Both maps' accumulators before key block `j`. -/
abbrev RAt (I : In F) (S : St F) (p : Bool) (qi j : ℕ) : Prop := AccAt S p (run I qi (qtB I qi).1 j).2 (run I qi (qtB I qi).2 j).2

theorem scoresAt_run {I : In F} {S : St F} (hB : Base I S) (b : Bool) (qi j : ℕ) (hj : j < 8) :
    ∃ S', Run (scores B.k B.kaug (B.s b) (B.mx b) (512 * j) (by omega) (qtB I qi).1 (qtB I qi).2) S ⟨⟩ S' ∧ (∀ n, n ≠ .s b → n ≠ .mx b → S' n = S n) ∧
      XAt I S' b qi j := by
  have h := scores_run (τ := τ) (Ix := Ix) (Name := Name) (U := U) (Lvl := Lvl) (defs := defs) (𝒱 := 𝒱) (bd := bd) c B S b (512 * j) (by omega) (qtB I qi).1 (qtB I qi).2
  rw [hB.k, hB.kaug, blk_eq I.k j hj, window_full (s := S512x128)] at h
  exact h

theorem updateAt_run {I : In F} {S : St F} (b p : Bool) (qi j : ℕ) (hj : j < 8)
    (hV : window (s := S8x144x512) (S .vt) ![j, 0, 0] S1x144x512.size (inbVt hj (by decide) (by decide)) = vtC (blk I.v j)) (hX : XAt I S b qi j) (hA : RAt I S p qi j) :
    ∃ S', Run (update I.v2 B.vt (B.s b) (B.mx b) (accM B.acc p) j hj (Scalar.subi (BitVec.ofNat 32 j) (BitVec.ofNat 32 qi)) (stats I qi j)) S (stats I qi (j + 1)) S' ∧
      (∀ n, n ≠ .acc p → S' n = S n) ∧ RAt I S' p qi (j + 1) :=
  update_run c B S I.v2 b p j hj _ (stats I qi j) hX hA hV

/-- The scores of the next key block into the other buffer, and the update by the last: as two programs. -/
theorem step_run {I : In F} {S : St F} (hB : Base I S) (b p : Bool) (qi j : ℕ) (hj : j + 1 < 8) (hV : VtAt I S (j + 1)) (hX : XAt I S b qi j) (hA : RAt I S p qi j) :
    ∃ S1 S2, Run (scores B.k B.kaug (B.s !b) (B.mx !b) (512 * (j + 1)) (by omega) (qtB I qi).1 (qtB I qi).2) S ⟨⟩ S1 ∧
      Run (update I.v2 B.vt (B.s b) (B.mx b) (accM B.acc p) j (by omega) (Scalar.subi (BitVec.ofNat 32 j) (BitVec.ofNat 32 qi)) (stats I qi j)) S1 (stats I qi (j + 1)) S2 ∧
      Keep S S2 ∧ XAt I S2 (!b) qi (j + 1) ∧ RAt I S2 p qi (j + 1) := by
  obtain ⟨S1, r1, f1, x1⟩ := scoresAt_run (τ := τ) (Ix := Ix) (Name := Name) (U := U) (Lvl := Lvl) (defs := defs) (𝒱 := 𝒱) (bd := bd) c B hB (!b) qi (j + 1) hj
  have hb : b ≠ !b := by cases b <;> decide
  have k1 : Keep S S1 := fun n a b' _ => f1 n (a _) (b' _)
  obtain ⟨S2, r2, f2, a2⟩ := updateAt_run (τ := τ) (Ix := Ix) (Name := Name) (U := U) (Lvl := Lvl) (defs := defs) (𝒱 := 𝒱) (bd := bd) c B (I := I) (S := S1) b p qi j (by omega)
    (k1.vt hV j (by omega) (by omega)) (hX.congr (f1 _ (by simpa using hb) (by simp)) (f1 _ (by simp) (by simpa using hb))) (hA.congr (f1 _ (by simp) (by simp)))
  exact ⟨S1, S2, r1, r2, k1.trans fun n _ _ a => f2 n (a p), x1.congr (f2 _ (by simp)) (f2 _ (by simp)), a2⟩

theorem pairs_run {I : In F} {S : St F} (hB : Base I S) (f p : Bool) (qi : ℕ) (hV : VtAt I S qi) (hX : XAt I S f qi 0) (hA : RAt I S p qi 0) :
    (n : ℕ) → (hn : 2 * n < 8) → 2 * n ≤ qi → ∃ S', Run (pairs B I.v2 (qtB I qi) f p qi n hn (negV, negV)) S (stats I qi (2 * n)) S' ∧ Keep S S' ∧
      XAt I S' f qi (2 * n) ∧ RAt I S' p qi (2 * n)
  | 0, _, _ => ⟨S, Runs.pure c B S _, fun _ _ _ _ => rfl, hX, hA⟩
  | n + 1, hn, hq => by
    obtain ⟨S1, r1, k1, x1, a1⟩ := pairs_run hB f p qi hV hX hA n (by omega) (by omega)
    obtain ⟨S2, S3, r2, r3, k3, x3, a3⟩ := step_run (τ := τ) (Ix := Ix) (Name := Name) (U := U) (Lvl := Lvl) (defs := defs) (𝒱 := 𝒱) (bd := bd) c B (k1.base hB) f p qi (2 * n) (by omega)
      (fun j hj => k1.vt hV j (by omega)) x1 a1
    obtain ⟨S4, S5, r4, r5, k5, x5, a5⟩ := step_run (τ := τ) (Ix := Ix) (Name := Name) (U := U) (Lvl := Lvl) (defs := defs) (𝒱 := 𝒱) (bd := bd) c B ((k1.trans k3).base hB) (!f) p qi (2 * n + 1) (by omega)
      (fun j hj => (k1.trans k3).vt hV j (by omega)) x3 a3
    rw [Bool.not_not] at r4 x5
    exact ⟨S5, Runs.bind c B r1 (Runs.bind c B r2 (Runs.bind c B r3 (Runs.bind c B r4 r5))), (k1.trans k3).trans k5, x5, a5⟩

theorem diagAt_run {I : In F} {S : St F} (hB : Base I S) (b : Bool) (qi : ℕ) (hqi : qi < 8) :
    ∃ S', Run (scoresDiag B.k B.kaug B.mask (B.s b) (B.mx b) (512 * qi) (by omega) (qtB I qi).1 (qtB I qi).2) S ⟨⟩ S' ∧ (∀ n, n ≠ .s b → n ≠ .mx b → S' n = S n) ∧
      DiagMapAt S' b 0 (by decide) (LD I qi (qtB I qi).1) (HD I qi (qtB I qi).1) ∧ DiagMapAt S' b 1 (by decide) (LD I qi (qtB I qi).2) (HD I qi (qtB I qi).2) := by
  refine scoresDiag_run c B S b (512 * qi) (by omega) (qtB I qi).1 (qtB I qi).2 ?_ ?_ ?_ ?_
  · rw [hB.k, hB.kaug, ← blk_eq I.k qi hqi]
    rw [window_window (s := S1x4096x128) I.k ![0, 512 * qi, 0] S1x512x128.size ![0, 0, 0] S1x256x128.size ![0, 512 * qi, 0] (inbK (by omega)) (by decide)
      (by intro a; fin_cases a <;> simp) (inbK (by omega))]
  · rw [hB.k, hB.kaug, ← blk_eq I.k qi hqi]
    rw [window_window (s := S1x4096x128) I.k ![0, 512 * qi, 0] S1x512x128.size ![0, 256, 0] S1x256x128.size ![0, 512 * qi + 256, 0] (inbK (by omega)) (by decide)
      (by intro a; fin_cases a <;> simp) (inbK (by omega))]
  · rw [hB.mask]
  · rw [hB.mask]

/-- After the diagonal: both maps' last accumulators. -/
abbrev FAt (I : In F) (S : St F) (p : Bool) (qi : ℕ) : Prop := AccAt S p (fin I qi (qtB I qi).1) (fin I qi (qtB I qi).2)

theorem tail_run {I : In F} {S : St F} (hB : Base I S) (f p : Bool) (n qi : ℕ) (hqi : qi < 8) (h : qi = bif p then 2 * n + 1 else 2 * n + 2)
    (hV : VtAt I S (qi + 1)) (hX : XAt I S f qi (2 * n)) (hA : RAt I S p qi (2 * n)) :
    ∃ S', Run (tail B I.v2 (qtB I qi) f p qi hqi (stats I qi (2 * n))) S ⟨⟩ S' ∧ Keep S S' ∧ FAt I S' p qi := by
  cases p with
  | true =>
    obtain rfl : qi = 2 * n + 1 := h
    obtain ⟨S1, r1, f1, d0, d1⟩ := diagAt_run (τ := τ) (Ix := Ix) (Name := Name) (U := U) (Lvl := Lvl) (defs := defs) (𝒱 := 𝒱) (bd := bd) c B hB (!f) (2 * n + 1) hqi
    have hb : f ≠ !f := by cases f <;> decide
    have k1 : Keep S S1 := fun n a b' _ => f1 n (a _) (b' _)
    obtain ⟨S2, r2, f2, a2⟩ := updateAt_run (τ := τ) (Ix := Ix) (Name := Name) (U := U) (Lvl := Lvl) (defs := defs) (𝒱 := 𝒱) (bd := bd) c B (I := I) (S := S1) f true (2 * n + 1) (2 * n) (by omega)
      (k1.vt hV (2 * n) (by omega) (by omega)) (hX.congr (f1 _ (by simpa using hb) (by simp)) (f1 _ (by simp) (by simpa using hb))) (hA.congr (f1 _ (by simp) (by simp)))
    have k2 : Keep S S2 := k1.trans fun n _ _ a => f2 n (a _)
    obtain ⟨S3, r3, f3, a3⟩ := updateDiag_run (τ := τ) (Ix := Ix) (Name := Name) (U := U) (Lvl := Lvl) (defs := defs) (𝒱 := 𝒱) (bd := bd) c B S2 (!f) true (2 * n + 1) hqi (stats I (2 * n + 1) (2 * n + 1))
      (d0.congr (f2 _ (by simp)) (f2 _ (by simp))) (d1.congr (f2 _ (by simp)) (f2 _ (by simp))) a2 (k2.vt hV (2 * n + 1) (by omega) hqi)
    exact ⟨S3, Runs.bind c B r1 (Runs.bind c B r2 r3), k2.trans fun n _ _ a => f3 n (a _), a3⟩
  | false =>
    obtain rfl : qi = 2 * n + 2 := h
    obtain ⟨S1, S2, r1, r2, k2, x2, a2⟩ := step_run (τ := τ) (Ix := Ix) (Name := Name) (U := U) (Lvl := Lvl) (defs := defs) (𝒱 := 𝒱) (bd := bd) c B hB f false (2 * n + 2) (2 * n) (by omega)
      (fun j hj => hV j (by omega)) hX hA
    obtain ⟨S3, r3, f3, d0, d1⟩ := diagAt_run (τ := τ) (Ix := Ix) (Name := Name) (U := U) (Lvl := Lvl) (defs := defs) (𝒱 := 𝒱) (bd := bd) c B (k2.base hB) f (2 * n + 2) hqi
    have hb : (!f) ≠ f := by cases f <;> decide
    have k3 : Keep S S3 := k2.trans fun n a b' _ => f3 n (a _) (b' _)
    obtain ⟨S4, r4, f4, a4⟩ := updateAt_run (τ := τ) (Ix := Ix) (Name := Name) (U := U) (Lvl := Lvl) (defs := defs) (𝒱 := 𝒱) (bd := bd) c B (I := I) (S := S3) (!f) false (2 * n + 2) (2 * n + 1) (by omega)
      (k3.vt hV (2 * n + 1) (by omega) (by omega)) (x2.congr (f3 _ (by simpa using hb) (by simp)) (f3 _ (by simp) (by simpa using hb))) (a2.congr (f3 _ (by simp) (by simp)))
    have k4 : Keep S S4 := k3.trans fun n _ _ a => f4 n (a _)
    obtain ⟨S5, r5, f5, a5⟩ := updateDiag_run (τ := τ) (Ix := Ix) (Name := Name) (U := U) (Lvl := Lvl) (defs := defs) (𝒱 := 𝒱) (bd := bd) c B S4 f false (2 * n + 2) hqi (stats I (2 * n + 2) (2 * n + 2))
      (d0.congr (f4 _ (by simp)) (f4 _ (by simp))) (d1.congr (f4 _ (by simp)) (f4 _ (by simp))) a4 (k4.vt hV (2 * n + 2) (by omega) hqi)
    exact ⟨S5, Runs.bind c B r1 (Runs.bind c B r2 (Runs.bind c B r3 (Runs.bind c B r4 r5))), k4.trans fun n _ _ a => f5 n (a _), a5⟩

/-- What a query block's program starts from and leaves. -/
structure Done (I : In F) (S : St F) (n : ℕ) : Prop where
  base : Base I S
  vt : VtAt I S n
  out : OutAt I S n

theorem prepAt_run {I : In F} {S : St F} {qi : ℕ} (hD : Done I S qi) (p : Bool) (hqi : qi < 8) :
    ∃ S', Run (prep B.q B.v B.vt B.hvt B.acc p I.qs (waugV I.v2) qi hqi) S (qtB I qi) S' ∧ Base I S' ∧ VtAt I S' (qi + 1) ∧ S' .out = S .out ∧ RAt I S' p qi 0 := by
  obtain ⟨S', r, f, a, v, o⟩ := prep_run (τ := τ) (Ix := Ix) (Name := Name) (U := U) (Lvl := Lvl) (defs := defs) (𝒱 := 𝒱) (bd := bd) c B S p I.qs (waugV I.v2) qi hqi
    (vb := blk I.v qi) (qb := blk I.q qi) (by rw [hD.base.v, blk_eq _ _ hqi]) (by rw [hD.base.q, blk_eq _ _ hqi])
  refine ⟨S', r, ?_, ?_, f _ (by simp) (by simp), a⟩
  · have hB := hD.base
    constructor <;> rw [f _ (by simp) (by simp)]
    exacts [hB.q, hB.k, hB.v, hB.lq1, hB.lk1, hB.lq2, hB.lk2, hB.subln, hB.mask, hB.kaug]
  · intro j hj hj8
    by_cases e : j = qi
    · subst e; exact v
    · rw [o j hj8 e]; exact hD.vt j (by omega) hj8

theorem finishAt_run {I : In F} {S : St F} {qi : ℕ} (hB : Base I S) (hV : VtAt I S (qi + 1)) (hO : OutAt I S qi) (p : Bool) (hqi : qi < 8) (hA : FAt I S p qi) :
    ∃ S', Run (finish (accM B.acc p) B.subln B.out B.hout (lamV I.lq1 I.lk1 I.lq2 I.lk2) qi hqi) S ⟨⟩ S' ∧ Done I S' (qi + 1) := by
  refine ⟨_, finish_run c B S p _ qi hqi hA (w := I.subln) (by rw [hB.subln, window_full (s := S128x1)]), ?_, ?_, ?_⟩
  · constructor <;> rw [Function.update_of_ne (by simp)]
    exacts [hB.q, hB.k, hB.v, hB.lq1, hB.lk1, hB.lq2, hB.lk2, hB.subln, hB.mask, hB.kaug]
  · intro j hj hj8; rw [Function.update_of_ne (by simp)]; exact hV j hj hj8
  · intro j hj hj8
    rw [Function.update_self]
    by_cases e : j = qi
    · subst e; rw [window_put_same]; rfl
    · have hd : 512 * j + 512 ≤ 512 * qi ∨ 512 * qi + 512 ≤ 512 * j := by omega
      rw [window_put_of_disjoint _ _ _ _ _ _ _ (1 : Fin 3) hd]; exact hO j (by omega) hj8

theorem chunk_run {I : In F} {S : St F} {qi : ℕ} (hD : Done I S qi) (f p : Bool) (hqi : qi < 8) (n : ℕ) (hn : 2 * n < 8) (h : qi = bif p then 2 * n + 1 else 2 * n + 2) :
    ∃ S', Run (chunk B I.v2 I.qs (waugV I.v2) (lamV I.lq1 I.lk1 I.lq2 I.lk2) f p qi hqi n hn) S ⟨⟩ S' ∧ Done I S' (qi + 1) := by
  have hnq : 2 * n ≤ qi := by cases p <;> simp at h <;> omega
  obtain ⟨S1, r1, b1, v1, o1, a1⟩ := prepAt_run (τ := τ) (Ix := Ix) (Name := Name) (U := U) (Lvl := Lvl) (defs := defs) (𝒱 := 𝒱) (bd := bd) c B hD p hqi
  obtain ⟨S2, r2, f2, x2⟩ := scoresAt_run (τ := τ) (Ix := Ix) (Name := Name) (U := U) (Lvl := Lvl) (defs := defs) (𝒱 := 𝒱) (bd := bd) c B b1 f qi 0 (by decide)
  have k2 : Keep S1 S2 := fun n a b' _ => f2 n (a _) (b' _)
  obtain ⟨S3, r3, k3, x3, a3⟩ := pairs_run (τ := τ) (Ix := Ix) (Name := Name) (U := U) (Lvl := Lvl) (defs := defs) (𝒱 := 𝒱) (bd := bd) c B (k2.base b1) f p qi
    (fun j hj => k2.vt v1 j (by omega)) x2 (a1.congr (f2 _ (by simp) (by simp))) n hn hnq
  obtain ⟨S4, r4, k4, a4⟩ := tail_run (τ := τ) (Ix := Ix) (Name := Name) (U := U) (Lvl := Lvl) (defs := defs) (𝒱 := 𝒱) (bd := bd) c B ((k2.trans k3).base b1) f p n qi hqi h
    ((k2.trans k3).vt v1) x3 a3
  have k : Keep S1 S4 := (k2.trans k3).trans k4
  obtain ⟨S5, r5, d5⟩ := finishAt_run (τ := τ) (Ix := Ix) (Name := Name) (U := U) (Lvl := Lvl) (defs := defs) (𝒱 := 𝒱) (bd := bd) c B (k.base b1) (k.vt v1)
    (fun j hj hj8 => by rw [k .out (by simp) (by simp) (by simp), o1]; exact hD.out j hj hj8) p hqi a4
  exact ⟨S5, Runs.bind c B r1 (Runs.bind c B r2 (Runs.bind c B r3 (Runs.bind c B r4 r5))), d5⟩

theorem chunkZero_run {I : In F} {S : St F} (hB : Base I S) :
    ∃ S', Run (chunkZero B I.qs (waugV I.v2) (lamV I.lq1 I.lk1 I.lq2 I.lk2)) S ⟨⟩ S' ∧ Done I S' 1 := by
  have hD : Done I S 0 := ⟨hB, fun j hj => absurd hj (by omega), fun j hj => absurd hj (by omega)⟩
  obtain ⟨S1, r1, b1, v1, o1, a1⟩ := prepAt_run (τ := τ) (Ix := Ix) (Name := Name) (U := U) (Lvl := Lvl) (defs := defs) (𝒱 := 𝒱) (bd := bd) c B hD false (by decide)
  obtain ⟨S2, r2, f2, d0, d1⟩ := diagAt_run (τ := τ) (Ix := Ix) (Name := Name) (U := U) (Lvl := Lvl) (defs := defs) (𝒱 := 𝒱) (bd := bd) c B b1 false 0 (by decide)
  have k2 : Keep S1 S2 := fun n a b' _ => f2 n (a _) (b' _)
  obtain ⟨S3, r3, f3, a3⟩ := updateDiag_run (τ := τ) (Ix := Ix) (Name := Name) (U := U) (Lvl := Lvl) (defs := defs) (𝒱 := 𝒱) (bd := bd) c B S2 false false 0 (by decide) (stats I 0 0)
    d0 d1 (a1.congr (f2 _ (by simp) (by simp))) (k2.vt v1 0 (by omega) (by decide))
  have k3 : Keep S1 S3 := k2.trans fun n _ _ a => f3 n (a _)
  obtain ⟨S4, r4, d4⟩ := finishAt_run (τ := τ) (Ix := Ix) (Name := Name) (U := U) (Lvl := Lvl) (defs := defs) (𝒱 := 𝒱) (bd := bd) c B (k3.base b1) (k3.vt v1)
    (fun j hj => absurd hj (by omega)) false (by decide) a3
  exact ⟨S4, Runs.bind c B r1 (Runs.bind c B r2 (Runs.bind c B r3 r4)), d4⟩

end DiffAttn

end
-- ==== Proof.Whole.lean ====
/-
  The whole body of a grid point: the eight query blocks one after the other, and the body as a program of separation
  logic, from the buffers it is handed to the result it leaves in the output buffer.
-/
module

public import proofs.«01_k».proof.Proof.Chunk
public import Idealize.ShloMosaic.Lib.ReshapeSlab

@[expose] public section

set_option maxRecDepth 16384

noncomputable section

namespace DiffAttn

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem

variable {sig : RefSig} {F : FTy → Type} [FloatOps F]
variable {nD : Nat} {τ : Topo} {Ix : Type} [DecidableEq Ix] {Name : Type} [DecidableEq Name] {U : Type} [URA U] {Lvl : Type} [Preorder Lvl] {Λ : Labels}

local notation "𝕄" => MT nD τ sig Ix (Elt F) Name U Lvl

/-- An index of a query block. -/
def bix (r : Fin 512) (d : Fin 128) : S1x512x128.Idx := fun a => match a with
  | ⟨0, _⟩ => (⟨0, by decide⟩ : Fin 1)
  | ⟨1, _⟩ => r
  | ⟨2, _⟩ => d

/-- A grid point's result, all its rows. -/
def outArr (I : In F) : S1x4096x128.Idx → Elt F .bf16 := fun y =>
  outB I ((y 1).val / 512) (bix ⟨(y 1).val % 512, Nat.mod_lt _ (by decide)⟩ (y 2))

theorem out_eq {I : In F} {S : St F} (h : OutAt I S 8) : S .out = outArr I := by
  funext y
  have h1 : (y 1).val < 4096 := (y 1).isLt
  have hj : (y 1).val / 512 < 8 := by omega
  have := congrFun (h _ hj hj) (bix ⟨(y 1).val % 512, Nat.mod_lt _ (by decide)⟩ (y 2))
  rw [outArr, ← this]
  refine congrArg (S .out) (funext fun a => Fin.ext ?_)
  have h0 : (y 0).val < 1 := (y 0).isLt
  match a with
  | ⟨0, _⟩ => show (y 0).val = 0 + 1 * 0; omega
  | ⟨1, _⟩ => show (y 1).val = 512 * ((y 1).val / 512) + 1 * ((y 1).val % 512); omega
  | ⟨2, _⟩ => show (y 2).val = 0 + 1 * (y 2).val; omega

/-- The first slope at an offset. -/
def slopeAt (x : S8.Idx → F .f32) (off : Fin 1 → ℕ) (hoff : ∀ a, off a + S1.size a ≤ S8.size a) : F .f32 :=
  window (s := S8) x off S1.size hoff (Shape.Idx.first (s := S1) (by decide))

/-- What the body computes from, from its buffers' values. -/
def inOf (l2e qs : F .f32) (off : Fin 1 → ℕ) (hoff : ∀ a, off a + S1.size a ≤ S8.size a) (x0 : S8.Idx → F .f32) (xq xk xv : S1x4096x128.Idx → F .bf16)
    (x1 x2 x3 x4 : S1x64.Idx → F .f32) (xw : S128x1.Idx → F .f32) : In F :=
  ⟨Scalar.mulf (slopeAt x0 off hoff) l2e, qs, xq, xk, xv, x1, x2, x3, x4, xw⟩

/-- The inputs are in their buffers. -/
structure Inputs (I : In F) (S : St F) : Prop where
  q : S .q = I.q
  k : S .k = I.k
  v : S .v = I.v
  lq1 : S .lq1 = I.lq1
  lk1 : S .lk1 = I.lk1
  lq2 : S .lq2 = I.lq2
  lk2 : S .lk2 = I.lk2
  subln : S .subln = I.subln

variable (c : Dev nD) (B : Bufs sig)
variable {defs : Defs nD τ sig (Elt F) Λ} {𝒱 : Variants} {bd : Option 𝒱.V}

local notation "Run" => Runs (Ix := Ix) (Name := Name) (U := U) (Lvl := Lvl) c B defs 𝒱 bd

/-- The tables: stored at the first grid point, found in their buffers at the others. -/
theorem start_run {I : In F} {S : St F} (hI : Inputs I S) (b : Bool) (hb : b = false → S .mask = maskB ∧ S .kaug = kaugB) :
    ∃ S', Run (bif b then init B else pure ⟨⟩) S ⟨⟩ S' ∧ Base I S' := by
  cases b with
  | false => exact ⟨S, Runs.pure c B S _, hI.q, hI.k, hI.v, hI.lq1, hI.lk1, hI.lq2, hI.lk2, hI.subln, (hb rfl).1, (hb rfl).2⟩
  | true =>
    refine ⟨_, init_run c B S, ?_⟩
    constructor
    case kaug => rw [Function.update_self]; rfl
    case mask => rw [Function.update_of_ne (by decide), Function.update_self]; rfl
    all_goals rw [Function.update_of_ne (by decide), Function.update_of_ne (by decide)]
    exacts [hI.q, hI.k, hI.v, hI.lq1, hI.lk1, hI.lq2, hI.lk2, hI.subln]

/-- The body after its slope is loaded. -/
theorem rest_run {I : In F} {S : St F} (hI : Inputs I S) (b : Bool) (hb : b = false → S .mask = maskB ∧ S .kaug = kaugB) :
    ∃ S', Run (do
        bif b then init B else pure ⟨⟩
        let q1 : Vec F S1x64 .f32 ← ld B.lq1 ![0, 0] S1x64.size (by decide) (by decide)
        let k1 : Vec F S1x64 .f32 ← ld B.lk1 ![0, 0] S1x64.size (by decide) (by decide)
        let q2 : Vec F S1x64 .f32 ← ld B.lq2 ![0, 0] S1x64.size (by decide) (by decide)
        let k2 : Vec F S1x64 .f32 ← ld B.lk2 ![0, 0] S1x64.size (by decide) (by decide)
        chunkZero B I.qs (waugV I.v2) (lamV q1 k1 q2 k2)
        chunk B I.v2 I.qs (waugV I.v2) (lamV q1 k1 q2 k2) true true 1 (by decide) 0 (by decide)
        chunk B I.v2 I.qs (waugV I.v2) (lamV q1 k1 q2 k2) true false 2 (by decide) 0 (by decide)
        chunk B I.v2 I.qs (waugV I.v2) (lamV q1 k1 q2 k2) false true 3 (by decide) 1 (by decide)
        chunk B I.v2 I.qs (waugV I.v2) (lamV q1 k1 q2 k2) false false 4 (by decide) 1 (by decide)
        chunk B I.v2 I.qs (waugV I.v2) (lamV q1 k1 q2 k2) true true 5 (by decide) 2 (by decide)
        chunk B I.v2 I.qs (waugV I.v2) (lamV q1 k1 q2 k2) true false 6 (by decide) 2 (by decide)
        chunk B I.v2 I.qs (waugV I.v2) (lamV q1 k1 q2 k2) false true 7 (by decide) 3 (by decide)) S ⟨⟩ S' ∧ Done I S' 8 := by
  obtain ⟨S0, r0, h0⟩ := start_run (τ := τ) (Ix := Ix) (Name := Name) (U := U) (Lvl := Lvl) (defs := defs) (𝒱 := 𝒱) (bd := bd) c B hI b hb
  obtain ⟨S1, r1, d1⟩ := chunkZero_run (τ := τ) (Ix := Ix) (Name := Name) (U := U) (Lvl := Lvl) (defs := defs) (𝒱 := 𝒱) (bd := bd) c B h0
  obtain ⟨S2, r2, d2⟩ := chunk_run (τ := τ) (Ix := Ix) (Name := Name) (U := U) (Lvl := Lvl) (defs := defs) (𝒱 := 𝒱) (bd := bd) c B d1 true true (by decide) 0 (by decide) rfl
  obtain ⟨S3, r3, d3⟩ := chunk_run (τ := τ) (Ix := Ix) (Name := Name) (U := U) (Lvl := Lvl) (defs := defs) (𝒱 := 𝒱) (bd := bd) c B d2 true false (by decide) 0 (by decide) rfl
  obtain ⟨S4, r4, d4⟩ := chunk_run (τ := τ) (Ix := Ix) (Name := Name) (U := U) (Lvl := Lvl) (defs := defs) (𝒱 := 𝒱) (bd := bd) c B d3 false true (by decide) 1 (by decide) rfl
  obtain ⟨S5, r5, d5⟩ := chunk_run (τ := τ) (Ix := Ix) (Name := Name) (U := U) (Lvl := Lvl) (defs := defs) (𝒱 := 𝒱) (bd := bd) c B d4 false false (by decide) 1 (by decide) rfl
  obtain ⟨S6, r6, d6⟩ := chunk_run (τ := τ) (Ix := Ix) (Name := Name) (U := U) (Lvl := Lvl) (defs := defs) (𝒱 := 𝒱) (bd := bd) c B d5 true true (by decide) 2 (by decide) rfl
  obtain ⟨S7, r7, d7⟩ := chunk_run (τ := τ) (Ix := Ix) (Name := Name) (U := U) (Lvl := Lvl) (defs := defs) (𝒱 := 𝒱) (bd := bd) c B d6 true false (by decide) 2 (by decide) rfl
  obtain ⟨S8, r8, d8⟩ := chunk_run (τ := τ) (Ix := Ix) (Name := Name) (U := U) (Lvl := Lvl) (defs := defs) (𝒱 := 𝒱) (bd := bd) c B d7 false true (by decide) 3 (by decide) rfl
  refine ⟨S8, ?_, d8⟩
  refine Runs.bind c B r0 ?_
  refine Runs.bind c B (Runs.load c B .lq1 S0 _ _) ?_
  refine Runs.bind c B (Runs.load c B .lk1 S0 _ _) ?_
  refine Runs.bind c B (Runs.load c B .lq2 S0 _ _) ?_
  refine Runs.bind c B (Runs.load c B .lk2 S0 _ _) ?_
  rw [h0.lq1, h0.lk1, h0.lq2, h0.lk2, window_full (s := S1x64), window_full (s := S1x64), window_full (s := S1x64), window_full (s := S1x64)]
  exact Runs.bind c B r1 (Runs.bind c B r2 (Runs.bind c B r3 (Runs.bind c B r4 (Runs.bind c B r5 (Runs.bind c B r6 (Runs.bind c B r7 r8))))))

theorem accM_disjoint (acc : Memref sig .tc .vmem S2x2x144x512 .f32) : Disjoint (accM acc false).view.set (accM acc true).view.set := by
  have e : ∀ p, (accM acc p).view.set = (acc.view.slice (Rect.unit (s := S2x2x144x512) ![p.toNat, 0, 0, 0] S1x2x144x512.size (by cases p <;> decide))).set := fun p => by
    refine Finset.ext fun i => ⟨fun h => ?_, fun h => ?_⟩
    · obtain ⟨x, -, rfl⟩ := Finset.mem_map.mp h
      exact Finset.mem_map.mpr ⟨Shape.reshapeEquiv (by decide : S2x144x512.numel = S1x2x144x512.numel) x, Finset.mem_univ _, rfl⟩
    · obtain ⟨x, -, rfl⟩ := Finset.mem_map.mp h
      have e := congrArg (fun y => (acc.view.slice (Rect.unit (s := S2x2x144x512) ![p.toNat, 0, 0, 0] S1x2x144x512.size (by cases p <;> decide))).emb y)
        (Equiv.apply_symm_apply (Shape.reshapeEquiv (by decide : S2x144x512.numel = S1x2x144x512.numel)) x)
      exact Finset.mem_map.mpr ⟨(Shape.reshapeEquiv (by decide : S2x144x512.numel = S1x2x144x512.numel)).symm x, Finset.mem_univ _, e⟩
  rw [e, e]
  exact View.disjoint_slice_of_sep acc.view _ _ (0 : Fin 4) rfl rfl (.inl (by decide))

theorem accM_sub (acc : Memref sig .tc .vmem S2x2x144x512 .f32) (p : Bool) : (accM acc p).view.set ⊆ acc.view.set := by
  intro i h
  obtain ⟨x, -, rfl⟩ := Finset.mem_map.mp h
  exact View.set_slice_subset _ (Rect.unit (s := S2x2x144x512) ![p.toNat, 0, 0, 0] S1x2x144x512.size (by cases p <;> decide))
    (Finset.mem_map.mpr ⟨Shape.reshapeEquiv (by decide : S2x144x512.numel = S1x2x144x512.numel) x, Finset.mem_univ _, rfl⟩)

/-- The accumulators' buffer handed out by parities, to be given back so. -/
theorem acc_split (acc : Memref sig .tc .vmem S2x2x144x512 .f32) (X : S2x2x144x512.Idx → Elt F .f32) :
    (owns (c : Thread nD τ) acc fullShare X : sProp 𝕄) ⊢ iprop((∃ Y, owns (c : Thread nD τ) (accM acc false) fullShare Y) ∗ (∃ Y, owns (c : Thread nD τ) (accM acc true) fullShare Y) ∗
      (∀ Y Y', owns (c : Thread nD τ) (accM acc false) fullShare Y -∗ owns (c : Thread nD τ) (accM acc true) fullShare Y' -∗ ∃ Z, owns (c : Thread nD τ) acc fullShare Z)) := by
  have hs : (accM acc true).view.set ⊆ acc.view.set \ (accM acc false).view.set := fun i hi =>
    Finset.mem_sdiff.mpr ⟨accM_sub acc true hi, fun h => Finset.disjoint_left.mp (accM_disjoint acc) h hi⟩
  unfold owns
  iintro ⟨%f, %hf, H⟩
  ihave H := (pointsTo_split_subset (accM_sub acc false)).1 $$ H
  icases H with ⟨H0, H⟩
  ihave H := (pointsTo_split_subset hs).1 $$ H
  icases H with ⟨H1, H⟩
  isplitl [H0]
  · iexists _; iexists f
    isplitr
    · ipureintro; rfl
    · iexact H0
  isplitl [H1]
  · iexists _; iexists f
    isplitr
    · ipureintro; rfl
    · iexact H1
  iintro %Y %Y' ⟨%g, %hg, H0⟩ ⟨%g', %hg', H1⟩
  ihave H := (pointsTo_join_subset (ℓ := acc.view.loc (c : Thread nD τ)) (I := (accM acc true).view.set) (S := acc.view.set \ (accM acc false).view.set) (g := g') (f := f) hs) $$ [H1 H]
  · isplitl [H1]
    · iexact H1
    · iexact H
  ihave H := (pointsTo_join_subset (ℓ := acc.view.loc (c : Thread nD τ)) (I := (accM acc false).view.set) (S := acc.view.set) (g := g) (accM_sub acc false)) $$ [H0 H]
  · isplitl [H0]
    · iexact H0
    · iexact H
  iexists _; iexists _
  isplitr
  swap
  · iexact H
  · ipureintro; rfl

theorem slope_read (m : Memref sig .tc .smem S8 .f32) (x0 : S8.Idx → Elt F .f32) (off : Fin 1 → ℕ) (hoff : ∀ a, off a + S1.size a ≤ S8.size a) :
    (m.access (Rect.unit (s := S8) off S1.size hoff)).read (Elt F) (m.view.rep x0) (Shape.Idx.first (s := (Rect.unit (s := S8) off S1.size hoff).shape) (by exact (by decide : 0 < S1.numel))) = slopeAt x0 off hoff := by
  have h := View.readAt_rep_unit (Val := Elt F) (s := S8) (off' := off) (size := S1.size) m.view x0 hoff rfl hoff
  rw [View.readAt_rect] at h
  exact congrFun h _

/-- All the buffers, one by one. -/
theorem held_eq (S : St F) : (held c B S : sProp 𝕄) =
    iprop(owns (c : Thread nD τ) B.q fullShare (S .q) ∗ owns (c : Thread nD τ) B.k fullShare (S .k) ∗ owns (c : Thread nD τ) B.v fullShare (S .v)
      ∗ owns (c : Thread nD τ) B.lq1 fullShare (S .lq1) ∗ owns (c : Thread nD τ) B.lk1 fullShare (S .lk1) ∗ owns (c : Thread nD τ) B.lq2 fullShare (S .lq2) ∗ owns (c : Thread nD τ) B.lk2 fullShare (S .lk2)
      ∗ owns (c : Thread nD τ) B.subln fullShare (S .subln) ∗ owns (c : Thread nD τ) B.out fullShare (S .out) ∗ owns (c : Thread nD τ) B.vt fullShare (S .vt)
      ∗ owns (c : Thread nD τ) B.mask fullShare (S .mask) ∗ owns (c : Thread nD τ) B.kaug fullShare (S .kaug)
      ∗ owns (c : Thread nD τ) B.sa fullShare (S (.s false)) ∗ owns (c : Thread nD τ) B.sb fullShare (S (.s true)) ∗ owns (c : Thread nD τ) B.ma fullShare (S (.mx false)) ∗ owns (c : Thread nD τ) B.mb fullShare (S (.mx true))
      ∗ owns (c : Thread nD τ) (accM B.acc false) fullShare (S (.acc false)) ∗ owns (c : Thread nD τ) (accM B.acc true) fullShare (S (.acc true)) ∗ emp) := rfl

set_option maxHeartbeats 1000000 in
/-- The body: it computes from its buffers' values, leaves the grid point's result in the output buffer and the tables in
    theirs, and finds the tables there if it does not store them itself. -/
theorem body_wp (l2e qs : F .f32) (off : Fin 1 → ℕ) (hoff : ∀ a, off a + S1.size a ≤ S8.size a) (b : Bool) (x0 : S8.Idx → F .f32) (I : In F)
    (hI2 : I.v2 = Scalar.mulf (slopeAt x0 off hoff) l2e) (hIq : I.qs = qs) (xm : S512x512.Idx → F .f32) (xa : S512x128.Idx → F .bf16)
    (hb : b = false → xm = maskB ∧ xa = kaugB) (E : Set Name) (K : PUnit → sProp 𝕄) :
    iprop(owns (c : Thread nD τ) B.slopes fullShare x0 ∗ owns (c : Thread nD τ) B.q fullShare I.q ∗ owns (c : Thread nD τ) B.k fullShare I.k ∗ owns (c : Thread nD τ) B.v fullShare I.v
      ∗ owns (c : Thread nD τ) B.lq1 fullShare I.lq1 ∗ owns (c : Thread nD τ) B.lk1 fullShare I.lk1 ∗ owns (c : Thread nD τ) B.lq2 fullShare I.lq2 ∗ owns (c : Thread nD τ) B.lk2 fullShare I.lk2
      ∗ owns (c : Thread nD τ) B.subln fullShare I.subln ∗ (∃ d, owns (c : Thread nD τ) B.out fullShare d) ∗ (∃ d, owns (c : Thread nD τ) B.vt fullShare d)
      ∗ owns (c : Thread nD τ) B.mask fullShare xm ∗ owns (c : Thread nD τ) B.kaug fullShare xa
      ∗ (∃ d, owns (c : Thread nD τ) B.sa fullShare d) ∗ (∃ d, owns (c : Thread nD τ) B.sb fullShare d) ∗ (∃ d, owns (c : Thread nD τ) B.ma fullShare d) ∗ (∃ d, owns (c : Thread nD τ) B.mb fullShare d)
      ∗ (∃ d, owns (c : Thread nD τ) B.acc fullShare d)
      ∗ (iprop(owns (c : Thread nD τ) B.slopes fullShare x0 ∗ owns (c : Thread nD τ) B.q fullShare I.q ∗ owns (c : Thread nD τ) B.k fullShare I.k ∗ owns (c : Thread nD τ) B.v fullShare I.v
        ∗ owns (c : Thread nD τ) B.lq1 fullShare I.lq1 ∗ owns (c : Thread nD τ) B.lk1 fullShare I.lk1 ∗ owns (c : Thread nD τ) B.lq2 fullShare I.lq2 ∗ owns (c : Thread nD τ) B.lk2 fullShare I.lk2
        ∗ owns (c : Thread nD τ) B.subln fullShare I.subln ∗ owns (c : Thread nD τ) B.out fullShare (outArr I) ∗ (∃ d, owns (c : Thread nD τ) B.vt fullShare d)
        ∗ owns (c : Thread nD τ) B.mask fullShare maskB ∗ owns (c : Thread nD τ) B.kaug fullShare kaugB
        ∗ (∃ d, owns (c : Thread nD τ) B.sa fullShare d) ∗ (∃ d, owns (c : Thread nD τ) B.sb fullShare d) ∗ (∃ d, owns (c : Thread nD τ) B.ma fullShare d) ∗ (∃ d, owns (c : Thread nD τ) B.mb fullShare d)
        ∗ (∃ d, owns (c : Thread nD τ) B.acc fullShare d)) -∗ K ⟨⟩))
      ⊢ wp frame (wpE defs 𝒱 (c : Thread nD τ) bd) E (body B l2e qs off hoff b) K := by
  obtain ⟨v2, qs', xq, xk, xv, x1, x2, x3, x4, xw⟩ := I
  dsimp only at hI2 hIq ⊢
  subst hI2 hIq
  iintro ⟨H0, Hq, Hk, Hv, H1, H2, H3, H4, Hw, ⟨%xo, Ho⟩, ⟨%xt, Hvt⟩, Hm, Ha, ⟨%xsa, Hsa⟩, ⟨%xsb, Hsb⟩, ⟨%xma, Hma⟩, ⟨%xmb, Hmb⟩, ⟨%xc, Hacc⟩, HK⟩
  ihave HA := (acc_split c B.acc xc) $$ Hacc
  icases HA with ⟨⟨%xc0, Hc0⟩, ⟨%xc1, Hc1⟩, Hback⟩
  ihave H0 := (rep_of_owns (c : Thread nD τ) B.slopes fullShare x0) $$ H0
  unfold body
  rw [wp_bind]
  unfold smemLoad
  iapply (wp_smemLoadElt 𝒱 (c : Thread nD τ) bd E (m := B.slopes) (r := Rect.unit (s := S8) off S1.size hoff) (S := B.slopes.view.set) (f := B.slopes.view.rep x0) (View.set_slice_subset _ _)) $$ H0
  iintro H0
  rw [wp_ret]
  imodintro
  rw [slope_read]
  obtain ⟨S', hR, hD⟩ := rest_run (τ := τ) (Ix := Ix) (Name := Name) (U := U) (Lvl := Lvl) (defs := defs) (𝒱 := 𝒱) (bd := bd) c B
    (I := ⟨Scalar.mulf (slopeAt x0 off hoff) l2e, qs', xq, xk, xv, x1, x2, x3, x4, xw⟩)
    (S := fun n => match n with
      | .q => xq | .k => xk | .v => xv | .lq1 => x1 | .lk1 => x2 | .lq2 => x3 | .lk2 => x4 | .subln => xw
      | .out => xo | .vt => xt | .mask => xm | .kaug => xa
      | .s false => xsa | .s true => xsb | .mx false => xma | .mx true => xmb | .acc false => xc0 | .acc true => xc1)
    ⟨rfl, rfl, rfl, rfl, rfl, rfl, rfl, rfl⟩ b hb
  iapply (hR E K)
  isplitl [Hq Hk Hv H1 H2 H3 H4 Hw Ho Hvt Hm Ha Hsa Hsb Hma Hmb Hc0 Hc1]
  · rw [held_eq]
    isplitl [Hq]; · iexact Hq
    isplitl [Hk]; · iexact Hk
    isplitl [Hv]; · iexact Hv
    isplitl [H1]; · iexact H1
    isplitl [H2]; · iexact H2
    isplitl [H3]; · iexact H3
    isplitl [H4]; · iexact H4
    isplitl [Hw]; · iexact Hw
    isplitl [Ho]; · iexact Ho
    isplitl [Hvt]; · iexact Hvt
    isplitl [Hm]; · iexact Hm
    isplitl [Ha]; · iexact Ha
    isplitl [Hsa]; · iexact Hsa
    isplitl [Hsb]; · iexact Hsb
    isplitl [Hma]; · iexact Hma
    isplitl [Hmb]; · iexact Hmb
    isplitl [Hc0]; · iexact Hc0
    isplitl [Hc1]; · iexact Hc1
    iempintro
  rw [held_eq]
  rw [hD.base.q, hD.base.k, hD.base.v, hD.base.lq1, hD.base.lk1, hD.base.lq2, hD.base.lk2, hD.base.subln, hD.base.mask, hD.base.kaug, out_eq hD.out]
  iintro ⟨Hq, Hk, Hv, H1, H2, H3, H4, Hw, Ho, Hvt, Hm, Ha, Hsa, Hsb, Hma, Hmb, Hc0, Hc1, -⟩
  iapply HK
  isplitl [H0]; · iapply (owns_of_rep (c : Thread nD τ) B.slopes fullShare x0) $$ H0
  isplitl [Hq]; · iexact Hq
  isplitl [Hk]; · iexact Hk
  isplitl [Hv]; · iexact Hv
  isplitl [H1]; · iexact H1
  isplitl [H2]; · iexact H2
  isplitl [H3]; · iexact H3
  isplitl [H4]; · iexact H4
  isplitl [Hw]; · iexact Hw
  isplitl [Ho]; · iexact Ho
  isplitl [Hvt]; · iexists _; iexact Hvt
  isplitl [Hm]; · iexact Hm
  isplitl [Ha]; · iexact Ha
  isplitl [Hsa]; · iexists _; iexact Hsa
  isplitl [Hsb]; · iexists _; iexact Hsb
  isplitl [Hma]; · iexists _; iexact Hma
  isplitl [Hmb]; · iexists _; iexact Hmb
  iapply Hback $$ %_ %_ Hc0 Hc1

end DiffAttn

end
-- ==== Proof.BodyKI.lean ====
/-
  The printed kernel body of `KernelIdeal` is the structured program of `Ops`: at the first grid point with the mask and the
  position columns written, at the others without.
-/
module

public import proofs.«01_k».proof.Proof.Ops
public import proofs.«01_k».proof.KernelIdeal
public import Idealize.ShloMosaic.Lib.Tactic

@[expose] public section

set_option maxRecDepth 65536

noncomputable section

namespace Cert.KernelIdeal

open Idealize.ShloMosaic Idealize.SL.Sem

variable {F : FTy → Type} [FloatOps F] [Named F]
variable [Facts]

/-- The test of the first grid point, as the program computes it. -/
def firstTest (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The buffers of the launch, as the stages name them. -/
abbrev bufs (arg2 : Memref sig .tc .smem S8 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x4096x128 .bf16) (harg11 : arg11.IsWhole) (arg12 : Memref sig .tc .vmem S8x144x512 .bf16) (harg12 : arg12.IsWhole) (arg13 : Memref sig .tc .vmem S512x512 .f32) (harg13 : arg13.IsWhole) (arg14 : Memref sig .tc .vmem S512x128 .bf16) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole) (arg19 : Memref sig .tc .vmem S2x2x144x512 .f32) (harg19 : arg19.IsWhole) : DiffAttn.Bufs sig :=
  ⟨arg2, arg3, arg4, arg5, arg6, arg7, arg8, arg9, arg10, arg11, harg11, arg12, harg12, arg13, arg14, harg14, arg15, arg16, arg17, arg18, arg19⟩

set_option maxHeartbeats 0 in
theorem body_first (i : grid0.Coords) (arg2 : Memref sig .tc .smem S8 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x4096x128 .bf16) (harg11 : arg11.IsWhole) (arg12 : Memref sig .tc .vmem S8x144x512 .bf16) (harg12 : arg12.IsWhole) (arg13 : Memref sig .tc .vmem S512x512 .f32) (harg13 : arg13.IsWhole) (arg14 : Memref sig .tc .vmem S512x128 .bf16) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole) (arg19 : Memref sig .tc .vmem S2x2x144x512 .f32) (harg19 : arg19.IsWhole) (h : firstTest i = 1#1) :
    cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = DiffAttn.body (bufs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (Named.named κ "log2e" 0x3FB8AA3B#32) (Named.named κ "qscale" 0x3E38AA3B#32) (k0_off1 i) (Facts₀.k0_off1_inb i) true := by
  unfold firstTest at h
  unfold cc0_diff_attn k0_part133 k0_part124 k0_part132 k0_part7
  simp only [dif_pos h, Scf.Loop.for, Scf.for_eq]
  sl_kernel_rfl

set_option maxHeartbeats 0 in
theorem body_later (i : grid0.Coords) (arg2 : Memref sig .tc .smem S8 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x1 .f32) (harg10 : arg10.IsWhole) (arg11 : Memref sig .tc .vmem S1x4096x128 .bf16) (harg11 : arg11.IsWhole) (arg12 : Memref sig .tc .vmem S8x144x512 .bf16) (harg12 : arg12.IsWhole) (arg13 : Memref sig .tc .vmem S512x512 .f32) (harg13 : arg13.IsWhole) (arg14 : Memref sig .tc .vmem S512x128 .bf16) (harg14 : arg14.IsWhole) (arg15 : Memref sig .tc .vmem S2x512x512 .f32) (harg15 : arg15.IsWhole) (arg16 : Memref sig .tc .vmem S2x512x512 .f32) (harg16 : arg16.IsWhole) (arg17 : Memref sig .tc .vmem S2x1x512 .f32) (harg17 : arg17.IsWhole) (arg18 : Memref sig .tc .vmem S2x1x512 .f32) (harg18 : arg18.IsWhole) (arg19 : Memref sig .tc .vmem S2x2x144x512 .f32) (harg19 : arg19.IsWhole) (h : ¬ firstTest i = 1#1) :
    cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = DiffAttn.body (bufs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (Named.named κ "log2e" 0x3FB8AA3B#32) (Named.named κ "qscale" 0x3E38AA3B#32) (k0_off1 i) (Facts₀.k0_off1_inb i) false := by
  unfold firstTest at h
  unfold cc0_diff_attn k0_part133 k0_part124 k0_part132 k0_part7
  simp only [dif_neg h, Scf.Loop.for, Scf.for_eq]
  sl_kernel_rfl

end Cert.KernelIdeal

end
-- ==== Proof.RunKI.lean ====
/-
  The launch with its values: what every grid point leaves in the output buffer, the invariant of the scratch buffers (the
  tables of mask and key bias are in theirs after the first point), the body obligation, and from them the run and the frame.
-/
module

public import proofs.«01_k».proof.Proof.BodyKI
public import proofs.«01_k».proof.Proof.Whole
public import proofs.«01_k».proof.Proof.Gen.KernelIdeal.Frame.Runs
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the grid point computes from: its blocks of the arguments. -/
def inAt (c : Dev nD) (t : Fin cfg0.N) : DiffAttn.In F :=
  DiffAttn.inOf (Named.named κ "log2e" 0x3FB8AA3B#32) (Named.named κ "qscale" 0x3E38AA3B#32) (k0_off1 (grid0.coords t)) (Facts₀.k0_off1_inb (grid0.coords t))
    (iblk m c 0 t) (iblk m c 1 t) (iblk m c 2 t) (iblk m c 3 t) (iblk m c 4 t) (iblk m c 5 t) (iblk m c 6 t) (iblk m c 7 t) (iblk m c 8 t)

/-- The grid point's result. -/
def resAt (c : Dev nD) (t : Fin cfg0.N) : Vec F S1x4096x128 .bf16 := DiffAttn.outArr (inAt m c t)

/-- The scratch buffers after a point: the tables at their values, the others at anything. -/
def Scr (c : Dev nD) (xm : Vec F S512x512 .f32) (xa : Vec F S512x128 .bf16) : sProp 𝕄 :=
  iprop(iprop((∃ d, owns (c : Thread nD τ) scM0_0 fullShare d) ∗ owns (c : Thread nD τ) scM0_1 fullShare xm ∗ owns (c : Thread nD τ) scM0_2 fullShare xa
    ∗ (∃ d, owns (c : Thread nD τ) scM0_3 fullShare d) ∗ (∃ d, owns (c : Thread nD τ) scM0_4 fullShare d) ∗ (∃ d, owns (c : Thread nD τ) scM0_5 fullShare d)
    ∗ (∃ d, owns (c : Thread nD τ) scM0_6 fullShare d) ∗ (∃ d, owns (c : Thread nD τ) scM0_7 fullShare d)) ∗ (∃ r, prngReg c r))

/-- The invariant before the point `n`. -/
def Inv (c : Dev nD) : ℕ → sProp 𝕄
  | 0 => Pipeline.ΦA spec0 c
  | _ + 1 => Scr c DiffAttn.maskB DiffAttn.kaugB

/-- The pipeline's data: each input's buffer at its block after every point, the output's at the point's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => resAt m c t
  Φ t := Inv c t.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = resAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d

/-- Before any point the scratch buffers are held, the tables at their values but at the first. -/
theorem inv_open (c : Dev nD) (n : ℕ) :
    (Inv c n : sProp 𝕄) ⊢ iprop(∃ xm xa, ⌜n ≠ 0 → xm = DiffAttn.maskB ∧ xa = DiffAttn.kaugB⌝ ∗ Scr c xm xa) := by
  cases n with
  | zero =>
    rw [show (Inv c 0 : sProp 𝕄) = Pipeline.ΦA spec0 c from rfl, PhiA0_eq]
    unfold Scr
    iintro ⟨⟨HS0, ⟨%xm, HS1⟩, ⟨%xa, HS2⟩, HS3, HS4, HS5, HS6, HS7⟩, Hg⟩
    iexists xm, xa
    isplitr
    · ipureintro; exact fun h => absurd rfl h
    isplitr [Hg]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  | succ n =>
    rw [show (Inv c (n + 1) : sProp 𝕄) = Scr c DiffAttn.maskB DiffAttn.kaugB from rfl]
    iintro H
    iexists _, _
    isplitr
    swap
    · iexact H
    · ipureintro; exact fun _ => ⟨rfl, rfl⟩

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- The buffers of a grid point. -/
abbrev bufsAt (t : Fin cfg0.N) : DiffAttn.Bufs sig :=
  bufs (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)

/-- The body at a point is the program of the stages. -/
theorem bodyAt_eq (t : Fin cfg0.N) :
    bodyAt0 (F := F) t = DiffAttn.body (bufsAt t) (Named.named κ "log2e" 0x3FB8AA3B#32) (Named.named κ "qscale" 0x3E38AA3B#32) (k0_off1 (grid0.coords t)) (Facts₀.k0_off1_inb (grid0.coords t)) (decide (t.val = 0)) := by
  have hN : t.val < 32 := lt_of_lt_of_eq t.isLt (show cfg0.N = 32 from N_0)
  unfold bodyAt0
  by_cases h : t.val = 0
  · rw [decide_eq_true h]
    exact body_first (F := F) (grid0.coords t) _ _ _ _ _ _ _ _ _ _ _ _ _ _ _ _ _ _ _ _ _ _ _ _ _ _ _ _ _ _ _ _ _ _ _ _ ((hcond0_0 t).mpr (by omega))
  · rw [decide_eq_false h]
    exact body_later (F := F) (grid0.coords t) _ _ _ _ _ _ _ _ _ _ _ _ _ _ _ _ _ _ _ _ _ _ _ _ _ _ _ _ _ _ _ _ _ _ _ _ (fun e => h (by have := (hcond0_0 t).mp e; omega))

theorem sound_body (c : Dev nD) (t : Fin cfg0.N) :
    bodyPre m c t ⊢ wp frame (wpE (defs₀ (F := F)) Variants.none c none) Set.univ (bodyAt0 t) (fun _ => bodyPost m c t) := by
  rw [bodyAt_eq]
  unfold bodyPre bodyPost
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8, after_9]
  rw [show (dats m 0 c).Φ t.succ = Scr c DiffAttn.maskB DiffAttn.kaugB from rfl, show (dats m 0 c).Φ t.castSucc = Inv c t.val from rfl]
  iintro ⟨HI, Hw, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HI := (inv_open c t.val) $$ HI
  icases HI with ⟨%xm, %xa, %hx, HI⟩
  unfold Scr
  icases HI with ⟨⟨HS0, HS1, HS2, HS3, HS4, HS5, HS6, HS7⟩, Hg⟩
  iapply (DiffAttn.body_wp c (bufsAt t) _ _ _ _ _ (iblk m c 0 t) (inAt m c t) rfl rfl xm xa (fun h => hx (of_decide_eq_false h)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, HS0, HS1, HS2, HS3, HS4, HS5, HS6, HS7⟩
  isplitl [HS0 HS1 HS2 HS3 HS4 HS5 HS6 HS7 Hg]
  · isplitr [Hg]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    iexact Hg
  isplitl [Hw]; · iexact Hw
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = Inv c (Fin.last cfg0.N).val from rfl, PhiA0_eq]
  iintro HI
  ihave HI := (inv_open c (Fin.last cfg0.N).val) $$ HI
  icases HI with ⟨%xm, %xa, %hx, HI⟩
  unfold Scr
  icases HI with ⟨⟨HS0, HS1, HS2, HS3, HS4, HS5, HS6, HS7⟩, Hg⟩
  isplitr [Hg]
  · isplitl [HS0]; · iexact HS0
    isplitl [HS1]; · iexists _; iexact HS1
    isplitl [HS2]; · iexists _; iexact HS2
    isplitl [HS3]; · iexact HS3
    isplitl [HS4]; · iexact HS4
    isplitl [HS5]; · iexact HS5
    isplitl [HS6]; · iexact HS6
    iexact HS7
  iexact Hg

set_option backward.isDefEq.respectTransparency.types false in
/-- The launch, with every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Args.lean ====
/-
  The kernel's blocks at a grid point, read as entries of the program's arguments.
-/
module

public import proofs.«01_k».proof.Proof.RunKI
public import Idealize.ShloMosaic.Lib.Pipeline.ValueKit

@[expose] public section

set_option maxRecDepth 16384

noncomputable section

namespace Cert.KernelIdeal.Run

open Cert.KernelIdeal.Gen
open Idealize.ShloMosaic Idealize.ShloMosaic.TcCoe
open Idealize.SL.Sem

variable {F : FTy → Type} [FloatOps F] [Named F]
variable (m : (ℓ : Loc nD τ sig) → Buf (Elt F) ℓ)

theorem idx_facts : ∀ t : Fin cfg0.N, win0_0.index t = ![0] ∧ win0_1.index t = ![t.val / 8, 0, t.val % 8] ∧ win0_2.index t = ![t.val / 8, 0, 8 + t.val % 8] ∧
    win0_3.index t = ![t.val / 8, 0, 16 + t.val % 8] ∧ win0_4.index t = ![0, 0] ∧ win0_5.index t = ![0, 0] ∧ win0_6.index t = ![0, 0] ∧
    win0_7.index t = ![0, 0] ∧ win0_8.index t = ![0, 0] ∧ win0_9.index t = ![t.val / 8, 0, t.val % 8] :=
  (by decide +kernel : ∀ t : Fin grid0.N, _)

theorem q_apply (c : Dev nD) (t : Fin cfg0.N) (b : Fin 4) (h : Fin 8) (hb : t.val / 8 = b) (hh : t.val % 8 = h) (n : Fin 4096) (d : Fin 128) :
    iblk m c 1 t (ix3 0 n d) = m ((c : Thread nD τ).loc main_arg0) (ix3 b n ⟨128 * h + d, by omega⟩) := by
  obtain ⟨e0, e1, e2, e3, e4, e5, e6, e7, e8, e9⟩ := idx_facts t
  blk_ext [iblk, V, e1]

theorem k_apply (c : Dev nD) (t : Fin cfg0.N) (b : Fin 4) (h : Fin 8) (hb : t.val / 8 = b) (hh : t.val % 8 = h) (n : Fin 4096) (d : Fin 128) :
    iblk m c 2 t (ix3 0 n d) = m ((c : Thread nD τ).loc main_arg0) (ix3 b n ⟨1024 + 128 * h + d, by omega⟩) := by
  obtain ⟨e0, e1, e2, e3, e4, e5, e6, e7, e8, e9⟩ := idx_facts t
  blk_ext [iblk, V, e2]

theorem v_apply (c : Dev nD) (t : Fin cfg0.N) (b : Fin 4) (h : Fin 8) (hb : t.val / 8 = b) (hh : t.val % 8 = h) (n : Fin 4096) (d : Fin 128) :
    iblk m c 3 t (ix3 0 n d) = m ((c : Thread nD τ).loc main_arg0) (ix3 b n ⟨2048 + 128 * h + d, by omega⟩) := by
  obtain ⟨e0, e1, e2, e3, e4, e5, e6, e7, e8, e9⟩ := idx_facts t
  blk_ext [iblk, V, e3]

theorem lq1_apply (c : Dev nD) (t : Fin cfg0.N) (x : Fin 64) : iblk m c 4 t (ix2 0 x) = m ((c : Thread nD τ).loc main_arg1) (ix2 0 x) := by
  obtain ⟨e0, e1, e2, e3, e4, e5, e6, e7, e8, e9⟩ := idx_facts t
  blk_point [iblk, V, e4]

theorem lk1_apply (c : Dev nD) (t : Fin cfg0.N) (x : Fin 64) : iblk m c 5 t (ix2 0 x) = m ((c : Thread nD τ).loc main_arg2) (ix2 0 x) := by
  obtain ⟨e0, e1, e2, e3, e4, e5, e6, e7, e8, e9⟩ := idx_facts t
  blk_point [iblk, V, e5]

theorem lq2_apply (c : Dev nD) (t : Fin cfg0.N) (x : Fin 64) : iblk m c 6 t (ix2 0 x) = m ((c : Thread nD τ).loc main_arg3) (ix2 0 x) := by
  obtain ⟨e0, e1, e2, e3, e4, e5, e6, e7, e8, e9⟩ := idx_facts t
  blk_point [iblk, V, e6]

theorem lk2_apply (c : Dev nD) (t : Fin cfg0.N) (x : Fin 64) : iblk m c 7 t (ix2 0 x) = m ((c : Thread nD τ).loc main_arg4) (ix2 0 x) := by
  obtain ⟨e0, e1, e2, e3, e4, e5, e6, e7, e8, e9⟩ := idx_facts t
  blk_point [iblk, V, e7]

theorem w_apply (c : Dev nD) (t : Fin cfg0.N) (d : Fin 128) : iblk m c 8 t (ix2 d 0) = m ((c : Thread nD τ).loc main_arg5) (ix2 0 d) := by
  obtain ⟨e0, e1, e2, e3, e4, e5, e6, e7, e8, e9⟩ := idx_facts t
  blk_point [iblk, V, e8]

theorem slope_apply (c : Dev nD) (t : Fin cfg0.N) (h : Fin 8) : iblk m c 0 t (ix1 h) = FloatOps.ofBits .f32 (lit0 h) := by
  obtain ⟨e0, e1, e2, e3, e4, e5, e6, e7, e8, e9⟩ := idx_facts t
  have e : (win0_0.blk t).view.emb (ix1 h) = ix1 h := by blk_ext [e0]
  have e' : ∀ h : Fin 8, (S8.rowMajor (ix1 h)).val = h.val := by decide
  show FloatOps.ofBits .f32 (lit0 (S8.rowMajor ((win0_0.blk t).view.emb (ix1 h)))) = _
  rw [e]
  exact congrArg (fun i => FloatOps.ofBits .f32 (lit0 i)) (Fin.ext (e' h))

/-- The grid point of batch `b` and head pair `h`. -/
def ptOf (b : Fin 4) (h : Fin 8) : Fin cfg0.N := ⟨8 * b + h, lt_of_lt_of_eq (by omega : 8 * (b : ℕ) + h < 32) (show cfg0.N = 32 from N_0).symm⟩

theorem ptOf_div (b : Fin 4) (h : Fin 8) : (ptOf b h).val / 8 = b := by show (8 * (b : ℕ) + h) / 8 = b; omega
theorem ptOf_mod (b : Fin 4) (h : Fin 8) : (ptOf b h).val % 8 = h := by show (8 * (b : ℕ) + h) % 8 = h; omega

/-- The result array: an entry of batch `b` and column `j` is the result of head pair `j / 128`. -/
def outG (c : Dev nD) : S4x4096x1024.Idx → Elt F .bf16 := fun y =>
  resAt m c (ptOf (y 0) ⟨(y 2).val / 128, by have h := (y 2).isLt; change (y 2).val < 1024 at h; omega⟩) (ix3 0 (y 1) ⟨(y 2).val % 128, Nat.mod_lt _ (by decide)⟩)

theorem final (c : Dev nD) : (dats m 0 c).arrAt 9 cfg0.N = outG m c := by
  refine (dats m 0 c).arrAt_eq_of_covers 9 _ (by decide +kernel) fun t hf y => ?_
  obtain ⟨e0, e1, e2, e3, e4, e5, e6, e7, e8, e9⟩ := idx_facts t
  blk_simp
  rw [after_9]
  unfold outG
  have ht : t.val < 32 := lt_of_lt_of_eq t.isLt (show cfg0.N = 32 from N_0)
  idx_bounds y
  have h0 : ((win0_9.blk t).view.emb y 0).val = t.val / 8 := by blk_simp [e9]
  have h1 : ((win0_9.blk t).view.emb y 1).val = (y 1).val := by blk_simp [e9]
  have h2 : ((win0_9.blk t).view.emb y 2).val = t.val % 8 * 128 + (y 2).val := by blk_simp [e9]
  refine congrArg₂ (resAt m c) (Fin.ext ?_) (funext fun a => Fin.ext ?_)
  · show t.val = 8 * ((win0_9.blk t).view.emb y 0).val + ((win0_9.blk t).view.emb y 2).val / 128
    omega
  · match a with
    | ⟨0, _⟩ => show (y 0).val = 0; omega
    | ⟨1, _⟩ => exact h1.symm
    | ⟨2, _⟩ => show (y 2).val = ((win0_9.blk t).view.emb y 2).val % 128; omega

end Cert.KernelIdeal.Run

end
-- ==== Proof.Soft.lean ====
/-
  The arithmetic of a softmax over extended reals: a maximum of finite scores is finite, a masked score has weight zero,
  a running sum of weights taken against a growing maximum, and the ratio of two such sums, which no longer depends on
  the maximum. Nothing here names a program.
-/
module

public import Idealize.ShloMosaic.PureOps.Ideal

@[expose] public section

noncomputable section

namespace DiffAttn

open Idealize.ShloMosaic

/-- A sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The weight of a score in base two. -/
def pow2 (x : ℝ) : ℝ := Real.rpow 2 x

theorem pow2_pos (x : ℝ) : 0 < pow2 x := Real.rpow_pos_of_pos (by norm_num) x

theorem pow2_add (x y : ℝ) : pow2 (x + y) = pow2 x * pow2 y := Real.rpow_add (by norm_num) x y

theorem exp2_real (x : ℝ) : Ideal.exp2 (x : EReal) = (pow2 x : EReal) := rfl

/-- The greatest of finitely many scores is a real if none is plus infinity and one is not minus infinity. -/
theorem fold_max_real {ι : Type} (s : Finset ι) (f : ι → EReal) (h : ∀ i ∈ s, f i ≠ ⊤) (i : ι) (hi : i ∈ s) (hf : f i ≠ ⊥) :
    ∃ m : ℝ, s.fold max ⊥ f = (m : EReal) := by
  have h1 : s.fold max ⊥ f < ⊤ := (Finset.fold_max_lt ⊤).2 ⟨bot_lt_top, fun x hx => lt_top_iff_ne_top.2 (h x hx)⟩
  have h2 : f i ≤ s.fold max ⊥ f := (Finset.le_fold_max _).2 (.inr ⟨i, hi, le_rfl⟩)
  exact ⟨_, (EReal.coe_toReal h1.ne (fun hb => hf (le_bot_iff.1 (hb ▸ h2)))).symm⟩

/-- The greater of two finite scores is finite; so it is of minus infinity and a finite one. -/
theorem max_real (st : EReal) (h : st = ⊥ ∨ ∃ M : ℝ, st = M) (m : ℝ) : ∃ n : ℝ, max st (m : EReal) = n := by
  rcases h with rfl | ⟨M, rfl⟩
  · exact ⟨m, max_eq_right bot_le⟩
  · exact ⟨max M m, (EReal.coe_strictMono.monotone.map_max (a := M) (b := m)).symm⟩

/-- A running sum of weighted values after the first `N` scores: its maximum is not started, or is a real against which the
    weights are taken. -/
def Running (S : ℕ → ℝ) (V : ℕ → ℝ) (N : ℕ) (st a : EReal) : Prop :=
  (st = ⊥ ∧ N = 0 ∧ a = 0) ∨ ∃ M : ℝ, st = M ∧ a = ((∑ t ∈ Finset.range N, pow2 (S t - M) * V t : ℝ) : EReal)

theorem Running.stat {S V : ℕ → ℝ} {N : ℕ} {st a : EReal} (h : Running S V N st a) : st = ⊥ ∨ ∃ M : ℝ, st = M := by
  rcases h with ⟨h, _⟩ | ⟨M, h, _⟩
  · exact .inl h
  · exact .inr ⟨M, h⟩

/-- Taking the sum against another real. -/
theorem Running.scale {S V : ℕ → ℝ} {N : ℕ} {st a : EReal} (h : Running S V N st a) (n : ℝ) :
    Ideal.exp2 (st - (n : EReal)) * a = ((∑ t ∈ Finset.range N, pow2 (S t - n) * V t : ℝ) : EReal) := by
  rcases h with ⟨rfl, rfl, rfl⟩ | ⟨M, rfl, rfl⟩
  · simp
  · rw [← EReal.coe_sub, exp2_real, ← EReal.coe_mul, Finset.mul_sum]
    congr 1
    refine Finset.sum_congr rfl fun t _ => ?_
    rw [← mul_assoc, ← pow2_add]
    congr 2; ring

/-- A sum over the positions not after `c` stops at `c`. -/
theorem sum_le (K c : ℕ) (hc : c < K) (f : ℕ → ℝ) :
    ∑ x : Fin K, (if (x : ℕ) ≤ c then f x else 0) = ∑ t ∈ Finset.range (c + 1), f t := by
  rw [Fin.sum_univ_eq_sum_range (fun t => if t ≤ c then f t else 0) K, ← Finset.sum_filter]
  congr 1
  ext t; simp only [Finset.mem_filter, Finset.mem_range]; omega

/-- The next `K` scores join a running sum. -/
theorem Running.block {S V : ℕ → ℝ} {N : ℕ} {st a : EReal} (h : Running S V N st a) (n : ℝ) (K : ℕ) (g : Fin K → EReal)
    (hg : ∀ x : Fin K, g x = ((V (N + x) * pow2 (S (N + x) - n) : ℝ) : EReal)) :
    Running S V (N + K) (n : EReal) (Ideal.exp2 (st - (n : EReal)) * a + ∑ x, g x) := by
  refine .inr ⟨n, rfl, ?_⟩
  rw [h.scale n, Finset.sum_congr rfl fun x _ => hg x, ← coe_sum, ← EReal.coe_add, Finset.sum_range_add,
    Fin.sum_univ_eq_sum_range (fun x => V (N + x) * pow2 (S (N + x) - n)) K]
  congr 2
  exact Finset.sum_congr rfl fun t _ => mul_comm _ _

/-- The same up to the position `c` of the next `K` scores, the rest being masked. -/
theorem Running.masked {S V : ℕ → ℝ} {N : ℕ} {st a : EReal} (h : Running S V N st a) (n : ℝ) (K c : ℕ) (hc : c < K) (g : Fin K → EReal)
    (hg : ∀ x : Fin K, g x = (((if (x : ℕ) ≤ c then V (N + x) * pow2 (S (N + x) - n) else 0) : ℝ) : EReal)) :
    Running S V (N + c + 1) (n : EReal) (Ideal.exp2 (st - (n : EReal)) * a + ∑ x, g x) := by
  refine .inr ⟨n, rfl, ?_⟩
  rw [h.scale n, Finset.sum_congr rfl fun x _ => hg x, ← coe_sum, ← EReal.coe_add, add_assoc N c 1, Finset.sum_range_add,
    sum_le K c hc (fun x => V (N + x) * pow2 (S (N + x) - n))]
  congr 2
  exact Finset.sum_congr rfl fun t _ => mul_comm _ _

/-- The mean of the values under the softmax of the first `n + 1` scores, in base two. -/
def attn (S V : ℕ → ℝ) (n : ℕ) : ℝ := (∑ t ∈ Finset.range (n + 1), pow2 (S t) * V t) / ∑ t ∈ Finset.range (n + 1), pow2 (S t)

theorem weights_pos (S : ℕ → ℝ) (n : ℕ) : 0 < ∑ t ∈ Finset.range (n + 1), pow2 (S t) :=
  Finset.sum_pos (fun t _ => pow2_pos _) ⟨0, Finset.mem_range.2 (Nat.succ_pos n)⟩

/-- A number added to every score does not change the softmax. -/
theorem attn_shift (S V : ℕ → ℝ) (n : ℕ) (a : ℝ) : attn (fun t => S t + a) V n = attn S V n := by
  unfold attn
  simp only [pow2_add]
  rw [← Finset.sum_mul, Finset.sum_congr rfl (fun t _ => (by ring : pow2 (S t) * pow2 a * V t = pow2 (S t) * V t * pow2 a)), ← Finset.sum_mul]
  exact mul_div_mul_right _ _ (pow2_pos a).ne'

/-- The ratio of the sum of the weighted values to the sum of the weights. -/
theorem Running.ratio {S V : ℕ → ℝ} {n : ℕ} {st a b : EReal} (ha : Running S V (n + 1) st a) (hb : Running S (fun _ => 1) (n + 1) st b) :
    Ideal.div a b = (attn S V n : EReal) := by
  rcases ha with ⟨_, h, _⟩ | ⟨M, rfl, rfl⟩
  · omega
  rcases hb with ⟨_, h, _⟩ | ⟨M', hM, rfl⟩
  · omega
  obtain rfl : M = M' := EReal.coe_injective hM
  simp only [mul_one]
  have h : (∑ t ∈ Finset.range (n + 1), pow2 (S t - M)) ≠ 0 := (weights_pos (fun t => S t - M) n).ne'
  rw [Ideal.div_coe h, ← EReal.coe_mul, mul_one_div]
  congr 1
  exact attn_shift S V n (-M)

end DiffAttn

end
-- ==== Proof.Cols.lean ====
/-
  The position bias of the scores over the extended reals: the key side is the position split at its remainder modulo 256,
  the query side is the slope on two rows, and their contraction is the slope times the position.
-/
module

public import proofs.«01_k».proof.Proof.Chunk
public import proofs.«01_k».proof.Proof.Soft
public import Idealize.ShloMosaic.Lib.Pointwise

@[expose] public section

set_option maxRecDepth 16384

noncomputable section

namespace DiffAttn

open Idealize.ShloMosaic Idealize.SL.Sem

/-! ## The position bias -/

/-- The remainder of a row number, as the program spells it. -/
theorem mod256_row (r : Fin 512) (c : Fin 128) :
    mod256 (iota .tc S512x128 32 [0] (by decide)) (ix2 r c) = BitVec.ofNat 32 ((r : ℕ) % 256) := by
  pointwise [mod256]
  revert r
  decide +kernel

theorem kaug_apply (r : Fin 512) (c : Fin 128) : kaugV (F := Ideal) (ix2 r c) =
    (((if (c : ℕ) < 3 then (((r : ℕ) % 256 : ℕ) : ℝ) else if (c : ℕ) < 6 then ((r : ℕ) : ℝ) - (((r : ℕ) % 256 : ℕ) : ℝ) else 0) : ℝ) : EReal) := by
  have hm := mod256_row r c
  have h3 : ∀ c : Fin 128, IntOp.cmpi CmpIPredicate.slt (BitVec.ofNat 32 (c : ℕ)) 3#32 = if (c : ℕ) < 3 then 1#1 else 0#1 := by decide +kernel
  have h6 : ∀ c : Fin 128, IntOp.cmpi CmpIPredicate.slt (BitVec.ofNat 32 (c : ℕ)) 6#32 = if (c : ℕ) < 6 then 1#1 else 0#1 := by decide +kernel
  have hr : ∀ r : Fin 512, (BitVec.ofNat 32 ((r : ℕ) % 256)).toInt = (((r : ℕ) % 256 : ℕ) : ℤ) := by decide +kernel
  have hs : ∀ r : Fin 512, (IntOp.subi (BitVec.ofNat 32 (r : ℕ)) (BitVec.ofNat 32 ((r : ℕ) % 256))).toInt = ((r : ℕ) : ℤ) - (((r : ℕ) % 256 : ℕ) : ℤ) := by decide +kernel
  replace hr := hr r
  replace hs := hs r
  pointwise [kaugV, hm, h3, h6]
  clear hm
  generalize ((r : ℕ) % 256) = m at *
  split_ifs <;> simp [Scalar.select, hr, hs, FloatOps.sitofp]

theorem waug_apply (v : ℝ) (r : Fin 128) (c : Fin 512) : waugV (F := Ideal) (v : EReal) (ix2 r c) =
    (((if (r : ℕ) = 0 ∨ (r : ℕ) = 3 then v else 0) : ℝ) : EReal) := by
  have hz : (v : EReal) - v = 0 := by rw [← EReal.coe_sub, sub_self]; rfl
  have h : ∀ r : Fin 128, IntOp.ori (IntOp.cmpi CmpIPredicate.eq (BitVec.ofNat 32 (r : ℕ)) 0#32) (IntOp.cmpi CmpIPredicate.eq (BitVec.ofNat 32 (r : ℕ)) 3#32) =
    if (r : ℕ) = 0 ∨ (r : ℕ) = 3 then 1#1 else 0#1 := by decide +kernel
  have h1 : ∀ r : Fin 128, IntOp.ori (IntOp.cmpi CmpIPredicate.eq (BitVec.ofNat 32 (r : ℕ)) 1#32) (IntOp.cmpi CmpIPredicate.eq (BitVec.ofNat 32 (r : ℕ)) 4#32) =
    if (r : ℕ) = 1 ∨ (r : ℕ) = 4 then 1#1 else 0#1 := by decide +kernel
  have h2 : ∀ r : Fin 128, IntOp.ori (IntOp.cmpi CmpIPredicate.eq (BitVec.ofNat 32 (r : ℕ)) 2#32) (IntOp.cmpi CmpIPredicate.eq (BitVec.ofNat 32 (r : ℕ)) 5#32) =
    if (r : ℕ) = 2 ∨ (r : ℕ) = 5 then 1#1 else 0#1 := by decide +kernel
  pointwise [waugV, hz, h, h1, h2]
  split_ifs <;> simp [Scalar.select] <;> omega

theorem bias_sum (v : ℝ) (r : Fin 512) (c : Fin 512) :
    ∑ x : Fin 128, kaugV (F := Ideal) (ix2 r x) * waugV (F := Ideal) (v : EReal) (ix2 x c) = ((v * (r : ℕ) : ℝ) : EReal) := by
  simp only [kaug_apply, waug_apply, ← EReal.coe_mul]
  rw [← coe_sum]
  congr 1
  have h : ∀ x : Fin 128, (if (x : ℕ) < 3 then (((r : ℕ) % 256 : ℕ) : ℝ) else if (x : ℕ) < 6 then ((r : ℕ) : ℝ) - (((r : ℕ) % 256 : ℕ) : ℝ) else 0) *
      (if (x : ℕ) = 0 ∨ (x : ℕ) = 3 then v else 0) =
      (if x = 0 then (((r : ℕ) % 256 : ℕ) : ℝ) * v else 0) + (if x = 3 then (((r : ℕ) : ℝ) - (((r : ℕ) % 256 : ℕ) : ℝ)) * v else 0) := by
    intro x
    by_cases h0 : x = 0
    · subst h0; simp
    by_cases h3 : x = 3
    · subst h3; simp
    have e0 : (x : ℕ) ≠ 0 := fun h => h0 (Fin.ext h)
    have e3 : (x : ℕ) ≠ 3 := fun h => h3 (Fin.ext h)
    simp [h0, h3, e0, e3]
  rw [Finset.sum_congr rfl fun x _ => h x, Finset.sum_add_distrib, Finset.sum_ite_eq', Finset.sum_ite_eq', if_pos (Finset.mem_univ _), if_pos (Finset.mem_univ _)]
  ring

end DiffAttn

end
-- ==== Proof.Scores.lean ====
/-
  The scores of the kernel, entry by entry, over the reals: what a grid point has loaded as arrays of reals, the scores of
  a key block before the diagonal, and the masked scores of the two halves of the diagonal block.
-/
module

public import proofs.«01_k».proof.Proof.Cols

@[expose] public section

set_option maxRecDepth 16384

noncomputable section

namespace DiffAttn

open Idealize.ShloMosaic Idealize.SL.Sem VecWindow

theorem window_ix2 {α : Type} {n0 n1 m0 m1 : ℕ} (x : (⟨2, ![n0, n1]⟩ : Shape).Idx → α) (o0 o1 : ℕ)
    (inb : ∀ a, (![o0, o1] : Fin 2 → ℕ) a + (![m0, m1] : Fin 2 → ℕ) a ≤ (![n0, n1] : Fin 2 → ℕ) a) (i : Fin m0) (j : Fin m1) (i' : Fin n0) (j' : Fin n1)
    (hi : (i' : ℕ) = o0 + i) (hj : (j' : ℕ) = o1 + j) :
    window (s := ⟨2, ![n0, n1]⟩) x ![o0, o1] ![m0, m1] inb (ix2 i j) = x (ix2 i' j') :=
  congrArg x (funext fun a => Fin.ext (by
    match a with
    | ⟨0, _⟩ => exact (show o0 + 1 * (i : ℕ) = i' by omega)
    | ⟨1, _⟩ => exact (show o1 + 1 * (j : ℕ) = j' by omega)))

theorem window_ix3 {α : Type} {n0 n1 n2 m0 m1 m2 : ℕ} (x : (⟨3, ![n0, n1, n2]⟩ : Shape).Idx → α) (o0 o1 o2 : ℕ)
    (inb : ∀ a, (![o0, o1, o2] : Fin 3 → ℕ) a + (![m0, m1, m2] : Fin 3 → ℕ) a ≤ (![n0, n1, n2] : Fin 3 → ℕ) a) (i : Fin m0) (j : Fin m1) (l : Fin m2)
    (i' : Fin n0) (j' : Fin n1) (l' : Fin n2) (hi : (i' : ℕ) = o0 + i) (hj : (j' : ℕ) = o1 + j) (hl : (l' : ℕ) = o2 + l) :
    window (s := ⟨3, ![n0, n1, n2]⟩) x ![o0, o1, o2] ![m0, m1, m2] inb (ix3 i j l) = x (ix3 i' j' l') :=
  congrArg x (funext fun a => Fin.ext (by
    match a with
    | ⟨0, _⟩ => exact (show o0 + 1 * (i : ℕ) = i' by omega)
    | ⟨1, _⟩ => exact (show o1 + 1 * (j : ℕ) = j' by omega)
    | ⟨2, _⟩ => exact (show o2 + 1 * (l : ℕ) = l' by omega)))

theorem blk_apply (x : S1x4096x128.Idx → Ideal .bf16) (j : ℕ) (hj : j < 8) (r : Fin 512) (d : Fin 128) :
    blk x j (ix3 0 r d) = x (ix3 0 ⟨512 * j + r, by omega⟩ d) := by
  rw [← blk_eq x j hj]
  exact window_ix3 x 0 (512 * j) 0 (inbK (by omega)) 0 r d 0 ⟨512 * j + r, by omega⟩ d rfl rfl (by omega)

/-- What a grid point has loaded, as reals: the slope times the logarithm, the scale of the queries, and the queries, keys
    and values by row and column. -/
structure Data where
  v2 : ℝ
  qs : ℝ
  q : ℕ → Fin 128 → ℝ
  k : ℕ → Fin 128 → ℝ
  v : ℕ → Fin 128 → ℝ

/-- A grid point's loads are these reals. -/
structure Reads (I : In Ideal) (D : Data) : Prop where
  v2 : I.v2 = (D.v2 : EReal)
  qs : I.qs = (D.qs : EReal)
  q : ∀ (n : Fin 4096) (d : Fin 128), I.q (ix3 0 n d) = (D.q n d : EReal)
  k : ∀ (n : Fin 4096) (d : Fin 128), I.k (ix3 0 n d) = (D.k n d : EReal)
  v : ∀ (n : Fin 4096) (d : Fin 128), I.v (ix3 0 n d) = (D.v n d : EReal)

/-- The scaled query `n` in the columns of map `g`, zero in the other map's. -/
def Data.qz (D : Data) (g : Bool) (n : ℕ) (d : Fin 128) : ℝ :=
  if (d : ℕ) < 64 then (bif g then 0 else D.q n d * D.qs) else (bif g then D.q n d * D.qs else 0)

/-- Map `g`'s score of key `t` against query `n`, the position bias taken from the start of the query's block. -/
def Data.score (D : Data) (g : Bool) (n t : ℕ) : ℝ := ∑ d : Fin 128, D.k t d * D.qz g n d + D.v2 * ((t : ℝ) - (512 * (n / 512) : ℕ))

/-- The queries of map `g`. -/
def qtG (I : In Ideal) (qi : ℕ) (g : Bool) : FVec Ideal S256x512 .bf16 := bif g then (qtB I qi).2 else (qtB I qi).1

variable {I : In Ideal} {D : Data}

theorem qt_lo (h : Reads I D) (qi : ℕ) (hqi : qi < 8) (g : Bool) (x : Fin 128) (c : Fin 512) :
    qtG I qi g (ix2 ⟨x, by omega⟩ c) = (D.qz g (512 * qi + c) x : EReal) := by
  have hlt : ∀ d : Fin 128, IntOp.cmpi CmpIPredicate.slt (BitVec.ofNat 32 (d : ℕ)) 64#32 = if (d : ℕ) < 64 then 1#1 else 0#1 := by decide +kernel
  have hq := (blk_apply I.q qi hqi c x).trans (h.q ⟨512 * qi + c, by omega⟩ x)
  cases g
  all_goals
    simp only [qtG, qtB, cond_true, cond_false]
    pointwise [qt0V, qt1V, firstRows, qsV, hlt, hq, h.qs]
    simp only [Data.qz, cond_true, cond_false]
    split_ifs <;> simp [Scalar.select]

theorem qt_hi (qi : ℕ) (g : Bool) (x : Fin 128) (c : Fin 512) :
    qtG I qi g (ix2 ⟨128 + x, by omega⟩ c) = waugV I.v2 (ix2 x c) := by
  cases g
  all_goals
    simp only [qtG, qtB, cond_true, cond_false]
    pointwise [qt0V, qt1V]
    first | done | (rw [dif_neg (by omega)]; congr 2; exact Fin.ext (by simp))

/-- The contraction of a key row beside its position bias with a query column. -/
theorem score_sum (h : Reads I D) (qi : ℕ) (hqi : qi < 8) (g : Bool) (t : Fin 4096) (r c : Fin 512) :
    ∑ x : Fin 128, I.k (ix3 0 t x) * qtG I qi g (ix2 ⟨x, by omega⟩ c) + ∑ x : Fin 128, kaugV (ix2 r x) * qtG I qi g (ix2 ⟨128 + x, by omega⟩ c) =
      ((∑ d : Fin 128, D.k t d * D.qz g (512 * qi + c) d + D.v2 * (r : ℕ) : ℝ) : EReal) := by
  have e1 : ∀ x : Fin 128, I.k (ix3 0 t x) * qtG I qi g (ix2 ⟨x, by omega⟩ c) = ((D.k t x * D.qz g (512 * qi + c) x : ℝ) : EReal) := fun x => by
    rw [h.k t x, qt_lo h qi hqi g x c]; exact (EReal.coe_mul _ _).symm
  have e2 : ∀ x : Fin 128, kaugV (F := Ideal) (ix2 r x) * qtG I qi g (ix2 ⟨128 + x, by omega⟩ c) = kaugV (F := Ideal) (ix2 r x) * waugV (F := Ideal) (D.v2 : EReal) (ix2 x c) := fun x => by
    rw [qt_hi qi g x c, h.v2]
  rw [Finset.sum_congr rfl fun x _ => e1 x, Finset.sum_congr rfl fun x _ => e2 x, bias_sum, ← coe_sum, ← EReal.coe_add]

theorem kaugB_apply (r : Fin 512) (d : Fin 128) : kaugB (F := Ideal) (ix2 r d) = kaugV (F := Ideal) (ix2 r d) := by
  pointwise [kaugB]

/-- The scores of a key block. -/
theorem XS_apply (h : Reads I D) (qi : ℕ) (hqi : qi < 8) (g : Bool) (j : ℕ) (hj : j < 8) (r c : Fin 512) :
    XS I j (qtG I qi g) (ix2 r c) = ((∑ d : Fin 128, D.k (512 * j + r) d * D.qz g (512 * qi + c) d + D.v2 * (r : ℕ) : ℝ) : EReal) := by
  have e := score_sum h qi hqi g ⟨512 * j + r, by omega⟩ r c
  rw [← e]
  unfold XS
  pointwise [scoreV, kaugB_apply, blk_apply _ j hj]

theorem maskB_apply (r c : Fin 512) : maskB (F := Ideal) (ix2 r c) = if (r : ℕ) ≤ c then 0 else ⊥ := by
  have hb : Ideal.ofBits .f32 0xFF800000#32 = ⊥ := by simp [Ideal.ofBits, Ideal.ieee]
  have hc : IntOp.cmpi CmpIPredicate.sle (BitVec.ofNat 32 (r : ℕ)) (BitVec.ofNat 32 (c : ℕ)) = if (r : ℕ) ≤ c then 1#1 else 0#1 := by
    have hr : (BitVec.ofNat 32 (r : ℕ)).toInt = r := by rw [BitVec.toInt_eq_toNat_of_lt] <;> simp <;> omega
    have hc : (BitVec.ofNat 32 (c : ℕ)).toInt = c := by rw [BitVec.toInt_eq_toNat_of_lt] <;> simp <;> omega
    simp only [IntOp.cmpi, BitVec.sle, hr, hc]
    split_ifs with h <;> simp [h]
  pointwise [maskB, maskV, hb, hc]
  split_ifs <;> simp [Scalar.select]

/-- The diagonal block's first half of keys. -/
theorem LD_apply (h : Reads I D) (qi : ℕ) (hqi : qi < 8) (g : Bool) (r : Fin 256) (c : Fin 512) :
    LD I qi (qtG I qi g) (ix2 r c) = if (r : ℕ) ≤ c then ((D.score g (512 * qi + c) (512 * qi + r) : ℝ) : EReal) else ⊥ := by
  have e := score_sum h qi hqi g ⟨512 * qi + r, by omega⟩ ⟨r, by omega⟩ c
  have hk : ∀ x : Fin 128, window (s := S1x512x128) (blk I.k qi) ![0, 0, 0] S1x256x128.size (by decide) (ix3 0 r x) = I.k (ix3 0 ⟨512 * qi + r, by omega⟩ x) := fun x =>
    (window_ix3 (blk I.k qi) 0 0 0 _ 0 r x 0 ⟨r, by omega⟩ x rfl (by simp) (by simp)).trans (blk_apply I.k qi hqi ⟨r, by omega⟩ x)
  have ha : ∀ x : Fin 128, window (s := S512x128) (kaugB (F := Ideal)) ![0, 0] S256x128.size (by decide) (ix2 r x) = kaugV (ix2 ⟨r, by omega⟩ x) := fun x =>
    (window_ix2 _ 0 0 _ r x ⟨r, by omega⟩ x (by simp) (by simp)).trans (kaugB_apply _ _)
  have hm : window (s := S512x512) (maskB (F := Ideal)) ![0, 0] S256x512.size (by decide) (ix2 r c) = if (r : ℕ) ≤ c then 0 else ⊥ :=
    (window_ix2 _ 0 0 _ r c ⟨r, by omega⟩ c (by simp) (by simp)).trans (maskB_apply _ _)
  unfold LD
  pointwise [loV, khV, hk, ha, hm]
  rw [e]
  split_ifs
  · rw [add_zero]; congr 1; unfold Data.score
    congr 2; push_cast; rw [(by omega : (512 * qi + (c : ℕ)) / 512 = qi)]; ring
  · simp

/-- The diagonal block's second half of keys, against the second half of the queries. -/
theorem HD_apply (h : Reads I D) (qi : ℕ) (hqi : qi < 8) (g : Bool) (r c : Fin 256) :
    HD I qi (qtG I qi g) (ix2 r c) = if (r : ℕ) ≤ c then ((D.score g (512 * qi + 256 + c) (512 * qi + 256 + r) : ℝ) : EReal) else ⊥ := by
  have e := score_sum h qi hqi g ⟨512 * qi + (256 + r), by omega⟩ ⟨256 + r, by omega⟩ ⟨256 + c, by omega⟩
  have hk : ∀ x : Fin 128, window (s := S1x512x128) (blk I.k qi) ![0, 256, 0] S1x256x128.size (by decide) (ix3 0 r x) = I.k (ix3 0 ⟨512 * qi + (256 + r), by omega⟩ x) := fun x =>
    (window_ix3 (blk I.k qi) 0 256 0 _ 0 r x 0 ⟨256 + r, by omega⟩ x rfl (by simp) (by simp)).trans (blk_apply I.k qi hqi ⟨256 + r, by omega⟩ x)
  have ha : ∀ x : Fin 128, window (s := S512x128) (kaugB (F := Ideal)) ![256, 0] S256x128.size (by decide) (ix2 r x) = kaugV (ix2 ⟨256 + r, by omega⟩ x) := fun x =>
    (window_ix2 _ 256 0 _ r x ⟨256 + r, by omega⟩ x (by simp) (by simp)).trans (kaugB_apply _ _)
  have hm : window (s := S512x512) (maskB (F := Ideal)) ![256, 256] S256x256.size (by decide) (ix2 r c) = if (r : ℕ) ≤ c then 0 else ⊥ :=
    ((window_ix2 _ 256 256 _ r c ⟨256 + r, by omega⟩ ⟨256 + c, by omega⟩ (by simp) (by simp)).trans (maskB_apply _ _)).trans (by simp)
  unfold HD
  pointwise [hiV, khV, hk, ha, hm]
  rw [e]
  split_ifs
  · rw [add_zero]; congr 1; unfold Data.score
    simp only [← add_assoc]
    congr 2; push_cast; rw [(by omega : (512 * qi + 256 + (c : ℕ)) / 512 = qi)]; ring
  · simp

end DiffAttn

end
-- ==== Proof.Walk.lean ====
/-
  The walk over the key blocks, column by column: after each block the running maximum and the accumulator of a query
  are a running sum of weighted values, and after the diagonal block the accumulator's ratio is the softmax mean of the
  values up to the query.
-/
module

public import proofs.«01_k».proof.Proof.Scores

@[expose] public section

set_option maxRecDepth 16384

noncomputable section

namespace DiffAttn

open Idealize.ShloMosaic Idealize.SL.Sem VecWindow

variable {I : In Ideal} {D : Data}

/-- Row `i` of the values beside the ones. -/
def Data.val (D : Data) (i : Fin 144) (t : ℕ) : ℝ := if h : (i : ℕ) < 128 then D.v t ⟨i, h⟩ else 1

theorem bot_word : Ideal.ofBits .f32 0xFF800000#32 = ⊥ := by simp [Ideal.ofBits, Ideal.ieee]

theorem one_word : Ideal.ofBits .bf16 0x3F80#16 = 1 := Ideal.ofBits_one_bf16

theorem vtC_apply (h : Reads I D) (j : ℕ) (hj : j < 8) (i : Fin 144) (x : Fin 512) :
    vtC (blk I.v j) (ix3 0 i x) = (D.val i (512 * j + x) : EReal) := by
  unfold vtC Data.val
  split_ifs with hi
  · refine (put_apply_of_notMem (s := S1x144x512) _ _ _ _ _ ?_).trans ((put_apply_of_mem (s := S1x144x512) _ _ S1x128x512.size _ _ (ix3 0 ⟨i, hi⟩ x : S1x128x512.Idx) ?_).trans ?_)
    · intro hc; have := (hc 1).1; exact absurd this (by show ¬ 128 ≤ (i : ℕ); omega)
    · intro a; match a with
      | ⟨0, _⟩ => rfl
      | ⟨1, _⟩ => exact (Nat.zero_add _).symm
      | ⟨2, _⟩ => exact (Nat.zero_add _).symm
    · pointwise [vtV, blk_apply I.v j hj, h.v]
  · refine (put_apply_of_mem (s := S1x144x512) _ _ S1x16x512.size _ _ (ix3 0 ⟨(i : ℕ) - 128, by omega⟩ x : S1x16x512.Idx) ?_).trans ?_
    rotate_left
    · pointwise [onesV, one_word]
      exact EReal.coe_one.symm
    · intro a; match a with
      | ⟨0, _⟩ => rfl
      | ⟨1, _⟩ => exact (show (i : ℕ) = 128 + ((i : ℕ) - 128) by omega)
      | ⟨2, _⟩ => exact (Nat.zero_add _).symm

theorem shift_apply (v : ℝ) (j qi : ℕ) (hj : j < 8) (hqi : qi < 8) :
    shiftV (F := Ideal) (v : EReal) (Scalar.subi (BitVec.ofNat 32 j) (BitVec.ofNat 32 qi)) = ((v * (512 * ((j : ℝ) - qi)) : ℝ) : EReal) := by
  have h : ∀ a b : Fin 8, (Scalar.muli (Scalar.subi (BitVec.ofNat 32 (a : ℕ)) (BitVec.ofNat 32 (b : ℕ))) 512#32).toInt = 512 * (((a : ℕ) : ℤ) - ((b : ℕ) : ℤ)) := by
    decide +kernel
  have e := h ⟨j, hj⟩ ⟨qi, hqi⟩
  simp only at e
  unfold shiftV
  rw [Ideal.scalar_sitofp_def, e]
  push_cast
  rfl

theorem max_fold (s : FVec Ideal S512x512 .f32) (c : Fin 512) : maxV s (ix2 0 c) = Finset.univ.fold max ⊥ fun x : Fin 512 => s (ix2 x c) := by
  pointwise [maxV, bot_word]

theorem maxLo_fold (s : FVec Ideal S256x512 .f32) (c : Fin 512) : maxLoV s (ix2 0 c) = Finset.univ.fold max ⊥ fun x : Fin 256 => s (ix2 x c) := by
  pointwise [maxLoV, bot_word]

section
variable (v2 : Ideal .f32) (d : BitVec 32) (V : Vec Ideal S1x144x512 .bf16) (X : FVec Ideal S512x512 .f32) (t : FVec Ideal S1x512 .f32 × Vec Ideal S1x144x512 .f32)

theorem upd_fst (c : Fin 512) : (upd v2 d V X t).1 (ix2 0 c) = max (t.1 (ix2 0 c)) (maxV X (ix2 0 c) + shiftV v2 d) := by
  simp only [upd]
  pointwise [mNewV]

theorem upd_snd (i : Fin 144) (c : Fin 512) : (upd v2 d V X t).2 (ix3 0 i c) =
    Ideal.exp2 (t.1 (ix2 0 c) - (upd v2 d V X t).1 (ix2 0 c)) * t.2 (ix3 0 i c) +
      ∑ x : Fin 512, V (ix3 0 i x) * Ideal.exp2 (X (ix2 x c) - ((upd v2 d V X t).1 (ix2 0 c) - shiftV v2 d)) := by
  simp only [upd]
  generalize mNewV t.1 (shapeCast S1x1x512 (maxV X) (by decide : S1x512.ShapeCasts S1x1x512)) (shiftV v2 d) = n
  pointwise [accV, alphaV, pV]
  rfl
end

/-- The state of column `c` of a query block before key block `j`. -/
def Good (D : Data) (g : Bool) (qi j : ℕ) (t : FVec Ideal S1x512 .f32 × Vec Ideal S1x144x512 .f32) : Prop :=
  ∀ (c : Fin 512) (i : Fin 144), Running (D.score g (512 * qi + c)) (D.val i) (512 * j) (t.1 (ix2 0 c)) (t.2 (ix3 0 i c))

theorem good_start (g : Bool) (qi : ℕ) : Good D g qi 0 (negV, zeroA) := fun c i =>
  .inl ⟨by show Ideal.ofBits .f32 0xFF800000#32 = ⊥; exact bot_word, rfl, by show Ideal.ofBits .f32 0x00000000#32 = 0; exact Ideal.ofBits_zero_f32⟩

theorem good_step (h : Reads I D) (g : Bool) (qi j : ℕ) (hqi : qi < 8) (hj : j < 8) (t : FVec Ideal S1x512 .f32 × Vec Ideal S1x144x512 .f32) (ht : Good D g qi j t) :
    Good D g qi (j + 1) (upd I.v2 (Scalar.subi (BitVec.ofNat 32 j) (BitVec.ofNat 32 qi)) (vtC (blk I.v j)) (XS I j (qtG I qi g)) t) := by
  intro c i
  obtain ⟨m, hm⟩ : ∃ m : ℝ, maxV (XS I j (qtG I qi g)) (ix2 0 c) = m := by
    rw [max_fold]
    refine fold_max_real _ _ (fun x _ => ?_) 0 (Finset.mem_univ _) ?_
    · rw [XS_apply h qi hqi g j hj]; exact EReal.coe_ne_top _
    · rw [XS_apply h qi hqi g j hj]; exact EReal.coe_ne_bot _
  have hsh : shiftV I.v2 (Scalar.subi (BitVec.ofNat 32 j) (BitVec.ofNat 32 qi)) = ((D.v2 * (512 * ((j : ℝ) - qi)) : ℝ) : EReal) := by
    rw [h.v2]; exact shift_apply D.v2 j qi hj hqi
  obtain ⟨n, hn⟩ := max_real _ (ht c i).stat (m + D.v2 * (512 * ((j : ℝ) - qi)))
  have h1 : (upd I.v2 (Scalar.subi (BitVec.ofNat 32 j) (BitVec.ofNat 32 qi)) (vtC (blk I.v j)) (XS I j (qtG I qi g)) t).1 (ix2 0 c) = (n : EReal) := by
    rw [upd_fst, hm, hsh, ← EReal.coe_add, hn]
  rw [upd_snd, h1, hsh, Nat.mul_succ]
  refine (ht c i).block n 512 _ fun x => ?_
  have e : (∑ d : Fin 128, D.k (512 * j + x) d * D.qz g (512 * qi + c) d + D.v2 * ((x : ℕ) : ℝ)) - (n - D.v2 * (512 * ((j : ℝ) - qi))) =
      D.score g (512 * qi + c) (512 * j + x) - n := by
    unfold Data.score
    rw [(by omega : (512 * qi + (c : ℕ)) / 512 = qi)]
    push_cast; ring
  rw [vtC_apply h j hj, XS_apply h qi hqi g j hj, ← EReal.coe_sub, ← EReal.coe_sub, exp2_real, ← EReal.coe_mul, e]

theorem good_run (h : Reads I D) (g : Bool) (qi : ℕ) (hqi : qi < 8) : ∀ j, j ≤ 8 → Good D g qi j (run I qi (qtG I qi g) j)
  | 0, _ => good_start g qi
  | j + 1, hj => good_step h g qi j hqi hj _ (good_run h g qi hqi j (by omega))

/-! ## The diagonal block -/

section
variable (V : Vec Ideal S1x144x512 .bf16) (L : FVec Ideal S256x512 .f32) (H : FVec Ideal S256x256 .f32) (t : FVec Ideal S1x512 .f32 × Vec Ideal S1x144x512 .f32)

/-- The maximum after the diagonal block. -/
def mD (L : FVec Ideal S256x512 .f32) (H : FVec Ideal S256x256 .f32) (t : FVec Ideal S1x512 .f32 × Vec Ideal S1x144x512 .f32) : FVec Ideal S1x512 .f32 :=
  mDiagV t.1 (joinM (mxLoV L) (mxHiV L H))

theorem mD_lo (c : Fin 512) (hc : (c : ℕ) < 256) : mD L H t (ix2 0 c) = max (t.1 (ix2 0 c)) (maxLoV L (ix2 0 c)) := by
  have e : joinM (F := Ideal) (mxLoV L) (mxHiV L H) (ix3 0 0 c) = maxLoV L (ix2 0 c) := by
    refine (put_apply_of_notMem (s := S1x1x512) _ _ _ _ _ ?_).trans ((put_apply_of_mem (s := S1x1x512) _ _ S1x1x256.size _ _ (ix3 0 0 ⟨c, hc⟩ : S1x1x256.Idx) ?_).trans ?_)
    · intro h; have := (h 2).1; exact absurd this (by show ¬ 256 ≤ (c : ℕ); omega)
    · intro a; match a with
      | ⟨0, _⟩ => rfl
      | ⟨1, _⟩ => rfl
      | ⟨2, _⟩ => exact (Nat.zero_add _).symm
    · pointwise [mxLoV]
  pointwise [mD, mDiagV, e]

theorem mD_hi (c : Fin 256) : mD L H t (ix2 0 ⟨256 + c, by omega⟩) =
    max (t.1 (ix2 0 ⟨256 + c, by omega⟩)) (max (maxLoV L (ix2 0 ⟨256 + c, by omega⟩)) (Finset.univ.fold max ⊥ fun x : Fin 256 => H (ix2 x c))) := by
  have e : joinM (F := Ideal) (mxLoV L) (mxHiV L H) (ix3 0 0 ⟨256 + c, by omega⟩) =
      max (maxLoV L (ix2 0 ⟨256 + c, by omega⟩)) (Finset.univ.fold max ⊥ fun x : Fin 256 => H (ix2 x c)) := by
    refine (put_apply_of_mem (s := S1x1x512) _ _ S1x1x256.size _ _ (ix3 0 0 c : S1x1x256.Idx) ?_).trans ?_
    · intro a; match a with
      | ⟨0, _⟩ => rfl
      | ⟨1, _⟩ => rfl
      | ⟨2, _⟩ => rfl
    · pointwise [mxHiV, bot_word]
  pointwise [mD, mDiagV, e]

theorem updDiag_lo (i : Fin 144) (c : Fin 512) (hc : (c : ℕ) < 256) : updDiag V L H t (ix3 0 i c) =
    Ideal.exp2 (t.1 (ix2 0 c) - mD L H t (ix2 0 c)) * t.2 (ix3 0 i c) +
      ∑ x : Fin 256, V (ix3 0 i ⟨x, by omega⟩) * Ideal.exp2 (L (ix2 x c) - mD L H t (ix2 0 c)) := by
  have hV : ∀ x : Fin 256, window (s := S1x144x512) V ![0, 0, 0] S1x144x256.size (by decide) (ix3 0 i x) = V (ix3 0 i ⟨x, by omega⟩) := fun x =>
    window_ix3 V 0 0 0 _ 0 i x 0 i ⟨x, by omega⟩ rfl (by simp) (by simp)
  have hA : window (s := S1x144x512) t.2 ![0, 0, 0] S1x144x256.size (by decide) (ix3 0 i ⟨c, hc⟩) = t.2 (ix3 0 i c) :=
    window_ix3 t.2 0 0 0 _ 0 i ⟨c, hc⟩ 0 i c rfl (by simp) (by simp)
  simp only [updDiag]
  change joinA _ (accLoV (alphaV t.1 (mD L H t)) _ (pvLoV _ (pLoV _ (mD L H t)))) _ _ = _
  generalize mD L H t = n
  refine (put_apply_of_notMem (s := S1x144x512) _ _ _ _ _ ?_).trans ((put_apply_of_mem (s := S1x144x512) _ _ S1x144x256.size _ _ (ix3 0 i ⟨c, hc⟩ : S1x144x256.Idx) ?_).trans ?_)
  · intro h; have := (h 2).1; exact absurd this (by show ¬ 256 ≤ (c : ℕ); omega)
  · intro a; match a with
    | ⟨0, _⟩ => rfl
    | ⟨1, _⟩ => exact (Nat.zero_add _).symm
    | ⟨2, _⟩ => exact (Nat.zero_add _).symm
  · pointwise [accLoV, alphaV, pvLoV, pLoV, hV, hA]
    rfl

theorem updDiag_hi (i : Fin 144) (c : Fin 256) : updDiag V L H t (ix3 0 i ⟨256 + c, by omega⟩) =
    Ideal.exp2 (t.1 (ix2 0 ⟨256 + c, by omega⟩) - mD L H t (ix2 0 ⟨256 + c, by omega⟩)) * t.2 (ix3 0 i ⟨256 + c, by omega⟩) +
      (∑ x : Fin 256, V (ix3 0 i ⟨x, by omega⟩) * Ideal.exp2 (L (ix2 x ⟨256 + c, by omega⟩) - mD L H t (ix2 0 ⟨256 + c, by omega⟩)) +
        ∑ x : Fin 256, V (ix3 0 i ⟨256 + x, by omega⟩) * Ideal.exp2 (H (ix2 x c) - mD L H t (ix2 0 ⟨256 + c, by omega⟩))) := by
  have hV : ∀ x : Fin 256, window (s := S1x144x512) V ![0, 0, 0] S1x144x256.size (by decide) (ix3 0 i x) = V (ix3 0 i ⟨x, by omega⟩) := fun x =>
    window_ix3 V 0 0 0 _ 0 i x 0 i ⟨x, by omega⟩ rfl (by simp) (by simp)
  have hW : ∀ x : Fin 256, window (s := S1x144x512) V ![0, 0, 256] S1x144x256.size (by decide) (ix3 0 i x) = V (ix3 0 i ⟨256 + x, by omega⟩) := fun x =>
    window_ix3 V 0 0 256 _ 0 i x 0 i ⟨256 + x, by omega⟩ rfl (by simp) (by simp)
  have hA : window (s := S1x144x512) t.2 ![0, 0, 256] S1x144x256.size (by decide) (ix3 0 i c) = t.2 (ix3 0 i ⟨256 + c, by omega⟩) :=
    window_ix3 t.2 0 0 256 _ 0 i c 0 i ⟨256 + c, by omega⟩ rfl (by simp) (by simp)
  simp only [updDiag]
  change joinA _ _ (accHiV (alphaV t.1 (mD L H t)) _ (pvLoV _ (pLoV _ (mD L H t))) (pvHiV _ (pHiV _ (mD L H t)))) _ = _
  generalize mD L H t = n
  refine (put_apply_of_mem (s := S1x144x512) _ _ S1x144x256.size _ _ (ix3 0 i c : S1x144x256.Idx) ?_).trans ?_
  · intro a; match a with
    | ⟨0, _⟩ => rfl
    | ⟨1, _⟩ => exact (Nat.zero_add _).symm
    | ⟨2, _⟩ => rfl
  · pointwise [accHiV, alphaV, pvLoV, pLoV, pvHiV, pHiV, hV, hW, hA]
    rfl
end

end DiffAttn

end
-- ==== Proof.Column.lean ====
/-
  A query's result: the two maps' softmax means up to the query, their difference, and its normalisation.
-/
module

public import proofs.«01_k».proof.Proof.Walk
public import proofs.«01_k».proof.Proof.Whole

@[expose] public section

set_option maxRecDepth 16384

noncomputable section

namespace DiffAttn

open Idealize.ShloMosaic Idealize.SL.Sem VecWindow

variable {I : In Ideal} {D : Data}

theorem LD_real (h : Reads I D) (qi : ℕ) (hqi : qi < 8) (g : Bool) (c : Fin 512) : ∃ m : ℝ, maxLoV (LD I qi (qtG I qi g)) (ix2 0 c) = m := by
  rw [maxLo_fold]
  refine fold_max_real _ _ (fun x _ => ?_) 0 (Finset.mem_univ _) ?_
  · rw [LD_apply h qi hqi g]; split_ifs; exacts [EReal.coe_ne_top _, bot_ne_top]
  · rw [LD_apply h qi hqi g, if_pos (show ((0 : Fin 256) : ℕ) ≤ (c : ℕ) from Nat.zero_le _)]; exact EReal.coe_ne_bot _

theorem HD_real (h : Reads I D) (qi : ℕ) (hqi : qi < 8) (g : Bool) (c : Fin 256) :
    ∃ m : ℝ, (Finset.univ.fold max ⊥ fun x : Fin 256 => HD I qi (qtG I qi g) (ix2 x c)) = m := by
  refine fold_max_real _ _ (fun x _ => ?_) 0 (Finset.mem_univ _) ?_
  · rw [HD_apply h qi hqi g]; split_ifs; exacts [EReal.coe_ne_top _, bot_ne_top]
  · rw [HD_apply h qi hqi g, if_pos (show ((0 : Fin 256) : ℕ) ≤ (c : ℕ) from Nat.zero_le _)]; exact EReal.coe_ne_bot _

/-- A masked weight times its value. -/
theorem masked_term (p : Prop) [Decidable p] (v s n : ℝ) :
    (v : EReal) * Ideal.exp2 ((if p then (s : EReal) else ⊥) - (n : EReal)) = (((if p then v * pow2 (s - n) else 0) : ℝ) : EReal) := by
  split_ifs
  · rw [← EReal.coe_sub, exp2_real, ← EReal.coe_mul]
  · simp

theorem exp2_self (n : ℝ) (a : EReal) : Ideal.exp2 ((n : EReal) - (n : EReal)) * a = a := by
  rw [← EReal.coe_sub, sub_self, exp2_real, (show pow2 0 = 1 from Real.rpow_zero 2)]
  exact one_mul a

/-- After the diagonal block a column of the accumulator is the running sum up to the query. -/
theorem fin_running (h : Reads I D) (qi : ℕ) (hqi : qi < 8) (g : Bool) (c : Fin 512) : ∃ st : EReal, ∀ i : Fin 144,
    Running (D.score g (512 * qi + c)) (D.val i) (512 * qi + c + 1) st (fin I qi (qtG I qi g) (ix3 0 i c)) := by
  have hR := good_run h g qi hqi qi (by omega) c
  obtain ⟨m, hm⟩ := LD_real h qi hqi g c
  unfold fin
  generalize run I qi (qtG I qi g) qi = t at hR
  by_cases hc : (c : ℕ) < 256
  · obtain ⟨n, hn⟩ := max_real _ (hR 0).stat m
    refine ⟨n, fun i => ?_⟩
    have h1 : mD (LD I qi (qtG I qi g)) (HD I qi (qtG I qi g)) t (ix2 0 c) = (n : EReal) := by rw [mD_lo _ _ _ c hc, hm, hn]
    rw [updDiag_lo _ _ _ _ i c hc, h1]
    refine (hR i).masked n 256 c hc _ fun x => ?_
    rw [vtC_apply h qi hqi, LD_apply h qi hqi g]
    exact masked_term _ _ _ _
  · obtain ⟨c', rfl⟩ : ∃ c' : Fin 256, c = ⟨256 + c', Nat.add_lt_add_left c'.isLt 256⟩ := ⟨⟨c - 256, by omega⟩, Fin.ext (by show (c : ℕ) = 256 + (c - 256); omega)⟩
    obtain ⟨m', hm'⟩ := HD_real h qi hqi g c'
    obtain ⟨n', hn'⟩ := max_real m (.inr ⟨m, rfl⟩) m'
    obtain ⟨n, hn⟩ := max_real _ (hR 0).stat n'
    refine ⟨n, fun i => ?_⟩
    have h1 : mD (LD I qi (qtG I qi g)) (HD I qi (qtG I qi g)) t (ix2 0 ⟨256 + c', by omega⟩) = (n : EReal) := by
      rw [mD_hi, hm, hm', hn', hn]
    rw [updDiag_hi, h1, ← add_assoc (_ : EReal)]
    rw [show 512 * qi + ((⟨256 + c', Nat.add_lt_add_left c'.isLt 256⟩ : Fin 512) : ℕ) = 512 * qi + 256 + c' from (add_assoc _ _ _).symm] at hR ⊢
    have hB := (hR i).block n 256 (fun x : Fin 256 => vtC (blk I.v qi) (ix3 0 i ⟨x, by omega⟩) * Ideal.exp2 (LD I qi (qtG I qi g) (ix2 x ⟨256 + c', by omega⟩) - (n : EReal)))
      (fun x => by
        rw [vtC_apply h qi hqi, LD_apply h qi hqi g, masked_term, if_pos (by show (x : ℕ) ≤ 256 + c'; omega)]
        simp only [add_assoc])
    have hM := hB.masked n 256 c' c'.isLt (fun x : Fin 256 => vtC (blk I.v qi) (ix3 0 i ⟨256 + x, by omega⟩) * Ideal.exp2 (HD I qi (qtG I qi g) (ix2 x c') - (n : EReal)))
      (fun x => by
        rw [vtC_apply h qi hqi, HD_apply h qi hqi g, masked_term]
        simp only [add_assoc])
    rw [exp2_self] at hM
    exact hM

/-- Map `g`'s attention of query `n`. -/
def Data.map (D : Data) (g : Bool) (n : ℕ) (d : Fin 128) : ℝ := attn (D.score g n) (fun t => D.v t d) n

theorem fin_ratio (h : Reads I D) (qi : ℕ) (hqi : qi < 8) (g : Bool) (c : Fin 512) (d : Fin 128) :
    Ideal.div (fin I qi (qtG I qi g) (ix3 0 ⟨d, by omega⟩ c)) (fin I qi (qtG I qi g) (ix3 0 128 c)) = (D.map g (512 * qi + c) d : EReal) := by
  obtain ⟨st, hst⟩ := fin_running h qi hqi g c
  have ha := hst ⟨d, by omega⟩
  have hb := hst 128
  have e1 : D.val ⟨d, by omega⟩ = fun t => D.v t d := funext fun t => dif_pos d.isLt
  have e2 : D.val 128 = fun _ => 1 := funext fun t => dif_neg (by decide)
  rw [e1] at ha; rw [e2] at hb
  exact ha.ratio hb

/-- The normalisation of a row of the difference. -/
def normed (o : Fin 128 → EReal) (w : EReal) (d : Fin 128) : EReal :=
  o d * Ideal.rsqrt (Ideal.div (∑ x, o x * o x) (Ideal.ofBits .f32 0x43000000#32) + Ideal.ofBits .f32 0x3727C5AC#32) * w * Ideal.ofBits .f32 0x3F4CCCCD#32

/-- The coefficient of the second map. -/
def lamOf (q1 k1 q2 k2 : Fin 64 → EReal) : EReal :=
  Ideal.exp (∑ x, q1 x * k1 x) - Ideal.exp (∑ x, q2 x * k2 x) + Ideal.ofBits .f32 0x3E4CCCCD#32

theorem lam_apply (q1 k1 q2 k2 : Vec Ideal S1x64 .f32) :
    lamV q1 k1 q2 k2 (ix2 0 0) = lamOf (fun x => q1 (ix2 0 x)) (fun x => k1 (ix2 0 x)) (fun x => q2 (ix2 0 x)) (fun x => k2 (ix2 0 x)) := by
  unfold lamOf
  pointwise [lamV, expDot]

theorem outV_apply (lam : FVec Ideal S1x1 .f32) (a0 a1 : Vec Ideal S1x144x512 .f32) (w : Vec Ideal S128x1 .f32) (d : Fin 128) (c : Fin 512) :
    outV lam a0 a1 w (ix3 0 c d) = normed (fun x => Ideal.div (a0 (ix3 0 ⟨x, by omega⟩ c)) (a0 (ix3 0 128 c)) -
      lam (ix2 0 0) * Ideal.div (a1 (ix3 0 ⟨x, by omega⟩ c)) (a1 (ix3 0 128 c))) (w (ix2 d 0)) d := by
  unfold normed
  pointwise [outV, diffV, ratioV]

/-- A grid point's result: row `n`, column `d`. -/
theorem outArr_apply (h : Reads I D) (n : Fin 4096) (d : Fin 128) : outArr I (ix3 0 n d) =
    normed (fun x => (D.map false n x : EReal) - lamOf (fun x => I.lq1 (ix2 0 x)) (fun x => I.lk1 (ix2 0 x)) (fun x => I.lq2 (ix2 0 x)) (fun x => I.lk2 (ix2 0 x)) *
      (D.map true n x : EReal)) (I.subln (ix2 d 0)) d := by
  have hq : (n : ℕ) / 512 < 8 := by omega
  have hn : 512 * ((n : ℕ) / 512) + (n : ℕ) % 512 = n := Nat.div_add_mod _ _
  have hb : bix ⟨(n : ℕ) % 512, Nat.mod_lt _ (by decide)⟩ d = ix3 0 ⟨(n : ℕ) % 512, Nat.mod_lt _ (by decide)⟩ d := by
    funext a; match a with
    | ⟨0, _⟩ => rfl
    | ⟨1, _⟩ => rfl
    | ⟨2, _⟩ => rfl
  show outB I ((n : ℕ) / 512) (bix ⟨(n : ℕ) % 512, _⟩ d) = _
  rw [hb]
  unfold outB
  rw [outV_apply, lam_apply]
  congr 1
  funext x
  have e0 := fin_ratio h _ hq false ⟨(n : ℕ) % 512, Nat.mod_lt _ (by decide)⟩ x
  have e1 := fin_ratio h _ hq true ⟨(n : ℕ) % 512, Nat.mod_lt _ (by decide)⟩ x
  simp only [qtG, cond_true, cond_false, hn] at e0 e1
  rw [e0, e1]

end DiffAttn

end
-- ==== Proof.Heads.lean ====
/-
  The attention of a head over the reals, and the kernel's map of a head pair as that attention: the scaled query is zero in
  the other head's columns, the scores are in base two, and the position bias differs by a number that is the same for every
  key of a query.
-/
module

public import proofs.«01_k».proof.Proof.Column

@[expose] public section

set_option maxRecDepth 16384

noncomputable section

namespace DiffAttn

open Idealize.ShloMosaic

/-- The base-two logarithm of e. -/
def lg : ℝ := (Real.log 2)⁻¹

theorem pow2_lg (s : ℝ) : pow2 (lg * s) = Real.exp s := by
  have h : Real.log 2 ≠ 0 := (Real.log_pos (by norm_num)).ne'
  unfold pow2 lg
  show (2 : ℝ) ^ ((Real.log 2)⁻¹ * s) = _
  rw [Real.rpow_def_of_pos (by norm_num), ← mul_assoc, mul_inv_cancel₀ h, one_mul]

/-- The slope of a head pair. -/
def slope (h : Fin 8) : ℝ := (1 / 2) ^ ((h : ℕ) + 1)

variable (x : Fin 4 → ℕ → Fin 3072 → ℝ)

/-- The score of key `t` against query `n` in head `j`. -/
def headScore (b : Fin 4) (j : Fin 16) (n t : ℕ) : ℝ :=
  ∑ d : Fin 64, x b n ⟨(j : ℕ) * 64 + d, by omega⟩ * 8⁻¹ * x b t ⟨1024 + ((j : ℕ) * 64 + d), by omega⟩ - slope ⟨(j : ℕ) / 2, by omega⟩ * ((n : ℝ) - t)

/-- The attention of head `j`: the causal softmax of its scores against the values of its pair. -/
def headAttn (b : Fin 4) (j : Fin 16) (n : ℕ) (e : Fin 128) : ℝ :=
  attn (fun t => lg * headScore x b j n t) (fun t => x b t ⟨2048 + ((j : ℕ) / 2 * 128 + e), by omega⟩) n

/-- What a grid point loads. -/
def dataOf (b : Fin 4) (h : Fin 8) : Data where
  v2 := slope h * lg
  qs := 8⁻¹ * lg
  q n d := x b n ⟨128 * (h : ℕ) + d, by omega⟩
  k n d := x b n ⟨1024 + 128 * (h : ℕ) + d, by omega⟩
  v n d := x b n ⟨2048 + 128 * (h : ℕ) + d, by omega⟩

/-- The head of map `g`. -/
def headOf (h : Fin 8) (g : Bool) : Fin 16 := ⟨(h : ℕ) * 2 + bif g then 1 else 0, by cases g <;> simp <;> omega⟩

theorem headOf_div (h : Fin 8) (g : Bool) : (headOf h g : ℕ) / 2 = h := by
  unfold headOf; cases g <;> simp <;> omega

theorem score_dataOf (b : Fin 4) (h : Fin 8) (g : Bool) (n t : ℕ) : (dataOf x b h).score g n t =
    lg * headScore x b (headOf h g) n t + slope h * lg * ((n : ℝ) - (512 * (n / 512) : ℕ)) := by
  have hs : (∑ d : Fin 128, (dataOf x b h).k t d * (dataOf x b h).qz g n d) =
      lg * ∑ d : Fin 64, x b n ⟨(headOf h g : ℕ) * 64 + d, by omega⟩ * 8⁻¹ * x b t ⟨1024 + ((headOf h g : ℕ) * 64 + d), by omega⟩ := by
    rw [Finset.mul_sum]
    refine (Fin.sum_univ_add (a := 64) (b := 64) fun d : Fin (64 + 64) => (dataOf x b h).k t d * (dataOf x b h).qz g n d).trans ?_
    rw [← Finset.sum_add_distrib]
    refine Finset.sum_congr rfl fun d _ => ?_
    have hd : ((Fin.castAdd 64 d : Fin (64 + 64)) : ℕ) < 64 := d.isLt
    have hd' : ¬((Fin.natAdd 64 d : Fin (64 + 64)) : ℕ) < 64 := by simp
    cases g
    · have e1 : (⟨128 * (h : ℕ) + (Fin.castAdd 64 d : Fin (64 + 64)), by have := (Fin.castAdd 64 d : Fin (64 + 64)).isLt; omega⟩ : Fin 3072) = ⟨(headOf h false : ℕ) * 64 + d, by omega⟩ :=
        Fin.ext (by simp [headOf]; omega)
      have e2 : (⟨1024 + 128 * (h : ℕ) + (Fin.castAdd 64 d : Fin (64 + 64)), by have := (Fin.castAdd 64 d : Fin (64 + 64)).isLt; omega⟩ : Fin 3072) = ⟨1024 + ((headOf h false : ℕ) * 64 + d), by omega⟩ :=
        Fin.ext (by simp [headOf]; omega)
      simp only [Data.qz, dataOf, if_pos hd, if_neg hd', cond_false]
      rw [e1, e2]
      ring
    · have e1 : (⟨128 * (h : ℕ) + (Fin.natAdd 64 d : Fin (64 + 64)), by have := (Fin.natAdd 64 d : Fin (64 + 64)).isLt; omega⟩ : Fin 3072) = ⟨(headOf h true : ℕ) * 64 + d, by omega⟩ :=
        Fin.ext (by simp [headOf]; omega)
      have e2 : (⟨1024 + 128 * (h : ℕ) + (Fin.natAdd 64 d : Fin (64 + 64)), by have := (Fin.natAdd 64 d : Fin (64 + 64)).isLt; omega⟩ : Fin 3072) = ⟨1024 + ((headOf h true : ℕ) * 64 + d), by omega⟩ :=
        Fin.ext (by simp [headOf]; omega)
      simp only [Data.qz, dataOf, if_pos hd, if_neg hd', cond_true]
      rw [e1, e2]
      ring
  have hh : (⟨(headOf h g : ℕ) / 2, by omega⟩ : Fin 8) = h := Fin.ext (headOf_div h g)
  unfold Data.score headScore
  rw [hs, hh]
  show _ + slope h * lg * _ = _
  ring

theorem map_dataOf (b : Fin 4) (h : Fin 8) (g : Bool) (n : ℕ) (e : Fin 128) : (dataOf x b h).map g n e = headAttn x b (headOf h g) n e := by
  unfold Data.map headAttn
  rw [show (dataOf x b h).score g n = fun t => lg * headScore x b (headOf h g) n t + slope h * lg * ((n : ℝ) - (512 * (n / 512) : ℕ)) from
    funext fun t => score_dataOf x b h g n t, attn_shift]
  refine congrArg (fun V => attn _ V n) (funext fun t => congrArg (x b t) (Fin.ext ?_))
  show 2048 + 128 * (h : ℕ) + e = 2048 + ((headOf h g : ℕ) / 2 * 128 + e)
  rw [headOf_div]
  omega

end DiffAttn

end
-- ==== Proof.KerValue.lean ====
/-
  The kernel's result array over real arguments: an entry is the normalised difference of the attentions of its pair of heads.
-/
module

public import proofs.«01_k».proof.Proof.Args
public import proofs.«01_k».proof.Proof.Heads

@[expose] public section

set_option maxRecDepth 16384

noncomputable section

namespace Cert.KernelIdeal.Run

open Cert.KernelIdeal.Gen
open Idealize.ShloMosaic Idealize.ShloMosaic.TcCoe
open Idealize.SL.Sem VecWindow

theorem slope_word (h : Fin 8) : Ideal.ofBits .f32 (lit0 h) = (DiffAttn.slope h : EReal) := by
  unfold DiffAttn.slope
  fin_cases h <;> simp [Ideal.ofBits, Ideal.ieee, lit0] <;> norm_num <;> rw [← EReal.coe_mul] <;> norm_num

theorem log2e_real : Named.named (F := Ideal) κ "log2e" (φ := .f32) 0x3FB8AA3B#32 = ((DiffAttn.lg : ℝ) : EReal) :=
  IdealRules.named_const.ideal_named_scalar _ _ _ _ rfl

theorem qscale_real : Named.named (F := Ideal) κ "qscale" (φ := .f32) 0x3E38AA3B#32 = ((8⁻¹ * DiffAttn.lg : ℝ) : EReal) :=
  IdealRules.named_const.ideal_named_scalar _ _ _ _ rfl

variable (m : (ℓ : Loc nD τ sig) → Buf (Elt Ideal) ℓ)

theorem off_val : ∀ t : Fin cfg0.N, k0_off1 (grid0.coords t) = ![t.val % 8] := (by decide +kernel : ∀ t : Fin grid0.N, _)

theorem slopeAt_apply (y : S8.Idx → EReal) (off : Fin 1 → ℕ) (hoff : ∀ a, off a + S1.size a ≤ S8.size a) (h : Fin 8) (e : off = ![(h : ℕ)]) :
    DiffAttn.slopeAt (F := Ideal) y off hoff = y (ix1 h) := by
  subst e
  refine congrArg y (funext fun a => Fin.ext ?_)
  match a with
  | ⟨0, _⟩ => show (h : ℕ) + 1 * 0 = h; omega

/-- What a grid point computes from are the reals of its batch and pair of heads. -/
theorem reads (c : Dev nD) (x : Fin 4 → ℕ → Fin 3072 → ℝ)
    (hx : ∀ (b : Fin 4) (n : Fin 4096) (j : Fin 3072), m ((c : Thread nD τ).loc main_arg0) (ix3 b n j) = (x b n j : EReal))
    (b : Fin 4) (h : Fin 8) : DiffAttn.Reads (inAt m c (ptOf b h)) (DiffAttn.dataOf x b h) where
  v2 := by
    unfold inAt DiffAttn.inOf
    dsimp only
    rw [slopeAt_apply _ _ _ h ((off_val _).trans (by rw [ptOf_mod])), slope_apply, log2e_real, Ideal.ofBits_def, slope_word]
    exact (EReal.coe_mul _ _).symm
  qs := qscale_real
  q n d := (q_apply m c _ b h (ptOf_div b h) (ptOf_mod b h) n d).trans (hx b n _)
  k n d := (k_apply m c _ b h (ptOf_div b h) (ptOf_mod b h) n d).trans (hx b n _)
  v n d := (v_apply m c _ b h (ptOf_div b h) (ptOf_mod b h) n d).trans (hx b n _)

theorem out_real (c : Dev nD) (x : Fin 4 → ℕ → Fin 3072 → ℝ)
    (hx : ∀ (b : Fin 4) (n : Fin 4096) (j : Fin 3072), m ((c : Thread nD τ).loc main_arg0) (ix3 b n j) = (x b n j : EReal))
    (b : Fin 4) (n : Fin 4096) (j : Fin 1024) : outG m c (ix3 b n j) =
      DiffAttn.normed (fun e => (DiffAttn.headAttn x b (DiffAttn.headOf ⟨(j : ℕ) / 128, by omega⟩ false) n e : EReal) -
          DiffAttn.lamOf (fun y => m ((c : Thread nD τ).loc main_arg1) (ix2 0 y)) (fun y => m ((c : Thread nD τ).loc main_arg2) (ix2 0 y))
            (fun y => m ((c : Thread nD τ).loc main_arg3) (ix2 0 y)) (fun y => m ((c : Thread nD τ).loc main_arg4) (ix2 0 y)) *
          (DiffAttn.headAttn x b (DiffAttn.headOf ⟨(j : ℕ) / 128, by omega⟩ true) n e : EReal))
        (m ((c : Thread nD τ).loc main_arg5) (ix2 0 ⟨(j : ℕ) % 128, Nat.mod_lt _ (by decide)⟩)) ⟨(j : ℕ) % 128, Nat.mod_lt _ (by decide)⟩ := by
  show DiffAttn.outArr (inAt m c (ptOf b ⟨(j : ℕ) / 128, by omega⟩)) (ix3 0 n ⟨(j : ℕ) % 128, Nat.mod_lt _ (by decide)⟩) = _
  rw [DiffAttn.outArr_apply (reads m c x hx b ⟨(j : ℕ) / 128, by omega⟩) n]
  generalize ptOf b ⟨(j : ℕ) / 128, by omega⟩ = t
  have w1 : ∀ y, (inAt m c t).lq1 (ix2 0 y) = m ((c : Thread nD τ).loc main_arg1) (ix2 0 y) := lq1_apply m c t
  have w2 : ∀ y, (inAt m c t).lk1 (ix2 0 y) = m ((c : Thread nD τ).loc main_arg2) (ix2 0 y) := lk1_apply m c t
  have w3 : ∀ y, (inAt m c t).lq2 (ix2 0 y) = m ((c : Thread nD τ).loc main_arg3) (ix2 0 y) := lq2_apply m c t
  have w4 : ∀ y, (inAt m c t).lk2 (ix2 0 y) = m ((c : Thread nD τ).loc main_arg4) (ix2 0 y) := lk2_apply m c t
  have w5 : ∀ d, (inAt m c t).subln (ix2 d 0) = m ((c : Thread nD τ).loc main_arg5) (ix2 0 d) := w_apply m c t
  rw [w5]
  simp only [w1, w2, w3, w4, DiffAttn.map_dataOf]

/-- The run with its result, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v10) = outG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 9).trans (final m c), h.2 c⟩)
    (θ_run_and (run_main m ρ) (frame_of m ρ (dats m) (A_eq m) (run_main m ρ)))

end Cert.KernelIdeal.Run

end
-- ==== Proof.Attention.lean ====
/-
  The reference's result read at an entry: the masked scores, their softmax, the difference against the values, and its
  normalisation, each an array of its own and then a sum or a quotient of entries.
-/
module

public import proofs.«01_k».proof.Proof.Column
public import proofs.«01_k».proof.Proof.Gen.ReferenceIdeal.Run
public import Idealize.ShloMosaic.Lib.Pointwise

@[expose] public section

set_option maxRecDepth 16384

noncomputable section

namespace Cert.ReferenceIdeal.Attention

open Cert.ReferenceIdeal.Value Cert.ReferenceIdeal.Gen
open Idealize.ShloMosaic Idealize.ShloMosaic.TcCoe
open Idealize.SL.Sem

/-- Query position less key position. -/
def dist : IVec S4096x4096 32 :=
  subi (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))

/-- The slope of each head. -/
def slopes : FVec Ideal S16 .f32 :=
  shapeCast _ (broadcastInDim S8x2 ![0] bcast_S8_S8x2_0 ((fun i => FloatOps.ofBits .f32 (lit0 (S8.rowMajor i))) : FVec Ideal S8 .f32)) shapeCasts_S8x2_S16

/-- The scores, masked. -/
def scores (x : FVec Ideal S4x4096x3072 .f32) : FVec Ideal S4x16x4096x4096 .f32 :=
  select (broadcastInDim S4x16x4096x4096 ![2, 3] bcast_S4096x4096_S4x16x4096x4096_2_3
      (cmpi .sge dist (broadcastInDim S4096x4096 ![] bcast_S_S4096x4096 (constantI S_ 32 0#32))))
    (subf (Host.dotGeneral dot_S4x4096x16x64_S4x4096x16x64_S4x16x4096x4096_3_3_1_1_02_02 none
        (mulf (shapeCast _ (extractStridedSlice S4x4096x1024 ![0, 0, 0] x slices_S4x4096x3072_S4x4096x1024_0_0_0) shapeCasts_S4x4096x1024_S4x4096x16x64)
          (broadcastInDim S4x4096x16x64 ![] bcast_S_S4x4096x16x64 (constant S_ .f32 0x3E000000#32)))
        (shapeCast _ (extractStridedSlice S4x4096x1024 ![0, 0, 1024] x slices_S4x4096x3072_S4x4096x1024_0_0_1024) shapeCasts_S4x4096x1024_S4x4096x16x64))
      (broadcastInDim S4x16x4096x4096 ![0, 1, 2, 3] bcast_S1x16x4096x4096_S4x16x4096x4096_0_1_2_3
        (broadcastInDim S1x16x4096x4096 ![1, 2, 3] bcast_S16x4096x4096_S1x16x4096x4096_1_2_3
          (mulf (broadcastInDim S16x4096x4096 ![0, 1, 2] bcast_S16x1x1_S16x4096x4096_0_1_2 (broadcastInDim S16x1x1 ![0] bcast_S16_S16x1x1_0 slopes))
            (broadcastInDim S16x4096x4096 ![0, 1, 2] bcast_S1x4096x4096_S16x4096x4096_0_1_2
              (broadcastInDim S1x4096x4096 ![1, 2] bcast_S4096x4096_S1x4096x4096_1_2 (sitofp .f32 dist)))))))
    (broadcastInDim S4x16x4096x4096 ![] bcast_S_S4x16x4096x4096 (id (constant S_ .f32 0xFF800000#32)))

/-- A row's largest score. -/
def maxs (s : FVec Ideal S4x16x4096x4096 .f32) : FVec Ideal S4x16x4096 .f32 :=
  Host.reduce FloatOps.maximumf s (constant S_ .f32 0xFF800000#32) reducesTo_S4x16x4096x4096_S4x16x4096_d3 h_S_

/-- The exponentials of the scores less their row's largest. -/
def exps (s : FVec Ideal S4x16x4096x4096 .f32) (mx : FVec Ideal S4x16x4096 .f32) : FVec Ideal S4x16x4096x4096 .f32 :=
  Host.exp (subf s (broadcastInDim S4x16x4096x4096 ![0, 1, 2, 3] bcast_S4x16x4096x1_S4x16x4096x4096_0_1_2_3
    (broadcastInDim S4x16x4096x1 ![0, 1, 2] bcast_S4x16x4096_S4x16x4096x1_0_1_2
      (maximumf (broadcastInDim S4x16x4096 ![] bcast_S_S4x16x4096 (constant S_ .f32 0xFF800000#32)) mx))))

/-- Rows divided by their sums. -/
def rows (e : FVec Ideal S4x16x4096x4096 .f32) : FVec Ideal S4x16x4096x4096 .f32 :=
  Host.divf e (broadcastInDim S4x16x4096x4096 ![0, 1, 2, 3] bcast_S4x16x4096x1_S4x16x4096x4096_0_1_2_3
    (broadcastInDim S4x16x4096x1 ![0, 1, 2] bcast_S4x16x4096_S4x16x4096x1_0_1_2
      (Host.reduceAdd e (constant S_ .f32 0x00000000#32) reducesTo_S4x16x4096x4096_S4x16x4096_d3 h_S_)))

/-- The coefficient of the second map. -/
def lam (q1 k1 q2 k2 : FVec Ideal S1x64 .f32) : FVec Ideal S_ .f32 :=
  addf (subf (Host.exp (Host.reduceAdd (mulf (shapeCast _ q1 shapeCasts_S1x64_S64) (shapeCast _ k1 shapeCasts_S1x64_S64)) (constant S_ .f32 0x00000000#32) reducesTo_S64_S_d0 h_S_))
    (Host.exp (Host.reduceAdd (mulf (shapeCast _ q2 shapeCasts_S1x64_S64) (shapeCast _ k2 shapeCasts_S1x64_S64)) (constant S_ .f32 0x00000000#32) reducesTo_S64_S_d0 h_S_)))
    (constant S_ .f32 0x3E4CCCCD#32)

/-- The two maps' difference against the values. -/
def diff (x : FVec Ideal S4x4096x3072 .f32) (l : FVec Ideal S_ .f32) (p : FVec Ideal S4x16x4096x4096 .f32) : FVec Ideal S4x4096x8x128 .f32 :=
  transpose S4x4096x8x128 [0, 3, 1, 2] (Host.dotGeneral dot_S4x4096x8x128_S4x8x4096x4096_S4x8x128x4096_1_3_3_2_02_01 none
    (shapeCast _ (extractStridedSlice S4x4096x1024 ![0, 0, 2048] x slices_S4x4096x3072_S4x4096x1024_0_0_2048) shapeCasts_S4x4096x1024_S4x4096x8x128)
    (subf (shapeCast _ (extractStridedSlice S4x8x1x4096x4096 ![0, 0, 0, 0, 0] (shapeCast _ p shapeCasts_S4x16x4096x4096_S4x8x2x4096x4096)
        slices_S4x8x2x4096x4096_S4x8x1x4096x4096_0_0_0_0_0) shapeCasts_S4x8x1x4096x4096_S4x8x4096x4096)
      (mulf (broadcastInDim S4x8x4096x4096 ![] bcast_S_S4x8x4096x4096 l)
        (shapeCast _ (extractStridedSlice S4x8x1x4096x4096 ![0, 0, 1, 0, 0] (shapeCast _ p shapeCasts_S4x16x4096x4096_S4x8x2x4096x4096)
          slices_S4x8x2x4096x4096_S4x8x1x4096x4096_0_0_1_0_0) shapeCasts_S4x8x1x4096x4096_S4x8x4096x4096)))) transposes_S4x8x128x4096_S4x4096x8x128_0_3_1_2

/-- The normalised result. -/
def norm (o : FVec Ideal S4x4096x8x128 .f32) (w : FVec Ideal S1x128 .f32) : FVec Ideal S4x4096x1024 .bf16 :=
  truncf .bf16 (shapeCast _ (mulf (mulf (mulf o (broadcastInDim S4x4096x8x128 ![0, 1, 2, 3] bcast_S4x4096x8x1_S4x4096x8x128_0_1_2_3
      (Host.rsqrt (addf (Host.divf (broadcastInDim S4x4096x8x1 ![0, 1, 2] bcast_S4x4096x8_S4x4096x8x1_0_1_2
          (Host.reduceAdd (mulf o o) (constant S_ .f32 0x00000000#32) reducesTo_S4x4096x8x128_S4x4096x8_d3 h_S_))
            (broadcastInDim S4x4096x8x1 ![] bcast_S_S4x4096x8x1 (constant S_ .f32 0x43000000#32)))
        (broadcastInDim S4x4096x8x1 ![] bcast_S_S4x4096x8x1 (constant S_ .f32 0x3727C5AC#32))))))
    (broadcastInDim S4x4096x8x128 ![0, 1, 2, 3] bcast_S1x1x1x128_S4x4096x8x128_0_1_2_3 (broadcastInDim S1x1x1x128 ![3] bcast_S128_S1x1x1x128_3
      (shapeCast _ w shapeCasts_S1x128_S128))))
    (broadcastInDim S4x4096x8x128 ![] bcast_S_S4x4096x8x128 (constant S_ .f32 0x3F4CCCCD#32))) shapeCasts_S4x4096x8x128_S4x4096x1024) bitsLt_bf16_f32

theorem scores_apply (x : FVec Ideal S4x4096x3072 .f32) (b : Fin 4) (j : Fin 16) (n t : Fin 4096) : scores x (ix4 b j n t) =
    Scalar.select (IntOp.cmpi CmpIPredicate.sge (IntOp.subi (BitVec.ofNat 32 n) (BitVec.ofNat 32 t)) 0#32)
      (∑ d : Fin 64, x (ix3 b n ⟨(j : ℕ) * 64 + d, by omega⟩) * Ideal.ofBits .f32 0x3E000000#32 * x (ix3 b t ⟨1024 + ((j : ℕ) * 64 + d), by omega⟩) -
        Ideal.ofBits .f32 (lit0 (S8.rowMajor (ix1 ⟨(j : ℕ) / 2, by omega⟩))) *
          FloatOps.sitofp (F := Ideal) .f32 (IntOp.subi (BitVec.ofNat 32 n) (BitVec.ofNat 32 t)))
      (Ideal.ofBits .f32 0xFF800000#32) := by
  pointwise [scores, dist, slopes]
  rfl

theorem maxs_apply (s : FVec Ideal S4x16x4096x4096 .f32) (b : Fin 4) (j : Fin 16) (n : Fin 4096) : maxs s (ix3 b j n) =
    Finset.univ.fold max (Ideal.ofBits .f32 0xFF800000#32) fun y : Fin 4096 => s (ix4 b j n y) := by
  unfold maxs
  simp only [pointwise]

theorem exps_apply (s : FVec Ideal S4x16x4096x4096 .f32) (mx : FVec Ideal S4x16x4096 .f32) (b : Fin 4) (j : Fin 16) (n t : Fin 4096) :
    exps s mx (ix4 b j n t) = Ideal.exp (s (ix4 b j n t) - max (Ideal.ofBits .f32 0xFF800000#32) (mx (ix3 b j n))) := by
  pointwise [exps]

theorem rows_apply (s : FVec Ideal S4x16x4096x4096 .f32) (b : Fin 4) (j : Fin 16) (n t : Fin 4096) : rows s (ix4 b j n t) =
    Ideal.div (s (ix4 b j n t)) (∑ y : Fin 4096, s (ix4 b j n y)) := by
  pointwise [rows]

theorem lam_apply (q1 k1 q2 k2 : FVec Ideal S1x64 .f32) : lam q1 k1 q2 k2 ix0 =
    DiffAttn.lamOf (fun y => q1 (ix2 0 y)) (fun y => k1 (ix2 0 y)) (fun y => q2 (ix2 0 y)) (fun y => k2 (ix2 0 y)) := by
  unfold DiffAttn.lamOf
  pointwise [lam]

theorem diff_apply (x : FVec Ideal S4x4096x3072 .f32) (l : FVec Ideal S_ .f32) (p : FVec Ideal S4x16x4096x4096 .f32)
    (b : Fin 4) (n : Fin 4096) (h : Fin 8) (e : Fin 128) : diff x l p (ix4 b n h e) =
    ∑ t : Fin 4096, x (ix3 b t ⟨2048 + ((h : ℕ) * 128 + e), by omega⟩) *
      (p (ix4 b ⟨(h : ℕ) * 2, by omega⟩ n t) - l ix0 * p (ix4 b ⟨(h : ℕ) * 2 + 1, by omega⟩ n t)) := by
  pointwise [diff]

theorem norm_apply (o : FVec Ideal S4x4096x8x128 .f32) (w : FVec Ideal S1x128 .f32) (b : Fin 4) (n : Fin 4096) (j : Fin 1024) : norm o w (ix3 b n j) =
    DiffAttn.normed (fun e => o (ix4 b n ⟨(j : ℕ) / 128, by omega⟩ e)) (w (ix2 0 ⟨(j : ℕ) % 128, Nat.mod_lt _ (by decide)⟩)) ⟨(j : ℕ) % 128, Nat.mod_lt _ (by decide)⟩ := by
  unfold DiffAttn.normed
  pointwise [norm]

variable (m : (ℓ : Loc nD τ sig) → Buf (Elt Ideal) ℓ)

theorem res_eq (c : Dev nD) : res_main_v80 m c =
    (let x : FVec Ideal S4x4096x3072 .f32 := extf .f32 (m ((c : Thread nD τ).loc main_arg0) : FVec Ideal S4x4096x3072 .bf16) bitsLt_bf16_f32
    norm (diff x (lam (m ((c : Thread nD τ).loc main_arg1)) (m ((c : Thread nD τ).loc main_arg2)) (m ((c : Thread nD τ).loc main_arg3)) (m ((c : Thread nD τ).loc main_arg4)))
      (rows (exps (scores x) (maxs (scores x))))) (m ((c : Thread nD τ).loc main_arg5))) := by
  unfold res_main_v80
  rfl

end Cert.ReferenceIdeal.Attention

end
-- ==== Proof.RefValue.lean ====
/-
  The reference's result over real arguments: the masked scores are reals up to the query and minus infinity after it, their
  softmax is over the keys up to the query, and the difference of the two maps is the difference of the two heads' attentions.
-/
module

public import proofs.«01_k».proof.Proof.Attention
public import proofs.«01_k».proof.Proof.Heads

@[expose] public section

set_option maxRecDepth 16384

noncomputable section

namespace Cert.ReferenceIdeal.Attention

open Cert.ReferenceIdeal.Value Cert.ReferenceIdeal.Gen
open Idealize.ShloMosaic Idealize.ShloMosaic.TcCoe
open Idealize.SL.Sem

theorem eighth_word : Ideal.ofBits .f32 0x3E000000#32 = ((8⁻¹ : ℝ) : EReal) := by
  simp [Ideal.ofBits, Ideal.ieee]
  norm_num
  rw [← EReal.coe_mul]
  norm_num

theorem slope_word (h : Fin 8) : Ideal.ofBits .f32 (lit0 (S8.rowMajor (ix1 h))) = (DiffAttn.slope h : EReal) := by
  have e : ∀ h : Fin 8, (S8.rowMajor (ix1 h)).val = h.val := by decide
  rw [show lit0 (S8.rowMajor (ix1 h)) = lit0 h from congrArg lit0 (Fin.ext (e h))]
  unfold DiffAttn.slope
  fin_cases h <;> simp [Ideal.ofBits, Ideal.ieee, lit0] <;> norm_num <;> rw [← EReal.coe_mul] <;> norm_num

theorem dist_toInt (n t : Fin 4096) : (IntOp.subi (BitVec.ofNat 32 (n : ℕ)) (BitVec.ofNat 32 (t : ℕ))).toInt = ((n : ℕ) : ℤ) - (t : ℕ) := by
  have hn := n.isLt
  have ht := t.isLt
  show (BitVec.ofNat 32 (n : ℕ) - BitVec.ofNat 32 (t : ℕ)).toInt = _
  have hr : (BitVec.ofNat 32 (n : ℕ)).toInt = (n : ℕ) := by rw [BitVec.toInt_eq_toNat_of_lt] <;> simp <;> omega
  have hc : (BitVec.ofNat 32 (t : ℕ)).toInt = (t : ℕ) := by rw [BitVec.toInt_eq_toNat_of_lt] <;> simp <;> omega
  rw [BitVec.toInt_sub, hr, hc, Int.bmod_eq_of_le] <;> omega

theorem causal (n t : Fin 4096) (a b : EReal) :
    Scalar.select (IntOp.cmpi CmpIPredicate.sge (IntOp.subi (BitVec.ofNat 32 (n : ℕ)) (BitVec.ofNat 32 (t : ℕ))) 0#32) a b = if (t : ℕ) ≤ n then a else b := by
  have h := dist_toInt n t
  generalize IntOp.subi (BitVec.ofNat 32 (n : ℕ)) (BitVec.ofNat 32 (t : ℕ)) = w at h
  have : (t : ℕ) ≤ n ↔ 0 ≤ w.toInt := by omega
  simp only [this]
  by_cases hw : 0 ≤ w.toInt <;> simp [Scalar.select, IntOp.cmpi, BitVec.sle, hw]

variable {X : FVec Ideal S4x4096x3072 .f32} {x : Fin 4 → ℕ → Fin 3072 → ℝ}

theorem scores_real (hX : ∀ (b : Fin 4) (n : Fin 4096) (j : Fin 3072), X (ix3 b n j) = (x b n j : EReal)) (b : Fin 4) (j : Fin 16) (n t : Fin 4096) :
    scores X (ix4 b j n t) = if (t : ℕ) ≤ n then (DiffAttn.headScore x b j n t : EReal) else ⊥ := by
  rw [scores_apply, causal, DiffAttn.bot_word, slope_word, eighth_word]
  split_ifs
  · have hs : FloatOps.sitofp (F := Ideal) .f32 (IntOp.subi (BitVec.ofNat 32 (n : ℕ)) (BitVec.ofNat 32 (t : ℕ))) = (((n : ℝ) - (t : ℝ) : ℝ) : EReal) := by
      show (((IntOp.subi (BitVec.ofNat 32 (n : ℕ)) (BitVec.ofNat 32 (t : ℕ))).toInt : ℝ) : EReal) = _
      rw [dist_toInt]; push_cast; rfl
    rw [hs]
    simp only [hX]
    unfold DiffAttn.headScore
    simp only [EReal.coe_sub, EReal.coe_mul, DiffAttn.coe_sum]
  · rfl

/-- The exponentials of a row, its largest score a real. -/
theorem exps_real (hX : ∀ (b : Fin 4) (n : Fin 4096) (j : Fin 3072), X (ix3 b n j) = (x b n j : EReal)) (b : Fin 4) (j : Fin 16) (n : Fin 4096) :
    ∃ M : ℝ, ∀ t : Fin 4096, exps (scores X) (maxs (scores X)) (ix4 b j n t) =
      ((if (t : ℕ) ≤ n then DiffAttn.pow2 (DiffAttn.lg * DiffAttn.headScore x b j n t + -(DiffAttn.lg * M)) else 0 : ℝ) : EReal) := by
  obtain ⟨M, hM⟩ : ∃ M : ℝ, maxs (scores X) (ix3 b j n) = (M : EReal) := by
    rw [maxs_apply, DiffAttn.bot_word]
    refine DiffAttn.fold_max_real _ _ (fun t _ => ?_) 0 (Finset.mem_univ _) ?_
    · rw [scores_real hX]; split_ifs; exacts [EReal.coe_ne_top _, bot_ne_top]
    · rw [scores_real hX, if_pos (show ((0 : Fin 4096) : ℕ) ≤ (n : ℕ) from Nat.zero_le _)]; exact EReal.coe_ne_bot _
  refine ⟨M, fun t => ?_⟩
  rw [exps_apply, hM, DiffAttn.bot_word, scores_real hX, max_eq_right bot_le]
  split_ifs
  · rw [← EReal.coe_sub, Ideal.exp_coe, ← DiffAttn.pow2_lg, mul_sub, sub_eq_add_neg]
  · simp

/-- The softmax of a row. -/
theorem rows_real (hX : ∀ (b : Fin 4) (n : Fin 4096) (j : Fin 3072), X (ix3 b n j) = (x b n j : EReal)) (b : Fin 4) (j : Fin 16) (n : Fin 4096) :
    ∃ S : ℕ → ℝ, (∀ V, DiffAttn.attn S V n = DiffAttn.attn (fun t => DiffAttn.lg * DiffAttn.headScore x b j n t) V n) ∧
      ∀ t : Fin 4096, rows (exps (scores X) (maxs (scores X))) (ix4 b j n t) =
        ((if (t : ℕ) ≤ n then DiffAttn.pow2 (S t) / ∑ y ∈ Finset.range ((n : ℕ) + 1), DiffAttn.pow2 (S y) else 0 : ℝ) : EReal) := by
  obtain ⟨M, hM⟩ := exps_real hX b j n
  refine ⟨fun t => DiffAttn.lg * DiffAttn.headScore x b j n t + -(DiffAttn.lg * M), fun V => DiffAttn.attn_shift _ V n _, fun t => ?_⟩
  rw [rows_apply]
  simp only [hM]
  rw [← DiffAttn.coe_sum, DiffAttn.sum_le 4096 n n.isLt (fun t => DiffAttn.pow2 (DiffAttn.lg * DiffAttn.headScore x b j n t + -(DiffAttn.lg * M))),
    Ideal.div_coe (DiffAttn.weights_pos _ _).ne', ← EReal.coe_mul]
  split_ifs
  · rw [mul_one_div]
  · rw [zero_mul]

/-- An entry of the difference of the two maps against the values. -/
theorem diff_real (hX : ∀ (b : Fin 4) (n : Fin 4096) (j : Fin 3072), X (ix3 b n j) = (x b n j : EReal)) (l : FVec Ideal S_ .f32) (lr : ℝ) (hl : l ix0 = (lr : EReal))
    (b : Fin 4) (n : Fin 4096) (h : Fin 8) (e : Fin 128) : diff X l (rows (exps (scores X) (maxs (scores X)))) (ix4 b n h e) =
      (DiffAttn.headAttn x b (DiffAttn.headOf h false) n e : EReal) - (lr : EReal) * (DiffAttn.headAttn x b (DiffAttn.headOf h true) n e : EReal) := by
  obtain ⟨S0, h0, r0⟩ := rows_real hX b (DiffAttn.headOf h false) n
  obtain ⟨S1, h1, r1⟩ := rows_real hX b (DiffAttn.headOf h true) n
  have v0 : ∀ g, (fun t => x b t ⟨2048 + ((DiffAttn.headOf h g : ℕ) / 2 * 128 + e), by omega⟩) = fun t => x b t ⟨2048 + ((h : ℕ) * 128 + e), by omega⟩ :=
    fun g => funext fun t => congrArg (x b t) (Fin.ext (by show 2048 + ((DiffAttn.headOf h g : ℕ) / 2 * 128 + e) = _; rw [DiffAttn.headOf_div]))
  unfold DiffAttn.headAttn
  rw [v0, v0, ← h0, ← h1, diff_apply, hl]
  have e0 : (⟨(h : ℕ) * 2, by omega⟩ : Fin 16) = DiffAttn.headOf h false := rfl
  have e1 : (⟨(h : ℕ) * 2 + 1, by omega⟩ : Fin 16) = DiffAttn.headOf h true := rfl
  simp only [e0, e1, r0, r1, hX]
  simp only [← EReal.coe_mul, ← EReal.coe_sub]
  rw [← DiffAttn.coe_sum]
  congr 1
  unfold DiffAttn.attn
  generalize ∑ y ∈ Finset.range ((n : ℕ) + 1), DiffAttn.pow2 (S0 y) = Z0
  generalize ∑ y ∈ Finset.range ((n : ℕ) + 1), DiffAttn.pow2 (S1 y) = Z1
  refine (Finset.sum_congr rfl fun t _ => ?_).trans ((DiffAttn.sum_le 4096 n n.isLt fun t => x b t ⟨2048 + ((h : ℕ) * 128 + e), by omega⟩ * (DiffAttn.pow2 (S0 t) / Z0 - lr * (DiffAttn.pow2 (S1 t) / Z1))).trans ?_)
  · split_ifs <;> simp
  · rw [Finset.sum_div, Finset.sum_div, Finset.mul_sum, ← Finset.sum_sub_distrib]
    exact Finset.sum_congr rfl fun t _ => by ring

end Cert.ReferenceIdeal.Attention

end
-- ==== Proof.Finite.lean ====
/-
  The precondition, read: every entry of the packed queries, keys and values and of the four coefficient vectors is a real.
-/
module

public import proofs.«01_k».proof.Pre_finite_args
public import Idealize.ShloMosaic.Lib.ReduceAll
public import Idealize.ShloMosaic.PureOps.Ideal
public import Idealize.ShloMosaic.Lib.Pointwise

@[expose] public section

set_option maxRecDepth 16384

noncomputable section

namespace Cert.Pre_finite_args

open Idealize.ShloMosaic

theorem facts : Facts where
  bitsLt_bf16_f32 := by decide
  bcast_S_S4x4096x3072 := by decide
  reducesTo_S4x4096x3072_S_d0_1_2 := by decide
  h_S_ := by decide
  bcast_S_S1x64 := by decide
  reducesTo_S1x64_S_d0_1 := by decide

instance : Subsingleton S_.Idx := ⟨fun i j => funext fun a => a.elim0⟩

theorem inf_word : Ideal.ofBits .f32 0x7F800000#32 = ⊤ := by simp [Ideal.ofBits, Ideal.ieee]

/-- An extended real whose absolute value compares below infinity is a real. -/
theorem real_of_lt (a : EReal) (h : FloatOps.cmpf (F := Ideal) (φ := .f32) .olt (FloatOps.absf (F := Ideal) (φ := .f32) a) (Ideal.ofBits .f32 0x7F800000#32) = 1#1) : ((a.toReal : ℝ) : EReal) = a := by
  rw [inf_word] at h
  have h1 : Ideal.cmp .olt (max a (-a)) ⊤ = 1#1 := h
  refine EReal.coe_toReal ?_ ?_ <;> rintro rfl <;> simp [Ideal.cmp] at h1

theorem reals [Facts] (a0 : FVec Ideal S4x4096x3072 .bf16) (a1 a2 a3 a4 : FVec Ideal S1x64 .f32) (a5 : FVec Ideal S1x128 .f32)
    (h : fn (F := Ideal) a0 a1 a2 a3 a4 a5 = fun _ => 1#1) :
    (∀ i, ((EReal.toReal (a0 i) : ℝ) : EReal) = a0 i) ∧ (∀ i, ((EReal.toReal (a1 i) : ℝ) : EReal) = a1 i) ∧ (∀ i, ((EReal.toReal (a2 i) : ℝ) : EReal) = a2 i) ∧
      (∀ i, ((EReal.toReal (a3 i) : ℝ) : EReal) = a3 i) ∧ (∀ i, ((EReal.toReal (a4 i) : ℝ) : EReal) = a4 i) := by
  have e := congrFun h ix0
  simp only [fn, fn_part1, andi] at e
  simp only [IntOp.andi_eq_one] at e
  obtain ⟨⟨⟨⟨e0, e1⟩, e2⟩, e3⟩, e4⟩ := e
  refine ⟨fun i => ?_, fun i => ?_, fun i => ?_, fun i => ?_, fun i => ?_⟩
  · exact real_of_lt _ (Host.reduce_andi_all _ _ _ _ _ e0 i)
  · exact real_of_lt _ (Host.reduce_andi_all _ _ _ _ _ e1 i)
  · exact real_of_lt _ (Host.reduce_andi_all _ _ _ _ _ e2 i)
  · exact real_of_lt _ (Host.reduce_andi_all _ _ _ _ _ e3 i)
  · exact real_of_lt _ (Host.reduce_andi_all _ _ _ _ _ e4 i)

end Cert.Pre_finite_args

end
-- ==== Proof.Join.lean ====
/-
  The kernel's result array is the reference's, over arguments that are reals.
-/
module

public import proofs.«01_k».proof.Defs
public import proofs.«01_k».proof.Proof.KerValue
public import proofs.«01_k».proof.Proof.RefValue
public import proofs.«01_k».proof.Proof.Finite

@[expose] public section

set_option maxRecDepth 16384

noncomputable section

namespace Cert.Join

open Idealize.ShloMosaic Idealize.ShloMosaic.TcCoe Idealize.SL.Sem

/-- The coefficient of the second map is a real where its vectors are. -/
theorem lam_real (q1 k1 q2 k2 : Fin 64 → EReal) (h1 : ∀ i, ((EReal.toReal (q1 i) : ℝ) : EReal) = q1 i) (h2 : ∀ i, ((EReal.toReal (k1 i) : ℝ) : EReal) = k1 i)
    (h3 : ∀ i, ((EReal.toReal (q2 i) : ℝ) : EReal) = q2 i) (h4 : ∀ i, ((EReal.toReal (k2 i) : ℝ) : EReal) = k2 i) :
    ∃ l : ℝ, DiffAttn.lamOf q1 k1 q2 k2 = (l : EReal) := by
  have hs : ∀ a b : Fin 64 → EReal, (∀ i, ((EReal.toReal (a i) : ℝ) : EReal) = a i) → (∀ i, ((EReal.toReal (b i) : ℝ) : EReal) = b i) →
      ∑ i, a i * b i = ((∑ i, (a i).toReal * (b i).toReal : ℝ) : EReal) := fun a b ha hb => by
    rw [DiffAttn.coe_sum]
    exact Finset.sum_congr rfl fun i _ => by rw [EReal.coe_mul, ha, hb]
  have hw : ∃ r : ℝ, Ideal.ofBits .f32 0x3E4CCCCD#32 = (r : EReal) := by
    simp [Ideal.ofBits, Ideal.ieee]
    exact ⟨_, (EReal.coe_mul _ _).symm⟩
  obtain ⟨r, hr⟩ := hw
  unfold DiffAttn.lamOf
  rw [hs q1 k1 h1 h2, hs q2 k2 h3 h4, Ideal.exp_coe, Ideal.exp_coe, hr, ← EReal.coe_sub, ← EReal.coe_add]
  exact ⟨_, rfl⟩

/-- The reference's result array over real arguments. -/
theorem ref_real (m' : (ℓ : Loc Cert.ReferenceIdeal.nD Cert.ReferenceIdeal.τ Cert.ReferenceIdeal.sig) → Buf (Elt Ideal) ℓ) (c : Dev Cert.ReferenceIdeal.nD)
    (x : Fin 4 → ℕ → Fin 3072 → ℝ)
    (hx : ∀ (b : Fin 4) (n : Fin 4096) (j : Fin 3072), m' ((c.tc : Thread Cert.ReferenceIdeal.nD Cert.ReferenceIdeal.τ).loc Cert.ReferenceIdeal.main_arg0) (ix3 b n j) = (x b n j : EReal))
    (l : ℝ) (hl : DiffAttn.lamOf (fun y => m' ((c.tc : Thread Cert.ReferenceIdeal.nD Cert.ReferenceIdeal.τ).loc Cert.ReferenceIdeal.main_arg1) (ix2 0 y))
      (fun y => m' ((c.tc : Thread Cert.ReferenceIdeal.nD Cert.ReferenceIdeal.τ).loc Cert.ReferenceIdeal.main_arg2) (ix2 0 y))
      (fun y => m' ((c.tc : Thread Cert.ReferenceIdeal.nD Cert.ReferenceIdeal.τ).loc Cert.ReferenceIdeal.main_arg3) (ix2 0 y))
      (fun y => m' ((c.tc : Thread Cert.ReferenceIdeal.nD Cert.ReferenceIdeal.τ).loc Cert.ReferenceIdeal.main_arg4) (ix2 0 y)) = (l : EReal))
    (b : Fin 4) (n : Fin 4096) (j : Fin 1024) : Cert.ReferenceIdeal.Value.res_main_v80 m' c (ix3 b n j) =
      DiffAttn.normed (fun e => (DiffAttn.headAttn x b (DiffAttn.headOf ⟨(j : ℕ) / 128, by omega⟩ false) n e : EReal) -
          (l : EReal) * (DiffAttn.headAttn x b (DiffAttn.headOf ⟨(j : ℕ) / 128, by omega⟩ true) n e : EReal))
        (m' ((c.tc : Thread Cert.ReferenceIdeal.nD Cert.ReferenceIdeal.τ).loc Cert.ReferenceIdeal.main_arg5) (ix2 0 ⟨(j : ℕ) % 128, Nat.mod_lt _ (by decide)⟩))
        ⟨(j : ℕ) % 128, Nat.mod_lt _ (by decide)⟩ := by
  rw [Cert.ReferenceIdeal.Attention.res_eq]
  dsimp only
  rw [Cert.ReferenceIdeal.Attention.norm_apply]
  refine congrArg (fun o => DiffAttn.normed o _ _) (funext fun e => ?_)
  exact Cert.ReferenceIdeal.Attention.diff_real (fun b n j => hx b n j) _ l ((Cert.ReferenceIdeal.Attention.lam_apply _ _ _ _).trans hl) b n _ e

theorem algebraic (hpre : Cert.Pre_finite_args.Facts) :
    algebraic_KernelIdeal_ReferenceIdeal_pre_finite_args (hKernelIdeal := Cert.KernelIdeal.Gen.facts) (hReferenceIdeal := Cert.ReferenceIdeal.Gen.facts) (hPre_finite_args := hpre) := by
  intro m ρ m' ρ' hfin hagree
  refine ⟨_, Cert.KernelIdeal.Run.run m ρ, ?_⟩
  refine (θ_run Cert.ReferenceIdeal.defs _ _).mono (fun _ h c => ⟨?_, (h c).2⟩) (Cert.ReferenceIdeal.Value.run (F := Ideal) m' ρ')
  refine (h c).1.trans ?_
  obtain ⟨a0, a1, a2, a3, a4, a5⟩ := hagree c
  obtain ⟨r0, r1, r2, r3, r4⟩ := Cert.Pre_finite_args.reals _ _ _ _ _ _ (hfin c)
  obtain ⟨l, hl⟩ := lam_real _ _ _ _ (fun i => r1 (ix2 0 i)) (fun i => r2 (ix2 0 i)) (fun i => r3 (ix2 0 i)) (fun i => r4 (ix2 0 i))
  let x : Fin 4 → ℕ → Fin 3072 → ℝ := fun b n j =>
    if hn : n < 4096 then EReal.toReal (m ((c.tc : Thread Cert.KernelIdeal.nD Cert.KernelIdeal.τ).loc Cert.KernelIdeal.main_arg0) (ix3 b ⟨n, hn⟩ j)) else 0
  have hx : ∀ (b : Fin 4) (n : Fin 4096) (j : Fin 3072),
      m ((c.tc : Thread Cert.KernelIdeal.nD Cert.KernelIdeal.τ).loc Cert.KernelIdeal.main_arg0) (ix3 b n j) = (x b n j : EReal) := fun b n j => by
    show _ = ((dite _ _ _ : ℝ) : EReal)
    rw [dif_pos n.isLt]
    exact (r0 (ix3 b n j)).symm
  funext y
  obtain ⟨b, n, j, rfl⟩ : ∃ (b : Fin 4) (n : Fin 4096) (j : Fin 1024), y = ix3 b n j := ⟨y 0, y 1, y 2, funext fun a => by
    match a with
    | ⟨0, _⟩ => rfl
    | ⟨1, _⟩ => rfl
    | ⟨2, _⟩ => rfl⟩
  refine (ref_real m' c x (fun b n j => (congrFun a0 _).trans (hx b n j)) l ?_ b n j).trans ((Cert.KernelIdeal.Run.out_real m c x hx b n j).trans ?_).symm
  · rw [a1, a2, a3, a4]; exact hl
  · rw [hl, a5]

end Cert.Join

end
-- ==== Proof.Ffn.lean ====
/-
  The gated feed-forward call in plain functions: the up-projection of one sequence with two zero rows in front, three rows
  of it weighted per column, the exact GELU of the left half times the right half, the down-projection onto the scaled input,
  and the layer norm of that sum.
-/
module

public import Idealize.ShloMosaic.PureOps.Ideal.Laws

@[expose] public section

noncomputable section

namespace Ffn

open Idealize.ShloMosaic

/-- A sequence's rows behind two zero rows. -/
def shifted (x : Fin 4096 → Fin 1024 → EReal) (n : ℕ) (k : Fin 1024) : EReal :=
  if h : 2 ≤ n ∧ n < 4098 then x ⟨n - 2, by omega⟩ k else 0

theorem shifted_low (x : Fin 4096 → Fin 1024 → EReal) (n : ℕ) (h : n < 2) (k : Fin 1024) : shifted x n k = 0 := dif_neg (by omega)

theorem shifted_row (x : Fin 4096 → Fin 1024 → EReal) (n : ℕ) (r : Fin 4096) (h : n = (r : ℕ) + 2) (k : Fin 1024) : shifted x n k = x r k := by
  subst h
  unfold shifted
  rw [dif_pos (by omega)]
  rfl

/-- The up-projection of row `n` behind the two zero rows. -/
def up (x : Fin 4096 → Fin 1024 → EReal) (w : Fin 1024 → Fin 5632 → EReal) (n : ℕ) (c : Fin 5632) : EReal := ∑ k : Fin 1024, shifted x n k * w k c

theorem up_low (x : Fin 4096 → Fin 1024 → EReal) (w : Fin 1024 → Fin 5632 → EReal) (n : ℕ) (h : n < 2) (c : Fin 5632) : up x w n c = 0 :=
  Finset.sum_eq_zero fun k _ => by rw [shifted_low x n h, zero_mul]

theorem up_row (x : Fin 4096 → Fin 1024 → EReal) (w : Fin 1024 → Fin 5632 → EReal) (n : ℕ) (r : Fin 4096) (h : n = (r : ℕ) + 2) (c : Fin 5632) :
    up x w n c = ∑ k : Fin 1024, x r k * w k c :=
  Finset.sum_congr rfl fun k _ => by rw [shifted_row x n r h]

/-- The three weighted rows and the bias. -/
def conv (u : ℕ → Fin 5632 → EReal) (cw : Fin 3 → Fin 5632 → EReal) (cb : Fin 5632 → EReal) (n : ℕ) (c : Fin 5632) : EReal :=
  cb c + cw 2 c * u (n + 2) c + cw 1 c * u (n + 1) c + cw 0 c * u n c

/-- The exact GELU of `a`, times `g`. -/
def gated (a g : EReal) : EReal :=
  Ideal.ofBits .f32 0x3F000000#32 * a * (Ideal.ofBits .f32 0x3F800000#32 + Ideal.erf (a * Ideal.ofBits .f32 0x3F3504F3#32)) * g

/-- The word of the unit is the real one. -/
theorem one_word : Ideal.ofBits .f32 0x3F800000#32 = 1 := by
  simp [Ideal.ofBits, Ideal.ieee, -EReal.coe_mul]
  norm_num

/-- The GELU written by the complementary error function is the same number. -/
theorem gated_eq (a g : EReal) :
    Ideal.ofBits .f32 0x3F000000#32 * a * Ideal.erfc (-a * Ideal.ofBits .f32 0x3F3504F3#32) * g = gated a g := by
  unfold gated
  rw [neg_mul, Ideal.erfc_neg, one_word]

/-- The left half's GELU times the right half, of a row of the convolution. -/
def act (h : Fin 5632 → EReal) (c : Fin 2816) : EReal := gated (h ⟨c, by omega⟩) (h ⟨2816 + c, by omega⟩)

/-- The scaled input and the down-projection of a row. -/
def pre (x : Fin 1024 → EReal) (a : Fin 2816 → EReal) (wd : Fin 2816 → Fin 1024 → EReal) (j : Fin 1024) : EReal :=
  Ideal.ofBits .f32 0x3F9837F0#32 * x j + ∑ c : Fin 2816, a c * wd c j

/-- A row's mean. -/
def mean (z : Fin 1024 → EReal) : EReal := Ideal.div (∑ y : Fin 1024, z y) (Ideal.ofBits .f32 0x44800000#32)

/-- The layer norm of a row at column `j`. -/
def normed (z : Fin 1024 → EReal) (g b : Fin 1024 → EReal) (j : Fin 1024) : EReal :=
  (z j - mean z) * Ideal.rsqrt (Ideal.div (∑ y : Fin 1024, (z y - mean z) * (z y - mean z)) (Ideal.ofBits .f32 0x44800000#32) + Ideal.ofBits .f32 0x3727C5AC#32) * g j + b j

/-- The call's result at row `n` and column `j` of one sequence. -/
def out (x : Fin 4096 → Fin 1024 → EReal) (wu : Fin 1024 → Fin 5632 → EReal) (cw : Fin 3 → Fin 5632 → EReal) (cb : Fin 5632 → EReal)
    (wd : Fin 2816 → Fin 1024 → EReal) (g b : Fin 1024 → EReal) (n : Fin 4096) (j : Fin 1024) : EReal :=
  normed (pre (x n) (act (conv (up x wu) cw cb n)) wd) g b j

end Ffn

end
-- ==== Proof.FfnBody.lean ====
/-
  The feed-forward kernel's vector expressions read at an entry.
-/
module

public import proofs.«01_k».proof.Proof.Ffn
public import proofs.«01_k».proof.Proof.Gen.Kernel2Ideal.Skeleton
public import Idealize.ShloMosaic.Lib.Pointwise
public import Idealize.ShloMosaic.Lib.ValueIdx

@[expose] public section

set_option maxRecDepth 16384

noncomputable section

namespace Cert.Kernel2Ideal.Body

open Cert.Kernel2Ideal Cert.Kernel2Ideal.Gen
open Idealize.ShloMosaic Idealize.ShloMosaic.TcCoe

/-- Where a rotation by one or by two rows reads from, sixteen rows down. -/
theorem back1 (r : Fin 1024) (h : (16 + (r : ℕ) + 1040 - 1) % 1040 < 1040) : (⟨(16 + (r : ℕ) + 1040 - 1) % 1040, h⟩ : Fin 1040) = ⟨15 + r, by omega⟩ :=
  Fin.ext (by show (16 + (r : ℕ) + 1040 - 1) % 1040 = 15 + r; omega)

theorem back2 (r : Fin 1024) (h : (16 + (r : ℕ) + 1040 - 2) % 1040 < 1040) : (⟨(16 + (r : ℕ) + 1040 - 2) % 1040, h⟩ : Fin 1040) = ⟨14 + r, by omega⟩ :=
  Fin.ext (by show (16 + (r : ℕ) + 1040 - 2) % 1040 = 14 + r; omega)

/-- The word that says whether a grid point is the first of its sequence. -/
def firstWord (x : BitVec 32) : BitVec 1 :=
  let d : BitVec 32 := Scalar.select (Scalar.cmpi .eq 4#32 0#32) 1#32 4#32
  let r : BitVec 32 := Scalar.remsi x d
  Scalar.cmpi .eq (Scalar.select (Scalar.andi (Scalar.xori (Scalar.cmpi .slt r 0#32) (Scalar.cmpi .slt d 0#32)) (Scalar.cmpi .ne r 0#32)) (Scalar.addi r d) r) 0#32

theorem firstWord_eq : ∀ q : Fin 16, firstWord (BitVec.ofNat 32 q.val) = if q.val % 4 = 0 then 1#1 else 0#1 := by decide +kernel

/-- The sixteen rows in front: zero at the first grid point of a sequence. -/
theorem head_apply (i : grid0.Coords) (h : Vec Ideal S16x1024 .f32) (r : Fin 16) (k : Fin 1024) :
    k0_pay2 (F := Ideal) i h (ix2 r k) = if (i 0).val % 4 = 0 then 0 else h (ix2 r k) := by
  have e : k0_pay2 (F := Ideal) i h (ix2 r k) = Scalar.select (firstWord (BitVec.ofNat 32 (i 0).val)) 0 (h (ix2 r k)) := by
    pointwise [k0_pay2]
    rfl
  rw [e, show firstWord (BitVec.ofNat 32 (i 0).val) = _ from firstWord_eq (i 0)]
  by_cases hi : (i 0).val % 4 = 0
  · rw [if_pos hi, if_pos hi]; rfl
  · rw [if_neg hi, if_neg hi]; rfl

theorem tail_apply (x : Vec Ideal S1024x1024 .f32) (r : Fin 1024) (k : Fin 1024) : k0_pay3 (F := Ideal) x (ix2 r k) = x (ix2 r k) := by
  pointwise [k0_pay3]

/-- The up-projection of a row of the 1040 the kernel holds. -/
def upAt (x : Vec Ideal S1040x1024 .bf16) (w : Vec Ideal S1024x5632 .bf16) (i : ℕ) (c : Fin 5632) : EReal :=
  if h : i < 1040 then ∑ k : Fin 1024, x (ix2 ⟨i, h⟩ k) * w (ix2 k c) else 0

/-- The convolution of a row of the 1024 the kernel writes. -/
def convAt (x : Vec Ideal S1040x1024 .bf16) (w : Vec Ideal S1024x5632 .bf16) (cw : Vec Ideal S3x5632 .f32) (cb : Vec Ideal S1x5632 .f32) (r : Fin 1024) (c : Fin 5632) : EReal :=
  cb (ix2 0 c) + cw (ix2 2 c) * upAt x w (16 + r) c + cw (ix2 1 c) * upAt x w (15 + r) c + cw (ix2 0 c) * upAt x w (14 + r) c

theorem convAt_eq (x : Vec Ideal S1040x1024 .bf16) (w : Vec Ideal S1024x5632 .bf16) (cw : Vec Ideal S3x5632 .f32) (cb : Vec Ideal S1x5632 .f32) (r : Fin 1024) (c : Fin 5632) :
    convAt x w cw cb r c = cb (ix2 0 c) + cw (ix2 2 c) * (∑ k : Fin 1024, x (ix2 ⟨16 + r, by omega⟩ k) * w (ix2 k c)) +
      cw (ix2 1 c) * (∑ k : Fin 1024, x (ix2 ⟨15 + r, by omega⟩ k) * w (ix2 k c)) + cw (ix2 0 c) * (∑ k : Fin 1024, x (ix2 ⟨14 + r, by omega⟩ k) * w (ix2 k c)) := by
  unfold convAt upAt
  rw [dif_pos (by omega), dif_pos (by omega), dif_pos (by omega)]

variable (x : Vec Ideal S1040x1024 .bf16) (w : Vec Ideal S1024x5632 .bf16) (cw : Vec Ideal S3x5632 .f32) (cb : Vec Ideal S1x5632 .f32) (wd : Vec Ideal S2816x1024 .bf16)

/-- Left columns 0 to 1535. -/
def left0 : FVec Ideal S1024x1536 .f32 :=
  k0_pay6 (F := Ideal) (k0_pay4 x (View.ld w (Rect.unit ![0, 0] S1024x1536.size inb_S1024x5632_S1024x1536_0_0))) (k0_pay5 (View.ld cb (Rect.unit ![0, 0] S1x1536.size inb_S1x5632_S1x1536_0_0)))
    (View.ld cw (Rect.unit ![2, 0] S1x1536.size inb_S3x5632_S1x1536_2_0)) (View.ld cw (Rect.unit ![1, 0] S1x1536.size inb_S3x5632_S1x1536_1_0))
    (View.ld cw (Rect.unit ![0, 0] S1x1536.size inb_S3x5632_S1x1536_0_0))

theorem left0_apply (r : Fin 1024) (c : Fin 1536) : left0 x w cw cb (ix2 r c) = convAt x w cw cb r ⟨c, by omega⟩ := by
  rw [convAt_eq]
  pointwise [left0, k0_pay6, k0_pay5, k0_pay4]
  rw [back1, back2]

/-- The right columns that meet them, before their last weighted row, and that row. -/
def right0 : FVec Ideal S1024x1536 .f32 :=
  k0_pay8 (F := Ideal) x (View.ld w (Rect.unit ![0, 2816] S1024x1536.size inb_S1024x5632_S1024x1536_0_2816)) (View.ld cb (Rect.unit ![0, 2816] S1x1536.size inb_S1x5632_S1x1536_0_2816))
    (View.ld cw (Rect.unit ![2, 2816] S1x1536.size inb_S3x5632_S1x1536_2_2816)) (View.ld cw (Rect.unit ![1, 2816] S1x1536.size inb_S3x5632_S1x1536_1_2816))

def last0 : FVec Ideal S1024x1536 .f32 :=
  k0_pay9 (F := Ideal) x (View.ld w (Rect.unit ![0, 2816] S1024x1536.size inb_S1024x5632_S1024x1536_0_2816))

theorem right0_apply (r : Fin 1024) (c : Fin 1536) :
    right0 x w cw cb (ix2 r c) + cw (ix2 0 ⟨2816 + c, by omega⟩) * last0 x w (ix2 r c) = convAt x w cw cb r ⟨2816 + c, by omega⟩ := by
  rw [convAt_eq]
  pointwise [right0, last0, k0_pay7, k0_pay8, k0_pay9]
  rw [back1, back2]

/-- The first 1536 columns' part of the down-projection. -/
def down0 : FVec Ideal S1024x1024 .f32 :=
  k0_pay10 (F := Ideal) (left0 x w cw cb) (right0 x w cw cb) (last0 x w) (View.ld cw (Rect.unit ![0, 2816] S1x1536.size inb_S3x5632_S1x1536_0_2816))
    (View.ld wd (Rect.unit ![0, 0] S1536x1024.size inb_S2816x1024_S1536x1024_0_0))

theorem down0_apply (r : Fin 1024) (j : Fin 1024) : down0 x w cw cb wd (ix2 r j) =
    ∑ c : Fin 1536, Ffn.act (convAt x w cw cb r) ⟨c, by omega⟩ * wd (ix2 ⟨c, by omega⟩ j) := by
  have e : down0 x w cw cb wd (ix2 r j) = ∑ c : Fin 1536, Ffn.gated (left0 x w cw cb (ix2 r c))
      (right0 x w cw cb (ix2 r c) + cw (ix2 0 ⟨2816 + c, by omega⟩) * last0 x w (ix2 r c)) * wd (ix2 ⟨c, by omega⟩ j) := by
    unfold Ffn.gated
    pointwise [down0, k0_pay10]
    rfl
  rw [e]
  refine Finset.sum_congr rfl fun c _ => ?_
  rw [right0_apply, left0_apply]
  rfl

/-- The remaining 1280 columns, convolved and gated. -/
def act1 : FVec Ideal S1024x1280 .f32 :=
  k0_pay13 (F := Ideal) x (k0_pay11 x (View.ld w (Rect.unit ![0, 1536] S1024x1280.size inb_S1024x5632_S1024x1280_0_1536)))
    (k0_pay12 x (View.ld w (Rect.unit ![0, 1536] S1024x1280.size inb_S1024x5632_S1024x1280_0_1536)) (View.ld cb (Rect.unit ![0, 1536] S1x1280.size inb_S1x5632_S1x1280_0_1536))
      (View.ld cw (Rect.unit ![2, 1536] S1x1280.size inb_S3x5632_S1x1280_2_1536)) (View.ld cw (Rect.unit ![1, 1536] S1x1280.size inb_S3x5632_S1x1280_1_1536)))
    2#32 (View.ld cw (Rect.unit ![0, 1536] S1x1280.size inb_S3x5632_S1x1280_0_1536))
    (View.ld w (Rect.unit ![0, 4352] S1024x1280.size inb_S1024x5632_S1024x1280_0_4352)) (View.ld cb (Rect.unit ![0, 4352] S1x1280.size inb_S1x5632_S1x1280_0_4352))
    (View.ld cw (Rect.unit ![2, 4352] S1x1280.size inb_S3x5632_S1x1280_2_4352)) (View.ld cw (Rect.unit ![1, 4352] S1x1280.size inb_S3x5632_S1x1280_1_4352))
    (View.ld cw (Rect.unit ![0, 4352] S1x1280.size inb_S3x5632_S1x1280_0_4352))

theorem act1_apply (r : Fin 1024) (c : Fin 1280) : act1 x w cw cb (ix2 r c) = Ffn.act (convAt x w cw cb r) ⟨1536 + c, by omega⟩ := by
  have e : (⟨4352 + (c : ℕ), by omega⟩ : Fin 5632) = ⟨2816 + (1536 + c), by omega⟩ := Fin.ext (by show 4352 + (c : ℕ) = 2816 + (1536 + c); omega)
  refine Eq.trans ?_ (congrArg (fun d => Ffn.gated (convAt x w cw cb r ⟨1536 + c, by omega⟩) (convAt x w cw cb r d)) e)
  unfold Ffn.gated
  simp only [convAt_eq]
  pointwise [act1, k0_pay11, k0_pay12, k0_pay13]
  rw [back1, back2]
  rfl

/-- The whole down-projection. -/
def down : FVec Ideal S1024x1024 .f32 :=
  k0_pay14 (F := Ideal) (act1 x w cw cb) (View.ld wd (Rect.unit ![1536, 0] S1280x1024.size inb_S2816x1024_S1280x1024_1536_0)) (down0 x w cw cb wd)

theorem down_apply (r : Fin 1024) (j : Fin 1024) : down x w cw cb wd (ix2 r j) = ∑ c : Fin 2816, Ffn.act (convAt x w cw cb r) c * wd (ix2 c j) := by
  have e : down x w cw cb wd (ix2 r j) = down0 x w cw cb wd (ix2 r j) + ∑ c : Fin 1280, act1 x w cw cb (ix2 r c) * wd (ix2 ⟨1536 + c, by omega⟩ j) := by
    pointwise [down, k0_pay14]
  rw [e, down0_apply, show (∑ c : Fin 2816, Ffn.act (convAt x w cw cb r) c * wd (ix2 c j)) = _ from
    Fin.sum_univ_add (a := 1536) (b := 1280) fun c : Fin 2816 => Ffn.act (convAt x w cw cb r) c * wd (ix2 c j)]
  refine congrArg₂ (· + ·) rfl (Finset.sum_congr rfl fun c _ => ?_)
  rw [act1_apply]
  rfl

/-- The layer norm of the scaled input plus a sum. -/
theorem norm_apply (y z : Vec Ideal S1024x1024 .f32) (g b : Vec Ideal S1x1024 .f32) (r : Fin 1024) (j : Fin 1024) :
    k0_pay1 (F := Ideal) (k0_pay15 y z g) (k0_pay16 b) (ix2 r j) =
      Ffn.normed (fun k => Ideal.ofBits .f32 0x3F9837F0#32 * y (ix2 r k) + z (ix2 r k)) (fun k => g (ix2 0 k)) (fun k => b (ix2 0 k)) j := by
  unfold Ffn.normed Ffn.mean
  pointwise [k0_pay1, k0_pay15, k0_pay16]

/-- What the body writes, as the program composes it. -/
def bodyOut (y : Vec Ideal S1024x1024 .f32) (g b : Vec Ideal S1x1024 .f32) : FVec Ideal S1024x1024 .f32 :=
  k0_pay1 (F := Ideal) (k0_pay15 y (down x w cw cb wd) g) (k0_pay16 b)

theorem bodyOut_apply (y : Vec Ideal S1024x1024 .f32) (g b : Vec Ideal S1x1024 .f32) (r : Fin 1024) (j : Fin 1024) :
    bodyOut x w cw cb wd y g b (ix2 r j) = Ffn.normed (Ffn.pre (fun k => y (ix2 r k)) (Ffn.act (convAt x w cw cb r)) fun c k => wd (ix2 c k))
      (fun k => g (ix2 0 k)) (fun k => b (ix2 0 k)) j := by
  unfold bodyOut
  rw [norm_apply]
  refine congrArg (fun z => Ffn.normed z _ _ j) (funext fun k => ?_)
  rw [down_apply]
  rfl

end Cert.Kernel2Ideal.Body

end
-- ==== Proof.FfnArgs.lean ====
/-
  The feed-forward kernel's blocks at a grid point, read as entries of the program's arguments.
-/
module

public import proofs.«01_k».proof.Proof.FfnBody
public import proofs.«01_k».proof.Proof.Gen.Kernel2Ideal.Frame
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Kernel2Ideal.Body

open Cert.Kernel2Ideal Cert.Kernel2Ideal.Gen
open Idealize.ShloMosaic Idealize.ShloMosaic.TcCoe
open Idealize.SL.Sem
open Idealize.ShloMosaic.Pipeline (Dat)

variable (m : (ℓ : Loc nD τ sig) → Buf (Elt Ideal) ℓ)

theorem idx_facts : ∀ t : Fin cfg0.N, win0_0.index t = ![t.val, 0] ∧ win0_1.index t = ![64 * t.val - 1, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![t.val, 0] :=
  (by decide +kernel : ∀ t : Fin grid0.N, _)

theorem coord_eq : ∀ t : Fin cfg0.N, (grid0.coords t 0).val = t.val :=
  (by decide +kernel : ∀ t : Fin grid0.N, (grid0.coords t 0).val = t.val)

/-- The reshapes and the narrowing of the arguments, read at an entry. -/
theorem rows_cast (X : FVec Ideal S4x4096x1024 .f32) (b : Fin 4) (n : Fin 4096) (i : Fin 16384) (h : (i : ℕ) = 4096 * b + n) (k : Fin 1024) :
    shapeCast S16384x1024 X shapeCasts_S4x4096x1024_S16384x1024 (ix2 i k) = X (ix3 b n k) := by
  pointwise
  have h1 : (⟨(i : ℕ) / 4096, by omega⟩ : Fin 4) = b := Fin.ext (by show (i : ℕ) / 4096 = b; omega)
  have h2 : (⟨(i : ℕ) % 4096, by omega⟩ : Fin 4096) = n := Fin.ext (by show (i : ℕ) % 4096 = n; omega)
  rw [h1, h2]

theorem up_cast (X : FVec Ideal S1x1024x5632 .f32) (k : Fin 1024) (d : Fin 5632) :
    (truncf .bf16 (shapeCast S1024x5632 X shapeCasts_S1x1024x5632_S1024x5632) bitsLt_bf16_f32 : FVec Ideal S1024x5632 .bf16) (ix2 k d) = X (ix3 0 k d) := by
  pointwise

theorem taps_cast (X : FVec Ideal S1x3x5632 .f32) (i : Fin 3) (d : Fin 5632) :
    shapeCast S3x5632 X shapeCasts_S1x3x5632_S3x5632 (ix2 i d) = X (ix3 0 i d) := by
  pointwise

theorem bias_cast (X : FVec Ideal S1x5632 .f32) (d : Fin 5632) :
    broadcastInDim S1x5632 ![1] bcast_S5632_S1x5632_1 (shapeCast S5632 X shapeCasts_S1x5632_S5632) (ix2 0 d) = X (ix2 0 d) := by
  pointwise

theorem down_cast (X : FVec Ideal S1x2816x1024 .f32) (k : Fin 2816) (d : Fin 1024) :
    (truncf .bf16 (shapeCast S2816x1024 X shapeCasts_S1x2816x1024_S2816x1024) bitsLt_bf16_f32 : FVec Ideal S2816x1024 .bf16) (ix2 k d) = X (ix3 0 k d) := by
  pointwise

theorem gain_cast (X : FVec Ideal S1x1024 .f32) (d : Fin 1024) :
    broadcastInDim S1x1024 ![1] bcast_S1024_S1x1024_1 (shapeCast S1024 X shapeCasts_S1x1024_S1024) (ix2 0 d) = X (ix2 0 d) := by
  pointwise

theorem v0_eq (c : Dev nD) : V m c main_v0 = shapeCast S16384x1024 (m ((c : Thread nD τ).loc main_arg0) : FVec Ideal S4x4096x1024 .f32) shapeCasts_S4x4096x1024_S16384x1024 := by
  show StableHlo.after (List.flatten [hostOps0]) (fun b => m (c, b)) _ = _
  simp only [hostOps0, List.flatten_cons, List.flatten_nil, List.append_nil]
  after_results
  rfl

theorem v2_eq (c : Dev nD) : V m c main_v2 = (truncf .bf16 (shapeCast S1024x5632 (m ((c : Thread nD τ).loc main_arg1) : FVec Ideal S1x1024x5632 .f32) shapeCasts_S1x1024x5632_S1024x5632) bitsLt_bf16_f32 : FVec Ideal S1024x5632 .bf16) := by
  show StableHlo.after (List.flatten [hostOps0]) (fun b => m (c, b)) _ = _
  simp only [hostOps0, List.flatten_cons, List.flatten_nil, List.append_nil]
  after_results
  rfl

theorem v3_eq (c : Dev nD) : V m c main_v3 = shapeCast S3x5632 (m ((c : Thread nD τ).loc main_arg2) : FVec Ideal S1x3x5632 .f32) shapeCasts_S1x3x5632_S3x5632 := by
  show StableHlo.after (List.flatten [hostOps0]) (fun b => m (c, b)) _ = _
  simp only [hostOps0, List.flatten_cons, List.flatten_nil, List.append_nil]
  after_results
  rfl

theorem v5_eq (c : Dev nD) : V m c main_v5 = broadcastInDim S1x5632 ![1] bcast_S5632_S1x5632_1 (shapeCast S5632 (m ((c : Thread nD τ).loc main_arg3) : FVec Ideal S1x5632 .f32) shapeCasts_S1x5632_S5632) := by
  show StableHlo.after (List.flatten [hostOps0]) (fun b => m (c, b)) _ = _
  simp only [hostOps0, List.flatten_cons, List.flatten_nil, List.append_nil]
  after_results
  rfl

theorem v7_eq (c : Dev nD) : V m c main_v7 = (truncf .bf16 (shapeCast S2816x1024 (m ((c : Thread nD τ).loc main_arg4) : FVec Ideal S1x2816x1024 .f32) shapeCasts_S1x2816x1024_S2816x1024) bitsLt_bf16_f32 : FVec Ideal S2816x1024 .bf16) := by
  show StableHlo.after (List.flatten [hostOps0]) (fun b => m (c, b)) _ = _
  simp only [hostOps0, List.flatten_cons, List.flatten_nil, List.append_nil]
  after_results
  rfl

theorem v9_eq (c : Dev nD) : V m c main_v9 = broadcastInDim S1x1024 ![1] bcast_S1024_S1x1024_1 (shapeCast S1024 (m ((c : Thread nD τ).loc main_arg5) : FVec Ideal S1x1024 .f32) shapeCasts_S1x1024_S1024) := by
  show StableHlo.after (List.flatten [hostOps0]) (fun b => m (c, b)) _ = _
  simp only [hostOps0, List.flatten_cons, List.flatten_nil, List.append_nil]
  after_results
  rfl

theorem v11_eq (c : Dev nD) : V m c main_v11 = broadcastInDim S1x1024 ![1] bcast_S1024_S1x1024_1 (shapeCast S1024 (m ((c : Thread nD τ).loc main_arg6) : FVec Ideal S1x1024 .f32) shapeCasts_S1x1024_S1024) := by
  show StableHlo.after (List.flatten [hostOps0]) (fun b => m (c, b)) _ = _
  simp only [hostOps0, List.flatten_cons, List.flatten_nil, List.append_nil]
  after_results
  rfl

theorem x_apply (c : Dev nD) (t : Fin cfg0.N) (b : Fin 4) (n : Fin 4096) (r : Fin 1024) (h : 1024 * t.val + r = 4096 * b + n) (k : Fin 1024) :
    iblk m c 0 t (ix2 r k) = m ((c : Thread nD τ).loc main_arg0) (ix3 b n k) := by
  obtain ⟨e0, e1, e2, e3, e4, e5, e6, e7, e8⟩ := idx_facts t
  have e : (win0_0.blk t).view.emb (ix2 r k) = ix2 ⟨1024 * t.val + r, by omega⟩ k := by blk_ext [e0]
  show V m c main_v0 ((win0_0.blk t).view.emb (ix2 r k)) = _
  rw [e, v0_eq]
  exact rows_cast _ b n _ h k

theorem halo_apply (c : Dev nD) (t : Fin cfg0.N) (b : Fin 4) (n : Fin 4096) (r : Fin 16) (ht : 0 < t.val) (h : 1024 * t.val + r = 4096 * b + n + 16) (k : Fin 1024) :
    iblk m c 1 t (ix2 r k) = m ((c : Thread nD τ).loc main_arg0) (ix3 b n k) := by
  obtain ⟨e0, e1, e2, e3, e4, e5, e6, e7, e8⟩ := idx_facts t
  have e : (win0_1.blk t).view.emb (ix2 r k) = ix2 ⟨1024 * t.val + r - 16, by omega⟩ k := by blk_ext [e1]
  show V m c main_v0 ((win0_1.blk t).view.emb (ix2 r k)) = _
  rw [e, v0_eq]
  exact rows_cast _ b n _ (by show 1024 * t.val + r - 16 = 4096 * b + n; omega) k

theorem wu_apply (c : Dev nD) (t : Fin cfg0.N) (k : Fin 1024) (d : Fin 5632) : iblk m c 2 t (ix2 k d) = m ((c : Thread nD τ).loc main_arg1) (ix3 0 k d) := by
  obtain ⟨e0, e1, e2, e3, e4, e5, e6, e7, e8⟩ := idx_facts t
  have e : (win0_2.blk t).view.emb (ix2 k d) = ix2 k d := by blk_ext [e2]
  show V m c main_v2 ((win0_2.blk t).view.emb (ix2 k d)) = _
  rw [e, v2_eq]
  exact up_cast _ k d

theorem cw_apply (c : Dev nD) (t : Fin cfg0.N) (i : Fin 3) (d : Fin 5632) : iblk m c 3 t (ix2 i d) = m ((c : Thread nD τ).loc main_arg2) (ix3 0 i d) := by
  obtain ⟨e0, e1, e2, e3, e4, e5, e6, e7, e8⟩ := idx_facts t
  have e : (win0_3.blk t).view.emb (ix2 i d) = ix2 i d := by blk_ext [e3]
  show V m c main_v3 ((win0_3.blk t).view.emb (ix2 i d)) = _
  rw [e, v3_eq]
  exact taps_cast _ i d

theorem cb_apply (c : Dev nD) (t : Fin cfg0.N) (d : Fin 5632) : iblk m c 4 t (ix2 0 d) = m ((c : Thread nD τ).loc main_arg3) (ix2 0 d) := by
  obtain ⟨e0, e1, e2, e3, e4, e5, e6, e7, e8⟩ := idx_facts t
  have e : (win0_4.blk t).view.emb (ix2 0 d) = ix2 0 d := by blk_ext [e4]
  show V m c main_v5 ((win0_4.blk t).view.emb (ix2 0 d)) = _
  rw [e, v5_eq]
  exact bias_cast _ d

theorem wd_apply (c : Dev nD) (t : Fin cfg0.N) (k : Fin 2816) (d : Fin 1024) : iblk m c 5 t (ix2 k d) = m ((c : Thread nD τ).loc main_arg4) (ix3 0 k d) := by
  obtain ⟨e0, e1, e2, e3, e4, e5, e6, e7, e8⟩ := idx_facts t
  have e : (win0_5.blk t).view.emb (ix2 k d) = ix2 k d := by blk_ext [e5]
  show V m c main_v7 ((win0_5.blk t).view.emb (ix2 k d)) = _
  rw [e, v7_eq]
  exact down_cast _ k d

theorem g_apply (c : Dev nD) (t : Fin cfg0.N) (d : Fin 1024) : iblk m c 6 t (ix2 0 d) = m ((c : Thread nD τ).loc main_arg5) (ix2 0 d) := by
  obtain ⟨e0, e1, e2, e3, e4, e5, e6, e7, e8⟩ := idx_facts t
  have e : (win0_6.blk t).view.emb (ix2 0 d) = ix2 0 d := by blk_ext [e6]
  show V m c main_v9 ((win0_6.blk t).view.emb (ix2 0 d)) = _
  rw [e, v9_eq]
  exact gain_cast _ d

theorem b_apply (c : Dev nD) (t : Fin cfg0.N) (d : Fin 1024) : iblk m c 7 t (ix2 0 d) = m ((c : Thread nD τ).loc main_arg6) (ix2 0 d) := by
  obtain ⟨e0, e1, e2, e3, e4, e5, e6, e7, e8⟩ := idx_facts t
  have e : (win0_7.blk t).view.emb (ix2 0 d) = ix2 0 d := by blk_ext [e7]
  show V m c main_v11 ((win0_7.blk t).view.emb (ix2 0 d)) = _
  rw [e, v11_eq]
  exact gain_cast _ d

end Cert.Kernel2Ideal.Body

end
-- ==== Proof.FfnKer.lean ====
/-
  The feed-forward kernel's result array: every grid point writes the 1024 rows it names, each the plain function of the
  program's arguments.
-/
module

public import proofs.«01_k».proof.Proof.FfnArgs

@[expose] public section

set_option maxRecDepth 16384

noncomputable section

namespace Cert.Kernel2Ideal.Body

open Cert.Kernel2Ideal Cert.Kernel2Ideal.Gen
open Idealize.ShloMosaic Idealize.ShloMosaic.TcCoe
open Idealize.SL.Sem
open Idealize.ShloMosaic.Pipeline (Dat)

variable (m : (ℓ : Loc nD τ sig) → Buf (Elt Ideal) ℓ)

/-- The two stores that fill the kernel's 1040 rows. -/
def tailRect : Rect S1040x1024 := Rect.unit ![16, 0] S1024x1024.size inb_S1040x1024_S1024x1024_16_0
def headRect : Rect S1040x1024 := Rect.unit ![0, 0] S16x1024.size inb_S1040x1024_S16x1024_0_0

/-- The rows the kernel holds at a grid point: sixteen from in front of its block, then the block. -/
def held (c : Dev nD) (t : Fin cfg0.N) : Vec Ideal S1040x1024 .bf16 :=
  (View.whole cc0_scratch0).readCov [⟨tailRect, k0_pay3 (F := Ideal) (iblk m c 0 t)⟩, ⟨headRect, k0_pay2 (F := Ideal) (grid0.coords t) (iblk m c 1 t)⟩]
    (Rect.unit ![0, 0] S1040x1024.size inb_S1040x1024_S1040x1024_0_0).toLoadRect

theorem outs_eq (c : Dev nD) (t : Fin cfg0.N) : outsAt0 m c t =
    bodyOut (held m c t) (iblk m c 2 t) (iblk m c 3 t) (iblk m c 4 t) (iblk m c 5 t) (iblk m c 0 t) (iblk m c 6 t) (iblk m c 7 t) := by
  unfold outsAt0
  frame_out
  rfl

theorem held_tail (c : Dev nD) (t : Fin cfg0.N) (i : Fin 1040) (r : Fin 1024) (h : (i : ℕ) = 16 + r) (k : Fin 1024) :
    held m c t (ix2 i k) = iblk m c 0 t (ix2 r k) := by
  refine Eq.trans ?_ (tail_apply (iblk m c 0 t) r k)
  unfold held
  rw [View.readCov_eq_canon']
  have e : ((Rect.unit ![0, 0] S1040x1024.size inb_S1040x1024_S1040x1024_0_0).toLoadRect).idx (ix2 i k) = tailRect.emb (ix2 r k) := funext fun a => Fin.ext (by
    match a with
    | ⟨0, _⟩ => show 0 + 1 * (i : ℕ) = 16 + 1 * (r : ℕ); omega
    | ⟨1, _⟩ => rfl)
  show View.canon _ _ = _
  rw [e]
  exact View.canon_cons_emb _ _ _ _

theorem held_head (c : Dev nD) (t : Fin cfg0.N) (i : Fin 1040) (r : Fin 16) (h : (i : ℕ) = r) (k : Fin 1024) :
    held m c t (ix2 i k) = if t.val % 4 = 0 then (0 : EReal) else iblk m c 1 t (ix2 r k) := by
  refine Eq.trans ?_ ((head_apply (grid0.coords t) (iblk m c 1 t) r k).trans (by rw [coord_eq]))
  unfold held
  rw [View.readCov_eq_canon']
  have e : ((Rect.unit ![0, 0] S1040x1024.size inb_S1040x1024_S1040x1024_0_0).toLoadRect).idx (ix2 i k) = headRect.emb (ix2 r k) := funext fun a => Fin.ext (by
    match a with
    | ⟨0, _⟩ => show 0 + 1 * (i : ℕ) = 0 + 1 * (r : ℕ); omega
    | ⟨1, _⟩ => rfl)
  show View.canon _ _ = _
  rw [e, View.canon_cons_of_not_mem]
  · exact View.canon_cons_emb _ _ _ _
  · intro hm
    obtain ⟨x, hx⟩ := tailRect.exists_idx_of_mem hm
    have h0 : 16 + 1 * (x 0).val = 0 + 1 * (r : ℕ) := congrArg (fun y => (y 0).val) hx
    omega

/-- One sequence's rows among the arguments. -/
def seqOf (c : Dev nD) (b : Fin 4) (n : Fin 4096) (k : Fin 1024) : EReal := m ((c : Thread nD τ).loc main_arg0) (ix3 b n k)

theorem held_apply (c : Dev nD) (t : Fin cfg0.N) (b q : Fin 4) (ht : t.val = 4 * b + q) (i : Fin 1040) (hi : 14 ≤ (i : ℕ)) (k : Fin 1024) :
    held m c t (ix2 i k) = Ffn.shifted (seqOf m c b) (1024 * q + (i - 14)) k := by
  by_cases h : 16 ≤ (i : ℕ)
  · rw [held_tail m c t i ⟨i - 16, by omega⟩ (by show (i : ℕ) = 16 + ((i : ℕ) - 16); omega),
      Ffn.shifted_row _ _ ⟨1024 * q + (i - 16), by omega⟩ (by show 1024 * (q : ℕ) + (i - 14) = 1024 * (q : ℕ) + (i - 16) + 2; omega)]
    exact x_apply m c t b _ _ (by show 1024 * t.val + ((i : ℕ) - 16) = 4096 * b + (1024 * q + (i - 16)); omega) k
  · rw [held_head m c t i ⟨i, by omega⟩ rfl]
    by_cases hq : (q : ℕ) = 0
    · rw [if_pos (by omega), Ffn.shifted_low _ _ (by omega)]
    · rw [if_neg (by omega), Ffn.shifted_row _ _ ⟨1024 * q + (i - 14) - 2, by omega⟩ (by show 1024 * (q : ℕ) + (i - 14) = 1024 * (q : ℕ) + (i - 14) - 2 + 2; omega)]
      exact halo_apply m c t b _ _ (by omega) (by show 1024 * t.val + (i : ℕ) = 4096 * b + (1024 * q + (i - 14) - 2) + 16; omega) k

theorem up_at (c : Dev nD) (t : Fin cfg0.N) (b q : Fin 4) (ht : t.val = 4 * b + q) (i : ℕ) (hi : 14 ≤ i) (hi' : i < 1040) (d : Fin 5632) :
    upAt (held m c t) (iblk m c 2 t) i d =
      Ffn.up (seqOf m c b) (fun k d => m ((c : Thread nD τ).loc main_arg1) (ix3 0 k d)) (1024 * q + (i - 14)) d := by
  unfold upAt Ffn.up
  rw [dif_pos hi']
  exact Finset.sum_congr rfl fun k _ => congrArg₂ (· * ·) (held_apply m c t b q ht ⟨i, hi'⟩ hi k) (wu_apply m c t k d)

theorem conv_at (c : Dev nD) (t : Fin cfg0.N) (b q : Fin 4) (ht : t.val = 4 * b + q) (r : Fin 1024) :
    convAt (held m c t) (iblk m c 2 t) (iblk m c 3 t) (iblk m c 4 t) r =
      Ffn.conv (Ffn.up (seqOf m c b) (fun k d => m ((c : Thread nD τ).loc main_arg1) (ix3 0 k d)))
        (fun i d => m ((c : Thread nD τ).loc main_arg2) (ix3 0 i d)) (fun d => m ((c : Thread nD τ).loc main_arg3) (ix2 0 d)) (1024 * q + r) := by
  funext d
  unfold convAt Ffn.conv
  rw [up_at m c t b q ht _ (by omega) (by omega), up_at m c t b q ht _ (by omega) (by omega), up_at m c t b q ht _ (by omega) (by omega), cb_apply, cw_apply, cw_apply, cw_apply,
    show 1024 * (q : ℕ) + (16 + r - 14) = 1024 * q + r + 2 by omega, show 1024 * (q : ℕ) + (15 + r - 14) = 1024 * q + r + 1 by omega,
    show 1024 * (q : ℕ) + (14 + r - 14) = 1024 * q + r by omega]

/-- The call's result at row `n` and column `j` of sequence `b`. -/
def outAt (c : Dev nD) (b : Fin 4) (n : Fin 4096) (j : Fin 1024) : EReal :=
  Ffn.out (seqOf m c b) (fun k d => m ((c : Thread nD τ).loc main_arg1) (ix3 0 k d)) (fun i d => m ((c : Thread nD τ).loc main_arg2) (ix3 0 i d))
    (fun d => m ((c : Thread nD τ).loc main_arg3) (ix2 0 d)) (fun k d => m ((c : Thread nD τ).loc main_arg4) (ix3 0 k d))
    (fun d => m ((c : Thread nD τ).loc main_arg5) (ix2 0 d)) (fun d => m ((c : Thread nD τ).loc main_arg6) (ix2 0 d)) n j

theorem outs_apply (c : Dev nD) (t : Fin cfg0.N) (b q : Fin 4) (ht : t.val = 4 * b + q) (r : Fin 1024) (j : Fin 1024) :
    outsAt0 m c t (ix2 r j) = outAt m c b ⟨1024 * q + r, by omega⟩ j := by
  rw [outs_eq, bodyOut_apply, conv_at m c t b q ht]
  have ex : (fun k => iblk m c 0 t (ix2 r k)) = seqOf m c b ⟨1024 * q + r, by omega⟩ :=
    funext fun k => x_apply m c t b _ _ (by show 1024 * t.val + (r : ℕ) = 4096 * b + (1024 * q + r); omega) k
  have ed : (fun k d => iblk m c 5 t (ix2 k d)) = fun k d => m ((c : Thread nD τ).loc main_arg4) (ix3 0 k d) := funext fun k => funext fun d => wd_apply m c t k d
  have eg : (fun d => iblk m c 6 t (ix2 0 d)) = fun d => m ((c : Thread nD τ).loc main_arg5) (ix2 0 d) := funext fun d => g_apply m c t d
  have eb : (fun d => iblk m c 7 t (ix2 0 d)) = fun d => m ((c : Thread nD τ).loc main_arg6) (ix2 0 d) := funext fun d => b_apply m c t d
  rw [ex, ed, eg, eb]
  rfl

/-- The kernel's result array, its sequences one after the other. -/
def outG (c : Dev nD) : S16384x1024.Idx → Elt Ideal .f32 := fun y =>
  outAt m c ⟨(y 0).val / 4096, by have h := (y 0).isLt; change (y 0).val < 16384 at h; omega⟩ ⟨(y 0).val % 4096, Nat.mod_lt _ (by decide)⟩ (y 1)

theorem final (c : Dev nD) : (dats m 0 c).arrAt 8 cfg0.N = outG m c := by
  refine (dats m 0 c).arrAt_eq_of_covers 8 _ (by decide +kernel) fun t hf y => ?_
  obtain ⟨e0, e1, e2, e3, e4, e5, e6, e7, e8⟩ := idx_facts t
  blk_simp
  rw [after0_8]
  unfold outG
  have ht : t.val < 16 := lt_of_lt_of_eq t.isLt (show cfg0.N = 16 from N_0)
  idx_bounds y
  have h0 : ((win0_8.blk t).view.emb y 0).val = t.val * 1024 + (y 0).val := by blk_simp [e8]
  have h1 : ((win0_8.blk t).view.emb y 1).val = (y 1).val := by blk_simp [e8]
  obtain ⟨r, j, rfl⟩ : ∃ (r : Fin 1024) (j : Fin 1024), y = ix2 r j := ⟨y 0, y 1, funext fun a => by
    match a with
    | ⟨0, _⟩ => rfl
    | ⟨1, _⟩ => rfl⟩
  change ((win0_8.blk t).view.emb (ix2 r j) 0).val = t.val * 1024 + (r : ℕ) at h0
  change ((win0_8.blk t).view.emb (ix2 r j) 1).val = (j : ℕ) at h1
  refine (outs_apply m c t ⟨t.val / 4, by omega⟩ ⟨t.val % 4, by omega⟩ (by show t.val = 4 * (t.val / 4) + t.val % 4; omega) r j).trans ?_
  have f0 : (⟨t.val / 4, by omega⟩ : Fin 4) = ⟨((win0_8.blk t).view.emb (ix2 r j) 0).val / 4096, by omega⟩ := Fin.ext (by
    show t.val / 4 = ((win0_8.blk t).view.emb (ix2 r j) 0).val / 4096; omega)
  have f1 : (⟨1024 * (t.val % 4) + (r : ℕ), by omega⟩ : Fin 4096) = ⟨((win0_8.blk t).view.emb (ix2 r j) 0).val % 4096, Nat.mod_lt _ (by decide)⟩ := Fin.ext (by
    show 1024 * (t.val % 4) + (r : ℕ) = ((win0_8.blk t).view.emb (ix2 r j) 0).val % 4096; omega)
  have f2 : j = (win0_8.blk t).view.emb (ix2 r j) 1 := Fin.ext h1.symm
  exact (congrArg (fun b => outAt m c b _ j) f0).trans ((congrArg (fun n => outAt m c _ n j) f1).trans (congrArg (outAt m c _ _) f2))

end Cert.Kernel2Ideal.Body

end
-- ==== Proof.FfnRef.lean ====
/-
  The feed-forward reference's result read at an entry, stage by stage.
-/
module

public import proofs.«01_k».proof.Proof.Ffn
public import proofs.«01_k».proof.Proof.Gen.Reference2Ideal.Run
public import Idealize.ShloMosaic.Lib.KernelVsHost
public import Idealize.ShloMosaic.Lib.Pointwise

@[expose] public section

set_option maxRecDepth 16384

noncomputable section

namespace Cert.Reference2Ideal.Stages

open Cert.Reference2Ideal.Value Cert.Reference2Ideal.Gen
open Idealize.ShloMosaic Idealize.ShloMosaic.TcCoe
open Idealize.SL.Sem

/-- The up-projection. -/
def up (x : FVec Ideal S4x4096x1024 .f32) (w : FVec Ideal S1x1024x5632 .f32) : FVec Ideal S4x4096x5632 .f32 :=
  Host.dotGeneral dot_S4x4096x1024_S1024x5632_S4x4096x5632_2_0_01_1_n_n none x (shapeCast _ w shapeCasts_S1x1024x5632_S1024x5632)

/-- Two zero rows in front of each sequence. -/
def padded (u : FVec Ideal S4x4096x5632 .f32) : FVec Ideal S4x4098x5632 .f32 :=
  pad S4x4098x5632 ![0, 2, 0] ![0, 0, 0] ![0, 0, 0] u (sitofp .f32 (constantI S_ 32 0#32)) pads_S4x4096x5632_S4x4098x5632_000_200_000 h_S_

/-- The three weighted rows and the bias. -/
def conv (p : FVec Ideal S4x4098x5632 .f32) (cw : FVec Ideal S1x3x5632 .f32) (cb : FVec Ideal S1x5632 .f32) : FVec Ideal S4x4096x5632 .f32 :=
  addf (broadcastInDim S4x4096x5632 ![0, 1, 2] bcast_S1x1x5632_S4x4096x5632_0_1_2 (broadcastInDim S1x1x5632 ![2] bcast_S5632_S1x1x5632_2 (shapeCast _ cb shapeCasts_S1x5632_S5632)))
    (addf (addf (addf (broadcastInDim S4x4096x5632 ![] bcast_S_S4x4096x5632 (constant S_ .f32 0x00000000#32))
      (mulf (extractStridedSlice S4x4096x5632 ![0, 0, 0] p slices_S4x4098x5632_S4x4096x5632_0_0_0)
        (broadcastInDim S4x4096x5632 ![0, 1, 2] bcast_S1x1x5632_S4x4096x5632_0_1_2 (broadcastInDim S1x1x5632 ![2] bcast_S5632_S1x1x5632_2
          (shapeCast _ (extractStridedSlice S1x1x5632 ![0, 0, 0] cw slices_S1x3x5632_S1x1x5632_0_0_0) shapeCasts_S1x1x5632_S5632)))))
      (mulf (extractStridedSlice S4x4096x5632 ![0, 1, 0] p slices_S4x4098x5632_S4x4096x5632_0_1_0)
        (broadcastInDim S4x4096x5632 ![0, 1, 2] bcast_S1x1x5632_S4x4096x5632_0_1_2 (broadcastInDim S1x1x5632 ![2] bcast_S5632_S1x1x5632_2
          (shapeCast _ (extractStridedSlice S1x1x5632 ![0, 1, 0] cw slices_S1x3x5632_S1x1x5632_0_1_0) shapeCasts_S1x1x5632_S5632)))))
      (mulf (extractStridedSlice S4x4096x5632 ![0, 2, 0] p slices_S4x4098x5632_S4x4096x5632_0_2_0)
        (broadcastInDim S4x4096x5632 ![0, 1, 2] bcast_S1x1x5632_S4x4096x5632_0_1_2 (broadcastInDim S1x1x5632 ![2] bcast_S5632_S1x1x5632_2
          (shapeCast _ (extractStridedSlice S1x1x5632 ![0, 2, 0] cw slices_S1x3x5632_S1x1x5632_0_2_0) shapeCasts_S1x1x5632_S5632)))))

/-- The left half's GELU times the right half. -/
def act (h : FVec Ideal S4x4096x5632 .f32) : FVec Ideal S4x4096x2816 .f32 :=
  mulf (mulf (mulf (broadcastInDim S4x4096x2816 ![] bcast_S_S4x4096x2816 (constant S_ .f32 0x3F000000#32))
      (extractStridedSlice S4x4096x2816 ![0, 0, 0] h slices_S4x4096x5632_S4x4096x2816_0_0_0))
    (Host.erfc (mulf (Host.negf (extractStridedSlice S4x4096x2816 ![0, 0, 0] h slices_S4x4096x5632_S4x4096x2816_0_0_0))
      (broadcastInDim S4x4096x2816 ![] bcast_S_S4x4096x2816 (constant S_ .f32 0x3F3504F3#32)))))
    (extractStridedSlice S4x4096x2816 ![0, 0, 2816] h slices_S4x4096x5632_S4x4096x2816_0_0_2816)

/-- The scaled input and the down-projection. -/
def pre (x : FVec Ideal S4x4096x1024 .f32) (a : FVec Ideal S4x4096x2816 .f32) (w : FVec Ideal S1x2816x1024 .f32) : FVec Ideal S4x4096x1024 .f32 :=
  addf (mulf (broadcastInDim S4x4096x1024 ![] bcast_S_S4x4096x1024 (constant S_ .f32 0x3F9837F0#32)) x)
    (Host.dotGeneral dot_S4x4096x2816_S2816x1024_S4x4096x1024_2_0_01_1_n_n none a (shapeCast _ w shapeCasts_S1x2816x1024_S2816x1024))

/-- A row's mean. -/
def mean (z : FVec Ideal S4x4096x1024 .f32) : FVec Ideal S4x4096x1 .f32 :=
  Host.divf (broadcastInDim S4x4096x1 ![0, 1] bcast_S4x4096_S4x4096x1_0_1
      (Host.reduceAdd z (constant S_ .f32 0x00000000#32) reducesTo_S4x4096x1024_S4x4096_d2 h_S_))
    (broadcastInDim S4x4096x1 ![] bcast_S_S4x4096x1 (constant S_ .f32 0x44800000#32))

/-- The rows less their means. -/
def cent (z : FVec Ideal S4x4096x1024 .f32) : FVec Ideal S4x4096x1024 .f32 :=
  subf z (broadcastInDim S4x4096x1024 ![0, 1, 2] bcast_S4x4096x1_S4x4096x1024_0_1_2 (mean z))

/-- The layer norm. -/
def norm (z : FVec Ideal S4x4096x1024 .f32) (g b : FVec Ideal S1x1024 .f32) : FVec Ideal S4x4096x1024 .f32 :=
  addf (mulf (mulf (cent z) (broadcastInDim S4x4096x1024 ![0, 1, 2] bcast_S4x4096x1_S4x4096x1024_0_1_2
      (Host.rsqrt (addf (mean (mulf (cent z) (cent z))) (broadcastInDim S4x4096x1 ![] bcast_S_S4x4096x1 (constant S_ .f32 0x3727C5AC#32))))))
    (broadcastInDim S4x4096x1024 ![0, 1, 2] bcast_S1x1x1024_S4x4096x1024_0_1_2 (broadcastInDim S1x1x1024 ![2] bcast_S1024_S1x1x1024_2 (shapeCast _ g shapeCasts_S1x1024_S1024))))
    (broadcastInDim S4x4096x1024 ![0, 1, 2] bcast_S1x1x1024_S4x4096x1024_0_1_2 (broadcastInDim S1x1x1024 ![2] bcast_S1024_S1x1x1024_2 (shapeCast _ b shapeCasts_S1x1024_S1024)))

theorem up_apply (x : FVec Ideal S4x4096x1024 .f32) (w : FVec Ideal S1x1024x5632 .f32) (b : Fin 4) (n : Fin 4096) (c : Fin 5632) :
    up x w (ix3 b n c) = ∑ k : Fin 1024, x (ix3 b n k) * w (ix3 0 k c) := by
  pointwise [up]

theorem padded_row (u : FVec Ideal S4x4096x5632 .f32) (b : Fin 4) (n : Fin 4098) (r : Fin 4096) (h : (n : ℕ) = (r : ℕ) + 2) (c : Fin 5632) :
    padded u (ix3 b n c) = u (ix3 b r c) := by
  refine pad_apply_of_inside _ _ _ _ _ _ _ _ _ fun a => ?_
  match a with
  | ⟨0, _⟩ => show (b : ℕ) = 0 + (b : ℕ) * 1; omega
  | ⟨1, _⟩ => show (n : ℕ) = 2 + (r : ℕ) * 1; omega
  | ⟨2, _⟩ => show (c : ℕ) = 0 + (c : ℕ) * 1; omega

theorem padded_low (u : FVec Ideal S4x4096x5632 .f32) (b : Fin 4) (n : Fin 4098) (h : (n : ℕ) < 2) (c : Fin 5632) :
    padded u (ix3 b n c) = 0 := by
  refine (pad_apply_of_not_inside _ _ _ _ _ _ _ _ (1 : Fin 3) fun hin => ?_).trans ?_
  · have h2 : 2 ≤ (n : ℕ) := hin.1
    omega
  · show (((0#32 : BitVec 32).toInt : ℝ) : EReal) = 0
    simp

theorem padded_up (x : FVec Ideal S4x4096x1024 .f32) (w : FVec Ideal S1x1024x5632 .f32) (b : Fin 4) (n : ℕ) (hn : n < 4098) (c : Fin 5632) :
    padded (up x w) (ix3 b ⟨n, hn⟩ c) = Ffn.up (fun r k => x (ix3 b r k)) (fun k c => w (ix3 0 k c)) n c := by
  by_cases h : n < 2
  · rw [Ffn.up_low _ _ _ h]
    exact padded_low _ _ _ h _
  · have e : n = ((⟨n - 2, by omega⟩ : Fin 4096) : ℕ) + 2 := by show n = n - 2 + 2; omega
    rw [Ffn.up_row _ _ n ⟨n - 2, by omega⟩ e]
    exact (padded_row _ _ _ _ e _).trans (up_apply _ _ _ _ _)

theorem conv_apply (p : FVec Ideal S4x4098x5632 .f32) (cw : FVec Ideal S1x3x5632 .f32) (cb : FVec Ideal S1x5632 .f32) (b : Fin 4) (n : Fin 4096) (c : Fin 5632) :
    conv p cw cb (ix3 b n c) = cb (ix2 0 c) + (p (ix3 b ⟨(n : ℕ), by omega⟩ c) * cw (ix3 0 0 c) + p (ix3 b ⟨1 + (n : ℕ), by omega⟩ c) * cw (ix3 0 1 c) +
      p (ix3 b ⟨2 + (n : ℕ), by omega⟩ c) * cw (ix3 0 2 c)) := by
  pointwise [conv]

/-- The two orders of the weighted sum. -/
theorem sum_rot (b p q r u v w : EReal) : b + (p * u + q * v + r * w) = b + w * r + v * q + u * p := by
  rw [mul_comm p, mul_comm q, mul_comm r]
  ac_rfl

theorem conv_up (x : FVec Ideal S4x4096x1024 .f32) (w : FVec Ideal S1x1024x5632 .f32) (cw : FVec Ideal S1x3x5632 .f32) (cb : FVec Ideal S1x5632 .f32)
    (b : Fin 4) (n : Fin 4096) (c : Fin 5632) : conv (padded (up x w)) cw cb (ix3 b n c) =
      Ffn.conv (Ffn.up (fun r k => x (ix3 b r k)) (fun k c => w (ix3 0 k c))) (fun i c => cw (ix3 0 i c)) (fun c => cb (ix2 0 c)) n c := by
  rw [conv_apply, padded_up, padded_up, padded_up, Nat.add_comm 1, Nat.add_comm 2]
  exact sum_rot _ _ _ _ _ _ _

theorem act_apply (h : FVec Ideal S4x4096x5632 .f32) (b : Fin 4) (n : Fin 4096) (c : Fin 2816) :
    act h (ix3 b n c) = Ffn.act (fun c => h (ix3 b n c)) c := by
  refine Eq.trans ?_ (Ffn.gated_eq _ _)
  pointwise [act]

theorem pre_apply (x : FVec Ideal S4x4096x1024 .f32) (a : FVec Ideal S4x4096x2816 .f32) (w : FVec Ideal S1x2816x1024 .f32) (b : Fin 4) (n : Fin 4096) (j : Fin 1024) :
    pre x a w (ix3 b n j) = Ffn.pre (fun k => x (ix3 b n k)) (fun c => a (ix3 b n c)) (fun c j => w (ix3 0 c j)) j := by
  unfold Ffn.pre
  pointwise [pre]

theorem mean_apply (z : FVec Ideal S4x4096x1024 .f32) (b : Fin 4) (n : Fin 4096) : mean z (ix3 b n 0) = Ffn.mean fun y => z (ix3 b n y) := by
  unfold Ffn.mean
  pointwise [mean]

theorem cent_apply (z : FVec Ideal S4x4096x1024 .f32) (b : Fin 4) (n : Fin 4096) (j : Fin 1024) :
    cent z (ix3 b n j) = z (ix3 b n j) - Ffn.mean fun y => z (ix3 b n y) := by
  rw [← mean_apply]
  pointwise [cent]

theorem norm_apply (z : FVec Ideal S4x4096x1024 .f32) (g w : FVec Ideal S1x1024 .f32) (b : Fin 4) (n : Fin 4096) (j : Fin 1024) :
    norm z g w (ix3 b n j) = Ffn.normed (fun y => z (ix3 b n y)) (fun j => g (ix2 0 j)) (fun j => w (ix2 0 j)) j := by
  have e : norm z g w (ix3 b n j) = cent z (ix3 b n j) * Ideal.rsqrt (mean (mulf (cent z) (cent z)) (ix3 b n 0) + Ideal.ofBits .f32 0x3727C5AC#32) * g (ix2 0 j) + w (ix2 0 j) := by
    pointwise [norm]
  have f : ∀ y, mulf (cent z) (cent z) (ix3 b n y) = cent z (ix3 b n y) * cent z (ix3 b n y) := fun y => rfl
  rw [e, mean_apply, cent_apply]
  unfold Ffn.normed
  simp only [f, cent_apply]
  rfl

variable (m : (ℓ : Loc nD τ sig) → Buf (Elt Ideal) ℓ)

theorem res_eq (c : Dev nD) : res_main_v69 m c =
    norm (pre (m ((c : Thread nD τ).loc main_arg0)) (act (conv (padded (up (m ((c : Thread nD τ).loc main_arg0)) (m ((c : Thread nD τ).loc main_arg1))))
      (m ((c : Thread nD τ).loc main_arg2)) (m ((c : Thread nD τ).loc main_arg3)))) (m ((c : Thread nD τ).loc main_arg4)))
      (m ((c : Thread nD τ).loc main_arg5)) (m ((c : Thread nD τ).loc main_arg6)) := by
  unfold res_main_v69
  rfl

/-- The reference's result at an entry. -/
theorem res_apply (c : Dev nD) (b : Fin 4) (n : Fin 4096) (j : Fin 1024) : res_main_v69 m c (ix3 b n j) =
    Ffn.out (fun r k => m ((c : Thread nD τ).loc main_arg0) (ix3 b r k)) (fun k c' => m ((c : Thread nD τ).loc main_arg1) (ix3 0 k c'))
      (fun i c' => m ((c : Thread nD τ).loc main_arg2) (ix3 0 i c')) (fun c' => m ((c : Thread nD τ).loc main_arg3) (ix2 0 c'))
      (fun c' k => m ((c : Thread nD τ).loc main_arg4) (ix3 0 c' k)) (fun k => m ((c : Thread nD τ).loc main_arg5) (ix2 0 k))
      (fun k => m ((c : Thread nD τ).loc main_arg6) (ix2 0 k)) n j := by
  rw [res_eq, norm_apply]
  refine congrArg (fun z => Ffn.normed z _ _ j) (funext fun y => ?_)
  rw [pre_apply]
  refine congrArg (fun a => Ffn.pre _ a _ y) (funext fun c' => ?_)
  rw [act_apply]
  exact congrArg (fun h => Ffn.act h c') (funext fun d => conv_up _ _ _ _ _ _ _)

end Cert.Reference2Ideal.Stages

end
-- ==== Proof.FfnJoin.lean ====
/-
  The feed-forward kernel's run with its result named, and that result the reference's.
-/
module

public import proofs.«01_k».proof.Defs
public import proofs.«01_k».proof.Proof.FfnKer
public import proofs.«01_k».proof.Proof.FfnRef

@[expose] public section

set_option maxRecDepth 16384

noncomputable section

namespace Cert.Kernel2Ideal.Body

open Cert.Kernel2Ideal Cert.Kernel2Ideal.Gen
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- The result, in the argument's layout. -/
def result (c : Dev nD) : Buf (Elt Ideal) ((c.tc : Thread nD τ).loc main_v13) :=
  shapeCast S4x4096x1024 (outG m c : FVec Ideal S16384x1024 .f32) shapeCasts_S16384x1024_S4x4096x1024

theorem result_apply (c : Dev nD) (b : Fin 4) (n : Fin 4096) (j : Fin 1024) : result m c (ix3 b n j) = outAt m c b n j := by
  have e : result m c (ix3 b n j) = outG m c (ix2 ⟨4096 * b + n, by omega⟩ j) := by
    refine shapeCast_apply _ _ _ _ ?_
    rw [Shape.rowMajor_val_two, Shape.rowMajor_val_three]
    show (4096 * (b : ℕ) + n) * 1024 + j = ((b : ℕ) * 4096 + n) * 1024 + j
    rw [Nat.mul_comm (b : ℕ)]
  rw [e]
  have h0 : (⟨(4096 * (b : ℕ) + n) / 4096, by omega⟩ : Fin 4) = b := Fin.ext (by show (4096 * (b : ℕ) + n) / 4096 = b; omega)
  have h1 : (⟨(4096 * (b : ℕ) + n) % 4096, Nat.mod_lt _ (by decide)⟩ : Fin 4096) = n := Fin.ext (by show (4096 * (b : ℕ) + n) % 4096 = n; omega)
  exact (congrArg (fun b => outAt m c b _ j) h0).trans (congrArg (fun n => outAt m c b n j) h1)

theorem tail_eq (c : Dev nD) : Pipeline.afterTail₀ cfgs (dats m) 0 (V0 m) [hostOps1] c main_v13 = result m c := by
  unfold Pipeline.afterTail₀
  simp only [hostOps1, List.flatten_cons, List.flatten_nil, List.append_nil]
  after_results
  have e := (dats m 0 c).withArrays_arrAt sharedIn0 (V0 m c) (A_eq m c) 8
  exact congrArg (fun X : FVec Ideal S16384x1024 .f32 => shapeCast S4x4096x1024 X shapeCasts_S16384x1024_S4x4096x1024) (e.trans (final m c))

/-- The run: it ends, its result is `result` and its arguments are kept. -/
theorem run : θ_run (defs (F := Ideal)) (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).2 main_v13 (Pipeline.mem_restRefs_of main_v13 (by decide) (by decide))).trans (tail_eq m c), h.2 c⟩)
    (θ_run_and (run_main m ρ) (unchanged m ρ))

end Cert.Kernel2Ideal.Body

namespace Cert.FfnJoin

open Idealize.ShloMosaic Idealize.ShloMosaic.TcCoe Idealize.SL.Sem

theorem algebraic : algebraic_Kernel2Ideal_Reference2Ideal (hKernel2Ideal := Cert.Kernel2Ideal.Gen.facts) (hReference2Ideal := Cert.Reference2Ideal.Gen.facts) := by
  intro m ρ m' ρ' _ hagree
  refine ⟨_, Cert.Kernel2Ideal.Body.run m ρ, ?_⟩
  refine (θ_run Cert.Reference2Ideal.defs _ _).mono (fun _ h c => ⟨?_, (h c).2⟩) (Cert.Reference2Ideal.Value.run (F := Ideal) m' ρ')
  refine (h c).1.trans ?_
  obtain ⟨a0, a1, a2, a3, a4, a5, a6⟩ := hagree c
  funext y
  obtain ⟨b, n, j, rfl⟩ : ∃ (b : Fin 4) (n : Fin 4096) (j : Fin 1024), y = ix3 b n j := ⟨y 0, y 1, y 2, funext fun a => by
    match a with
    | ⟨0, _⟩ => rfl
    | ⟨1, _⟩ => rfl
    | ⟨2, _⟩ => rfl⟩
  refine (Cert.Reference2Ideal.Stages.res_apply m' c b n j).trans ((Cert.Kernel2Ideal.Body.result_apply m c b n j).trans ?_).symm
  rw [a0, a1, a2, a3, a4, a5, a6]
  rfl

end Cert.FfnJoin

end
-- ==== Proof.ProjBody.lean ====
/-
  The projection's kernel at a grid point: the three things it can do (cast the rows, multiply them with a tile of the
  weights, and with a tile of the gates' weights followed by the logistic function), and what each leaves in its buffers.
-/
module

public import proofs.«01_k».proof.Proof.Ops
public import proofs.«01_k».proof.Proof.Gen.Kernel3Ideal.Launch
public import Idealize.ShloMosaic.Lib.VecWindow
public import Idealize.ShloMosaic.Lib.Writes
public import Idealize.ShloMosaic.Lib.Tactic
public import Idealize.ShloMosaic.Rules.Step
public import Idealize.ShloMosaic.Lib.Pipeline.TableIdle

@[expose] public section

set_option maxRecDepth 16384

noncomputable section

namespace Cert.Kernel3Ideal.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open DiffAttn (ld st)

variable {F : FTy → Type} [FloatOps F]

local notation "𝕄" => MT nD τ sig Unit (Elt F) ℕ (UR sig nD τ) ℕ

/-- The rows, cast. -/
def xbV (x : Vec F S2048x1024 .f32) : FVec F S2048x1024 .bf16 :=
  truncf .bf16 (shapeCast S2048x1024 x shapeCasts_S2048x1024_S2048x1024 : FVec F S2048x1024 .f32) bitsLt_bf16_f32

/-- The rows times a tile of the weights. -/
def paV (x : Vec F S2048x1024 .bf16) (w : Vec F S1024x1024 .bf16) : FVec F S2048x1024 .bf16 :=
  truncf .bf16 (matmul dot_S2048x1024_S1024x1024_S2048x1024_1_0_0_1_n_n none (shapeCast S2048x1024 x shapeCasts_S2048x1024_S2048x1024 : FVec F S2048x1024 .bf16)
    (shapeCast S1024x1024 w shapeCasts_S1024x1024_S1024x1024 : FVec F S1024x1024 .bf16) (constant S2048x1024 .f32 0x00000000#32)) bitsLt_bf16_f32

/-- The two halves of a tile of the gates' weights. -/
def wgV (lo hi : Vec F S1024x512 .bf16) : FVec F S1024x1024 .bf16 :=
  concatenate S1024x1024 1 [⟨S1024x512, (shapeCast S1024x512 lo shapeCasts_S1024x512_S1024x512 : FVec F S1024x512 .bf16)⟩,
    ⟨S1024x512, (shapeCast S1024x512 hi shapeCasts_S1024x512_S1024x512 : FVec F S1024x512 .bf16)⟩] concatenates_S1024x512_S1024x512_S1024x1024_d1

/-- The gates before the logistic function. -/
def zV (x : Vec F S2048x1024 .bf16) (lo hi : Vec F S1024x512 .bf16) (b : Vec F S1x1024 .f32) : FVec F S2048x1024 .f32 :=
  addf (matmul dot_S2048x1024_S1024x1024_S2048x1024_1_0_0_1_n_n none (shapeCast S2048x1024 x shapeCasts_S2048x1024_S2048x1024 : FVec F S2048x1024 .bf16)
    (wgV lo hi) (constant S2048x1024 .f32 0x00000000#32))
    (broadcastTo S2048x1024 (shapeCast S1x1024 b shapeCasts_S1x1024_S1x1024 : FVec F S1x1024 .f32) broadcasts_S1x1024_S2048x1024)

/-- One half. -/
def halfV : FVec F S2048x1024 .f32 := broadcast S2048x1024 (Scalar.ofBits .f32 0x3F000000#32)

/-- The gates. -/
def gV (x : Vec F S2048x1024 .bf16) (lo hi : Vec F S1024x512 .bf16) (b : Vec F S1x1024 .f32) : FVec F S2048x1024 .bf16 :=
  truncf .bf16 (addf (mulf halfV (tanh (mulf halfV (zV x lo hi b)))) halfV) bitsLt_bf16_f32

/-! ## The steps -/

/-- Cast the rows. -/
def stepX (arg2 : Memref sig .tc .vmem S2048x1024 .f32) (arg9 : Memref sig .tc .vmem S2048x1024 .bf16) (harg9 : arg9.IsWhole) :
    Prog (TpuEff nD τ sig (Elt F) Λ₀ .tc) PUnit := do
  let x ← ld arg2 ![0, 0] S2048x1024.size inb_S2048x1024_S2048x1024_0_0 h_S2048x1024
  let _ ← ld arg9 ![0, 0] S2048x1024.size inb_S2048x1024_S2048x1024_0_0 h_S2048x1024
  st arg9 ![0, 0] S2048x1024.size inb_S2048x1024_S2048x1024_0_0
    (View.stores_vmem h_S2048x1024 (harg9.storeExact_slice rfl _ packedbf16_S2048x1024_S2048x1024_0_0) (fun _ => rfl)) (xbV x)

/-- Multiply with a tile of the weights. -/
def stepA (arg3 : Memref sig .tc .vmem S1024x1024 .bf16) (arg7 : Memref sig .tc .vmem S2048x1024 .bf16) (harg7 : arg7.IsWhole)
    (arg9 : Memref sig .tc .vmem S2048x1024 .bf16) : Prog (TpuEff nD τ sig (Elt F) Λ₀ .tc) PUnit := do
  let x ← ld arg9 ![0, 0] S2048x1024.size inb_S2048x1024_S2048x1024_0_0 h_S2048x1024
  let w ← ld arg3 ![0, 0] S1024x1024.size inb_S1024x1024_S1024x1024_0_0 h_S1024x1024
  let _ ← ld arg7 ![0, 0] S2048x1024.size inb_S2048x1024_S2048x1024_0_0 h_S2048x1024
  st arg7 ![0, 0] S2048x1024.size inb_S2048x1024_S2048x1024_0_0
    (View.stores_vmem h_S2048x1024 (harg7.storeExact_slice rfl _ packedbf16_S2048x1024_S2048x1024_0_0) (fun _ => rfl)) (paV x w)

/-- Compute a tile of the gates. -/
def stepG (arg4 arg5 : Memref sig .tc .vmem S1024x512 .bf16) (arg6 : Memref sig .tc .vmem S1x1024 .f32)
    (arg8 : Memref sig .tc .vmem S2048x1024 .bf16) (harg8 : arg8.IsWhole)
    (arg9 : Memref sig .tc .vmem S2048x1024 .bf16) : Prog (TpuEff nD τ sig (Elt F) Λ₀ .tc) PUnit := do
  let lo ← ld arg4 ![0, 0] S1024x512.size inb_S1024x512_S1024x512_0_0 h_S1024x512
  let hi ← ld arg5 ![0, 0] S1024x512.size inb_S1024x512_S1024x512_0_0 h_S1024x512
  let x ← ld arg9 ![0, 0] S2048x1024.size inb_S2048x1024_S2048x1024_0_0 h_S2048x1024
  let b ← ld arg6 ![0, 0] S1x1024.size inb_S1x1024_S1x1024_0_0 h_S1x1024
  let _ ← ld arg8 ![0, 0] S2048x1024.size inb_S2048x1024_S2048x1024_0_0 h_S2048x1024
  st arg8 ![0, 0] S2048x1024.size inb_S2048x1024_S2048x1024_0_0
    (View.stores_vmem h_S2048x1024 (harg8.storeExact_slice rfl _ packedbf16_S2048x1024_S2048x1024_0_0) (fun _ => rfl)) (gV x lo hi b)

section
variable (i : grid0.Coords) (arg2 : Memref sig .tc .vmem S2048x1024 .f32) (harg2 : arg2.IsWhole) (arg3 : Memref sig .tc .vmem S1024x1024 .bf16) (harg3 : arg3.IsWhole)
  (arg4 : Memref sig .tc .vmem S1024x512 .bf16) (harg4 : arg4.IsWhole) (arg5 : Memref sig .tc .vmem S1024x512 .bf16) (harg5 : arg5.IsWhole)
  (arg6 : Memref sig .tc .vmem S1x1024 .f32) (harg6 : arg6.IsWhole) (arg7 : Memref sig .tc .vmem S2048x1024 .bf16) (harg7 : arg7.IsWhole)
  (arg8 : Memref sig .tc .vmem S2048x1024 .bf16) (harg8 : arg8.IsWhole) (arg9 : Memref sig .tc .vmem S2048x1024 .bf16) (harg9 : arg9.IsWhole)

/-- At a tile row's first point the rows are cast and then multiplied. -/
theorem body_first (h1 : k0_cond1 i = 1#1) (h2 : k0_cond2 i = 1#1) (h3 : ¬ k0_cond3 i = 1#1) :
    cc0_proj_wide (F := F) i arg2 harg2 arg3 harg3 arg4 harg4 arg5 harg5 arg6 harg6 arg7 harg7 arg8 harg8 arg9 harg9
      = (stepX arg2 arg9 harg9 >>= fun _ => stepA arg3 arg7 harg7 arg9) := by
  unfold cc0_proj_wide
  simp only [dif_pos h1, dif_pos h2, dif_neg h3]
  sl_kernel_rfl

/-- At its later points up to the third they are multiplied. -/
theorem body_mid (h1 : ¬ k0_cond1 i = 1#1) (h2 : k0_cond2 i = 1#1) (h3 : ¬ k0_cond3 i = 1#1) :
    cc0_proj_wide (F := F) i arg2 harg2 arg3 harg3 arg4 harg4 arg5 harg5 arg6 harg6 arg7 harg7 arg8 harg8 arg9 harg9
      = stepA arg3 arg7 harg7 arg9 := by
  unfold cc0_proj_wide
  simp only [dif_neg h1, dif_pos h2, dif_neg h3]
  sl_kernel_rfl

/-- At the last two the gates are computed. -/
theorem body_gate (h1 : ¬ k0_cond1 i = 1#1) (h2 : ¬ k0_cond2 i = 1#1) (h3 : k0_cond3 i = 1#1) :
    cc0_proj_wide (F := F) i arg2 harg2 arg3 harg3 arg4 harg4 arg5 harg5 arg6 harg6 arg7 harg7 arg8 harg8 arg9 harg9
      = stepG arg4 arg5 arg6 arg8 harg8 arg9 := by
  unfold cc0_proj_wide
  simp only [dif_neg h1, dif_neg h2, dif_pos h3]
  sl_kernel_rfl
end

/-! ## What the steps leave -/

/-- A load of a whole buffer returns what it reads. -/
theorem ld_wp (c : Dev nD) {s : Shape} {e : EltTy} (M : Memref sig .tc .vmem s e) (X : s.Idx → Elt F e) (off : Fin s.rank → ℕ) (inb : ∀ a, off a + s.size a ≤ s.size a)
    (h : 0 < s.numel) (E : Set ℕ) (K : (s.Idx → Elt F e) → sProp 𝕄) :
    iprop(owns (c : Thread nD τ) M fullShare X ∗ (owns (c : Thread nD τ) M fullShare X -∗ K X))
      ⊢ wp frame (wpE (defs₀ (F := F)) Variants.none c none) E (ld M off s.size inb h) K := by
  iintro ⟨HO, HK⟩
  ihave HO := (rep_of_owns (c : Thread nD τ) M fullShare X) $$ HO
  unfold ld Prog.lift
  iapply (wp_load Variants.none (c : Thread nD τ) none E (S := M.view.set) (f := M.view.rep X) (Finset.map_subset_map.mpr (Finset.subset_univ _))) $$ HO
  iintro HO
  rw [View.readAt_rep_full M.view X inb, wp_ret]
  imodintro
  iapply HK
  iapply (owns_of_rep (c : Thread nD τ) M fullShare X)
  iexact HO

/-- A store of a whole buffer leaves the payload. -/
theorem st_wp (c : Dev nD) {s : Shape} {e : EltTy} (M : Memref sig .tc .vmem s e) (X w : s.Idx → Elt F e) (off : Fin s.rank → ℕ) (inb : ∀ a, off a + s.size a ≤ s.size a)
    (hx : (M.access (Rect.unit off s.size inb)).Stores Finset.univ) (E : Set ℕ) (K : PUnit → sProp 𝕄) :
    iprop(owns (c : Thread nD τ) M fullShare X ∗ (owns (c : Thread nD τ) M fullShare w -∗ K ⟨⟩))
      ⊢ wp frame (wpE (defs₀ (F := F)) Variants.none c none) E (st M off s.size inb hx w) K := by
  iintro ⟨HO, HK⟩
  ihave HO := (rep_of_owns (c : Thread nD τ) M fullShare X) $$ HO
  unfold st Prog.lift
  iapply (wp_store_writes₀ (m := M) Variants.none (c : Thread nD τ) none E (r := Rect.unit off s.size inb) (w := w) (f := M.view.rep X)
    (S := M.view.set) (View.set_slice_subset _ _)) $$ HO
  iintro HO
  rw [wp_ret]
  imodintro
  iapply HK
  unfold owns
  iexists _
  isplitr
  rotate_left
  · iexact HO
  · ipureintro
    exact View.read_writes_full M.view _ inb w []

theorem stepX_wp (c : Dev nD) (arg2 : Memref sig .tc .vmem S2048x1024 .f32) (arg9 : Memref sig .tc .vmem S2048x1024 .bf16) (harg9 : arg9.IsWhole)
    (x : Vec F S2048x1024 .f32) (x9 : Vec F S2048x1024 .bf16) (E : Set ℕ) (K : PUnit → sProp 𝕄) :
    iprop(owns (c : Thread nD τ) arg2 fullShare x ∗ owns (c : Thread nD τ) arg9 fullShare x9
        ∗ (iprop(owns (c : Thread nD τ) arg2 fullShare x ∗ owns (c : Thread nD τ) arg9 fullShare (xbV x)) -∗ K ⟨⟩))
      ⊢ wp frame (wpE (defs₀ (F := F)) Variants.none c none) E (stepX arg2 arg9 harg9) K := by
  unfold stepX
  iintro ⟨H2, H9, HK⟩
  rw [wp_bind]
  iapply (ld_wp c arg2 x ![0, 0] inb_S2048x1024_S2048x1024_0_0 h_S2048x1024 E)
  isplitl [H2]; · iexact H2
  iintro H2
  rw [wp_bind]
  iapply (ld_wp c arg9 x9 ![0, 0] inb_S2048x1024_S2048x1024_0_0 h_S2048x1024 E)
  isplitl [H9]; · iexact H9
  iintro H9
  iapply (st_wp c arg9 x9 (xbV x) ![0, 0] inb_S2048x1024_S2048x1024_0_0 _ E)
  isplitl [H9]; · iexact H9
  iintro H9
  iapply HK
  isplitl [H2]; · iexact H2
  iexact H9

theorem stepA_wp (c : Dev nD) (arg3 : Memref sig .tc .vmem S1024x1024 .bf16) (arg7 : Memref sig .tc .vmem S2048x1024 .bf16) (harg7 : arg7.IsWhole)
    (arg9 : Memref sig .tc .vmem S2048x1024 .bf16) (w : Vec F S1024x1024 .bf16) (x7 x9 : Vec F S2048x1024 .bf16) (E : Set ℕ) (K : PUnit → sProp 𝕄) :
    iprop(owns (c : Thread nD τ) arg3 fullShare w ∗ owns (c : Thread nD τ) arg7 fullShare x7 ∗ owns (c : Thread nD τ) arg9 fullShare x9
        ∗ (iprop(owns (c : Thread nD τ) arg3 fullShare w ∗ owns (c : Thread nD τ) arg7 fullShare (paV x9 w) ∗ owns (c : Thread nD τ) arg9 fullShare x9) -∗ K ⟨⟩))
      ⊢ wp frame (wpE (defs₀ (F := F)) Variants.none c none) E (stepA arg3 arg7 harg7 arg9) K := by
  unfold stepA
  iintro ⟨H3, H7, H9, HK⟩
  rw [wp_bind]
  iapply (ld_wp c arg9 x9 ![0, 0] inb_S2048x1024_S2048x1024_0_0 h_S2048x1024 E)
  isplitl [H9]; · iexact H9
  iintro H9
  rw [wp_bind]
  iapply (ld_wp c arg3 w ![0, 0] inb_S1024x1024_S1024x1024_0_0 h_S1024x1024 E)
  isplitl [H3]; · iexact H3
  iintro H3
  rw [wp_bind]
  iapply (ld_wp c arg7 x7 ![0, 0] inb_S2048x1024_S2048x1024_0_0 h_S2048x1024 E)
  isplitl [H7]; · iexact H7
  iintro H7
  iapply (st_wp c arg7 x7 (paV x9 w) ![0, 0] inb_S2048x1024_S2048x1024_0_0 _ E)
  isplitl [H7]; · iexact H7
  iintro H7
  iapply HK
  isplitl [H3]; · iexact H3
  isplitl [H7]; · iexact H7
  iexact H9

theorem stepG_wp (c : Dev nD) (arg4 arg5 : Memref sig .tc .vmem S1024x512 .bf16) (arg6 : Memref sig .tc .vmem S1x1024 .f32)
    (arg8 : Memref sig .tc .vmem S2048x1024 .bf16) (harg8 : arg8.IsWhole)
    (arg9 : Memref sig .tc .vmem S2048x1024 .bf16) (lo hi : Vec F S1024x512 .bf16) (b : Vec F S1x1024 .f32) (x8 x9 : Vec F S2048x1024 .bf16) (E : Set ℕ) (K : PUnit → sProp 𝕄) :
    iprop(owns (c : Thread nD τ) arg4 fullShare lo ∗ owns (c : Thread nD τ) arg5 fullShare hi ∗ owns (c : Thread nD τ) arg6 fullShare b
        ∗ owns (c : Thread nD τ) arg8 fullShare x8 ∗ owns (c : Thread nD τ) arg9 fullShare x9
        ∗ (iprop(owns (c : Thread nD τ) arg4 fullShare lo ∗ owns (c : Thread nD τ) arg5 fullShare hi ∗ owns (c : Thread nD τ) arg6 fullShare b
        ∗ owns (c : Thread nD τ) arg8 fullShare (gV x9 lo hi b) ∗ owns (c : Thread nD τ) arg9 fullShare x9) -∗ K ⟨⟩))
      ⊢ wp frame (wpE (defs₀ (F := F)) Variants.none c none) E (stepG arg4 arg5 arg6 arg8 harg8 arg9) K := by
  unfold stepG
  iintro ⟨H4, H5, H6, H8, H9, HK⟩
  rw [wp_bind]
  iapply (ld_wp c arg4 lo ![0, 0] inb_S1024x512_S1024x512_0_0 h_S1024x512 E)
  isplitl [H4]; · iexact H4
  iintro H4
  rw [wp_bind]
  iapply (ld_wp c arg5 hi ![0, 0] inb_S1024x512_S1024x512_0_0 h_S1024x512 E)
  isplitl [H5]; · iexact H5
  iintro H5
  rw [wp_bind]
  iapply (ld_wp c arg9 x9 ![0, 0] inb_S2048x1024_S2048x1024_0_0 h_S2048x1024 E)
  isplitl [H9]; · iexact H9
  iintro H9
  rw [wp_bind]
  iapply (ld_wp c arg6 b ![0, 0] inb_S1x1024_S1x1024_0_0 h_S1x1024 E)
  isplitl [H6]; · iexact H6
  iintro H6
  rw [wp_bind]
  iapply (ld_wp c arg8 x8 ![0, 0] inb_S2048x1024_S2048x1024_0_0 h_S2048x1024 E)
  isplitl [H8]; · iexact H8
  iintro H8
  iapply (st_wp c arg8 x8 (gV x9 lo hi b) ![0, 0] inb_S2048x1024_S2048x1024_0_0 _ E)
  isplitl [H8]; · iexact H8
  iintro H8
  iapply HK
  isplitl [H4]; · iexact H4
  isplitl [H5]; · iexact H5
  isplitl [H6]; · iexact H6
  isplitl [H8]; · iexact H8
  iexact H9

end Cert.Kernel3Ideal.Run

end
-- ==== Proof.ProjRun.lean ====
/-
  The projection's launch: what every grid point leaves in the output buffers, the body obligation (an output's buffer is
  kept at the points that store nothing into it), and from them the run and the frame.
-/
module

public import proofs.«01_k».proof.Proof.ProjBody
public import proofs.«01_k».proof.Proof.Gen.Kernel3Ideal.Frame
public import Idealize.ShloMosaic.Lib.Claim

@[expose] public section

set_option maxRecDepth 16384

noncomputable section

namespace Cert.Kernel3Ideal.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem cond1_iff : ∀ t : Fin cfg0.N, k0_cond1 (grid0.coords t) = 1#1 ↔ t.val % 5 = 0 :=
  (by decide +kernel : ∀ t : Fin grid0.N, k0_cond1 (grid0.coords t) = 1#1 ↔ t.val % 5 = 0)
theorem cond2_iff : ∀ t : Fin cfg0.N, k0_cond2 (grid0.coords t) = 1#1 ↔ t.val % 5 < 3 :=
  (by decide +kernel : ∀ t : Fin grid0.N, k0_cond2 (grid0.coords t) = 1#1 ↔ t.val % 5 < 3)
theorem cond3_iff : ∀ t : Fin cfg0.N, k0_cond3 (grid0.coords t) = 1#1 ↔ 3 ≤ t.val % 5 :=
  (by decide +kernel : ∀ t : Fin grid0.N, k0_cond3 (grid0.coords t) = 1#1 ↔ 3 ≤ t.val % 5)

theorem flush5 : ∀ t : Fin cfg0.N, (cfg0.win 5).flush t = decide (t.val % 5 = 0 ∨ t.val % 5 = 1 ∨ t.val % 5 = 4) :=
  (by decide +kernel : ∀ t : Fin grid0.N, win0_5.flush t = decide (t.val % 5 = 0 ∨ t.val % 5 = 1 ∨ t.val % 5 = 4))
theorem flush6 : ∀ t : Fin cfg0.N, (cfg0.win 6).flush t = decide (3 ≤ t.val % 5) :=
  (by decide +kernel : ∀ t : Fin grid0.N, win0_6.flush t = decide (3 ≤ t.val % 5))
theorem flush7 : ∀ t : Fin cfg0.N, (cfg0.win 7).flush t = decide (t.val % 5 = 4) :=
  (by decide +kernel : ∀ t : Fin grid0.N, win0_7.flush t = decide (t.val % 5 = 4))

theorem idle5 : ∀ t : Fin cfg0.N, cfg0.idle 5 (cfg0.grid.coords t) = decide (3 ≤ t.val % 5) :=
  (by decide +kernel : ∀ t : Fin grid0.N, (!(k0_cond2 (grid0.coords t) == 1#1)) = decide (3 ≤ t.val % 5))
theorem idle6 : ∀ t : Fin cfg0.N, cfg0.idle 6 (cfg0.grid.coords t) = decide (t.val % 5 < 3) :=
  (by decide +kernel : ∀ t : Fin grid0.N, (!(k0_cond3 (grid0.coords t) == 1#1)) = decide (t.val % 5 < 3))
theorem idle7 : ∀ t : Fin cfg0.N, cfg0.idle 7 (cfg0.grid.coords t) = decide (t.val % 5 ≠ 0) :=
  (by decide +kernel : ∀ t : Fin grid0.N, (!(k0_cond1 (grid0.coords t) == 1#1)) = decide (t.val % 5 ≠ 0))

/-- The first point of a point's tile of rows. -/
def rowPt (t : Fin cfg0.N) : Fin cfg0.N := ⟨5 * (t.val / 5), Nat.lt_of_le_of_lt (by omega) t.isLt⟩

/-- The point that computed the tile of the first output that the point's buffer holds. -/
def colPt (t : Fin cfg0.N) : Fin cfg0.N := ⟨5 * (t.val / 5) + min (t.val % 5) 2, Nat.lt_of_le_of_lt (by omega) t.isLt⟩

/-! ## The data -/

/-- The tile's rows, cast. -/
def xAt (c : Dev nD) (t : Fin cfg0.N) : Vec F S2048x1024 .bf16 := xbV (iblk m c 0 (rowPt t))

/-- The first output's tile. -/
def paAt (c : Dev nD) (t : Fin cfg0.N) : Vec F S2048x1024 .bf16 := paV (xAt m c t) (X0_1 m c (colPt t))

/-- The gates' tile. -/
def gAt (c : Dev nD) (t : Fin cfg0.N) : Vec F S2048x1024 .bf16 := gV (xAt m c t) (iblk m c 2 t) (iblk m c 3 t) (iblk m c 4 t)

/-- The pipeline's data: each input's buffer at its block after every point, the outputs' at the tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => paAt m c t
    | ⟨6, _⟩ => gAt m c t
    | ⟨7, _⟩ => xAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = paAt m c t := by dsimp only [dats]
theorem after_6 (c : Dev nD) (t : Fin cfg0.N) : (dats m 0 c).after 6 t = gAt m c t := by dsimp only [dats]
theorem after_7 (c : Dev nD) (t : Fin cfg0.N) : (dats m 0 c).after 7 t = xAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = X0_1 m c t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-! ## What the kept buffers hold -/

section
variable {cfg : Cfg sig Λ₀} {c : Dev nD} (dat : Dat τ (Elt F) Unit ℕ (UR sig nD τ) ℕ cfg c) (w : Fin cfg.W) (t : Fin cfg.N)

theorem left_kept (hi : cfg.idle w (cfg.grid.coords t) = true) (d) : dat.left w t d = dat.before w t d := by
  unfold Dat.left; rw [hi]

theorem left_stored (hi : cfg.idle w (cfg.grid.coords t) = false) (d) : dat.left w t d = dat.kept w t d := by
  unfold Dat.left; rw [hi]

theorem leaves_stored (hi : cfg.idle w (cfg.grid.coords t) = false) :
    (dat.leavesExact w t : sProp 𝕄) = owns (c : Thread nD τ) ((cfg.win w).stage (cfg.slots t w)) fullShare (dat.after w t) := by
  unfold Dat.leavesExact; rw [hi]

theorem leaves_written (hi : cfg.idle w (cfg.grid.coords t) = true) (hf : (cfg.win w).flush t = true) :
    (dat.leavesExact w t : sProp 𝕄) = owns (c : Thread nD τ) ((cfg.win w).stage (cfg.slots t w)) fullShare (dat.after w t) := by
  unfold Dat.leavesExact; rw [hi, hf]
end

theorem xAt_prev (c : Dev nD) (t t' : Fin cfg0.N) (h : t.val / 5 = t'.val / 5) : xAt m c t = xAt m c t' := by
  unfold xAt
  rw [show rowPt t = rowPt t' from Fin.ext (by show 5 * (t.val / 5) = 5 * (t'.val / 5); rw [h])]

theorem paAt_prev (c : Dev nD) (t t' : Fin cfg0.N) (h : t.val / 5 = t'.val / 5) (h2 : min (t.val % 5) 2 = min (t'.val % 5) 2) : paAt m c t = paAt m c t' := by
  unfold paAt
  rw [xAt_prev m c t t' h, show colPt t = colPt t' from Fin.ext (by show 5 * (t.val / 5) + min (t.val % 5) 2 = 5 * (t'.val / 5) + min (t'.val % 5) 2; rw [h, h2])]

/-- After its tile's first point the third output's buffer holds the cast rows. -/
theorem before_7 (c : Dev nD) (n : ℕ) (hn : n < cfg0.N) (h : n % 5 ≠ 0) (d) : (dats m 0 c).before 7 ⟨n, hn⟩ d = xAt m c ⟨n, hn⟩ := by
  induction n with
  | zero => exact absurd rfl h
  | succ n ih =>
    have hn' : n < cfg0.N := Nat.lt_of_succ_lt hn
    rw [(dats m 0 c).before_of_pos 7 ⟨n + 1, hn⟩ (Nat.succ_ne_zero n) rfl d,
      if_neg (by rw [flush7]; exact fun e => by have e := of_decide_eq_true e; have e : (n + 1 - 1) % 5 = 4 := e; omega)]
    have hp : xAt m c ⟨n + 1, hn⟩ = xAt m c ⟨n, hn'⟩ := xAt_prev m c _ _ (by show (n + 1) / 5 = n / 5; omega)
    by_cases h0 : n % 5 = 0
    · refine (left_stored (dats m 0 c) 7 ⟨n, hn'⟩ ((idle7 _).trans (decide_eq_false fun e => e h0)) d).trans ?_
      refine Eq.trans (?_ : _ = (dats m 0 c).after 7 ⟨n, hn'⟩) ((after_7 m c _).trans hp.symm)
      rfl
    · exact (left_kept (dats m 0 c) 7 ⟨n, hn'⟩ ((idle7 _).trans (decide_eq_true h0)) d).trans ((ih hn' h0).trans hp.symm)

/-- At its tile's last two points the first output's buffer holds the third tile. -/
theorem before_5 (c : Dev nD) (n : ℕ) (hn : n < cfg0.N) (h : 3 ≤ n % 5) (d) : (dats m 0 c).before 5 ⟨n, hn⟩ d = paAt m c ⟨n, hn⟩ := by
  induction n with
  | zero => exact absurd h (by decide)
  | succ n ih =>
    have hn' : n < cfg0.N := Nat.lt_of_succ_lt hn
    rw [(dats m 0 c).before_of_pos 5 ⟨n + 1, hn⟩ (Nat.succ_ne_zero n) rfl d,
      if_neg (by rw [flush5]; exact fun e => by have e := of_decide_eq_true e; have e : (n + 1 - 1) % 5 = 0 ∨ (n + 1 - 1) % 5 = 1 ∨ (n + 1 - 1) % 5 = 4 := e; omega)]
    have hp : paAt m c ⟨n + 1, hn⟩ = paAt m c ⟨n, hn'⟩ := paAt_prev m c _ _ (by show (n + 1) / 5 = n / 5; omega) (by show min ((n + 1) % 5) 2 = min (n % 5) 2; omega)
    by_cases h0 : 3 ≤ n % 5
    · exact (left_kept (dats m 0 c) 5 ⟨n, hn'⟩ ((idle5 _).trans (decide_eq_true h0)) d).trans ((ih hn' h0).trans hp.symm)
    · refine (left_stored (dats m 0 c) 5 ⟨n, hn'⟩ ((idle5 _).trans (decide_eq_false h0)) d).trans ?_
      refine Eq.trans (?_ : _ = (dats m 0 c).after 5 ⟨n, hn'⟩) ((after_5 m c _).trans hp.symm)
      rfl

/-! ## The body -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t ∗ (dats m 0 c).leavesExact 7 t)

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4]
  rw [show (dats m 0 c).owesAt () t.succ = (dats m 0 c).owesAt () t.castSucc from rfl, show (dats m 0 c).Φ t.succ = (dats m 0 c).Φ t.castSucc from rfl,
    after_0, after_1, after_2, after_3, after_4]
  iintro ⟨HI, Hw, ⟨%d0, H0⟩, ⟨%d1, H1⟩, ⟨%d2, H2⟩, ⟨%d3, H3⟩, ⟨%d4, H4⟩, ⟨%d5, H5⟩, ⟨%d6, H6⟩, ⟨%d7, H7⟩⟩
  unfold bodyAt0
  by_cases g : 3 ≤ t.val % 5
  · -- a tile of the gates
    rw [body_gate (grid0.coords t) _ _ _ _ _ _ _ _ _ _ _ _ _ _ _ _ (fun e => by have := (cond1_iff t).mp e; omega) (fun e => by have := (cond2_iff t).mp e; omega) ((cond3_iff t).mpr g)]
    rw [leaves_stored (dats m 0 c) 6 t ((idle6 t).trans (decide_eq_false (by omega))), after_6,
      before_5 m c t.val t.isLt g d5, before_7 m c t.val t.isLt (by omega) d7]
    iapply (stepG_wp c _ _ _ _ _ _ (iblk m c 2 t) (iblk m c 3 t) (iblk m c 4 t) _ (xAt m c t))
    isplitl [H2]; · iexact H2
    isplitl [H3]; · iexact H3
    isplitl [H4]; · iexact H4
    isplitl [H6]; · iexact H6
    isplitl [H7]; · iexact H7
    iintro ⟨H2, H3, H4, H6, H7⟩
    isplitl [HI]; · iexact HI
    isplitl [Hw]; · iexact Hw
    isplitl [H0]; · iexact H0
    isplitl [H1]; · iexact H1
    isplitl [H2]; · iexact H2
    isplitl [H3]; · iexact H3
    isplitl [H4]; · iexact H4
    by_cases l : t.val % 5 = 4
    · rw [leaves_written (dats m 0 c) 5 t ((idle5 t).trans (decide_eq_true g)) ((flush5 t).trans (decide_eq_true (Or.inr (Or.inr l)))), after_5,
        leaves_written (dats m 0 c) 7 t ((idle7 t).trans (decide_eq_true (by omega))) ((flush7 t).trans (decide_eq_true l)), after_7]
      isplitl [H5]; · iexact H5
      isplitl [H6]; · iexact H6
      iexact H7
    · rw [(dats m 0 c).leavesExact_idle 5 t ((idle5 t).trans (decide_eq_true g)) ((flush5 t).trans (decide_eq_false (by omega))),
        (dats m 0 c).leavesExact_idle 7 t ((idle7 t).trans (decide_eq_true (by omega))) ((flush7 t).trans (decide_eq_false l))]
      isplitl [H5]
      · iexists d5
        rw [before_5 m c t.val t.isLt g d5]
        iexact H5
      isplitl [H6]; · iexact H6
      iexists d7
      rw [before_7 m c t.val t.isLt (by omega) d7]
      iexact H7
  · have hc : colPt t = t := Fin.ext (by show 5 * (t.val / 5) + min (t.val % 5) 2 = t.val; omega)
    have hpa : (paAt m c t : Vec F S2048x1024 .bf16) = paV (xAt m c t) (X0_1 m c t) := by unfold paAt; rw [hc]
    rw [leaves_stored (dats m 0 c) 5 t ((idle5 t).trans (decide_eq_false g)), after_5,
      (dats m 0 c).leavesExact_idle 6 t ((idle6 t).trans (decide_eq_true (by omega))) ((flush6 t).trans (decide_eq_false g)), hpa]
    by_cases z : t.val % 5 = 0
    · -- the tile's first point
      have hr : (xAt m c t : Vec F S2048x1024 .bf16) = xbV (iblk m c 0 t) := by
        unfold xAt; rw [show rowPt t = t from Fin.ext (by show 5 * (t.val / 5) = t.val; omega)]
      rw [body_first (grid0.coords t) _ _ _ _ _ _ _ _ _ _ _ _ _ _ _ _ ((cond1_iff t).mpr z) ((cond2_iff t).mpr (by omega)) (fun e => g ((cond3_iff t).mp e)), wp_bind,
        leaves_stored (dats m 0 c) 7 t ((idle7 t).trans (decide_eq_false (fun e => e z))), after_7, hr]
      iapply (stepX_wp c _ _ _ (iblk m c 0 t) _)
      isplitl [H0]; · iexact H0
      isplitl [H7]; · iexact H7
      iintro ⟨H0, H7⟩
      iapply (stepA_wp c _ _ _ _ (X0_1 m c t) _ (xbV (iblk m c 0 t)))
      isplitl [H1]; · iexact H1
      isplitl [H5]; · iexact H5
      isplitl [H7]; · iexact H7
      iintro ⟨H1, H5, H7⟩
      isplitl [HI]; · iexact HI
      isplitl [Hw]; · iexact Hw
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexact H7
    · -- its second and third
      rw [body_mid (grid0.coords t) _ _ _ _ _ _ _ _ _ _ _ _ _ _ _ _ (fun e => z ((cond1_iff t).mp e)) ((cond2_iff t).mpr (by omega)) (fun e => g ((cond3_iff t).mp e)),
        (dats m 0 c).leavesExact_idle 7 t ((idle7 t).trans (decide_eq_true z)) ((flush7 t).trans (decide_eq_false (by omega))), before_7 m c t.val t.isLt z d7]
      iapply (stepA_wp c _ _ _ _ (X0_1 m c t) _ (xAt m c t))
      isplitl [H1]; · iexact H1
      isplitl [H5]; · iexact H5
      isplitl [H7]; · iexact H7
      iintro ⟨H1, H5, H7⟩
      isplitl [HI]; · iexact HI
      isplitl [Hw]; · iexact Hw
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7
      rw [before_7 m c t.val t.isLt z d7]
      iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch, with every semaphore at zero at the end. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel3Ideal.Run

end
-- ==== Proof.ProjGate.lean ====
/-
  The gates' function: half the hyperbolic tangent of half, plus half, is the logistic function, on the extended reals.
-/
module

public import Idealize.ShloMosaic.PureOps.Ideal.Laws

@[expose] public section

noncomputable section

namespace Proj

open Idealize.ShloMosaic

/-- The logistic function as the kernel writes it. -/
def gate (z : EReal) : EReal :=
  Ideal.ofBits .f32 0x3F000000#32 * Ideal.tanh (Ideal.ofBits .f32 0x3F000000#32 * z) + Ideal.ofBits .f32 0x3F000000#32

theorem half_word : Ideal.ofBits .f32 0x3F000000#32 = ((1 / 2 : ℝ) : EReal) := by
  simp [Ideal.ofBits, Ideal.ieee, -EReal.coe_mul]
  norm_num

theorem unit_word : Ideal.ofBits .f32 0x3F800000#32 = 1 := by
  simp [Ideal.ofBits, Ideal.ieee, -EReal.coe_mul]
  norm_num

/-- The identity on the reals. -/
theorem gate_real (r : ℝ) : 1 / 2 * Real.tanh (1 / 2 * r) + 1 / 2 = 1 / (1 + Real.exp (-r)) := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [Real.tanh_eq_sinh_div_cosh, Real.sinh_eq, Real.cosh_eq, h1]
  generalize Real.exp (1 / 2 * r) = a at *
  have hb : 0 < Real.exp (-(1 / 2 * r)) := Real.exp_pos _
  generalize Real.exp (-(1 / 2 * r)) = b at *
  have ha : a = 1 / b := by field_simp; linarith
  subst ha
  have : 0 < 1 + b * b := by positivity
  field_simp
  ring

theorem gate_eq (z : EReal) : gate z =
    Ideal.div (Ideal.ofBits .f32 0x3F800000#32) (Ideal.ofBits .f32 0x3F800000#32 + Ideal.exp (-z)) := by
  unfold gate
  rw [half_word, unit_word]
  induction z with
  | bot =>
    rw [EReal.coe_mul_bot_of_pos (by norm_num), EReal.neg_bot]
    show ((1 / 2 : ℝ) : EReal) * (-1) + ((1 / 2 : ℝ) : EReal) = Ideal.div 1 (1 + ⊤)
    rw [mul_neg, mul_one, EReal.add_top_of_ne_bot (by decide)]
    rw [← EReal.coe_neg, ← EReal.coe_add]
    simp [Ideal.div]
  | top =>
    rw [EReal.coe_mul_top_of_pos (by norm_num), EReal.neg_top]
    show ((1 / 2 : ℝ) : EReal) * 1 + ((1 / 2 : ℝ) : EReal) = Ideal.div 1 (1 + 0)
    rw [mul_one, add_zero, ← EReal.coe_add, show (1 / 2 : ℝ) + 1 / 2 = 1 by norm_num]
    simp [Ideal.div]
  | coe r =>
    rw [← EReal.coe_mul, ← EReal.coe_neg]
    show ((1 / 2 : ℝ) : EReal) * ((Real.tanh (1 / 2 * r) : ℝ) : EReal) + ((1 / 2 : ℝ) : EReal) = Ideal.div 1 (1 + ((Real.exp (-r) : ℝ) : EReal))
    have hp : (1 : ℝ) + Real.exp (-r) ≠ 0 := by have := Real.exp_pos (-r); positivity
    rw [← EReal.coe_mul, ← EReal.coe_add, gate_real, show (1 : EReal) = ((1 : ℝ) : EReal) from rfl, ← EReal.coe_add]
    unfold Ideal.div
    rw [if_neg (by exact_mod_cast hp), ← EReal.coe_inv, ← EReal.coe_mul, one_div, one_mul]

end Proj

end
-- ==== Proof.ProjArgs.lean ====
/-
  The projection kernel's blocks at a grid point, read as entries of the program's arguments, and the tiles it computes.
-/
module

public import proofs.«01_k».proof.Proof.ProjRun
public import proofs.«01_k».proof.Proof.ProjGate
public import Idealize.ShloMosaic.Lib.Pointwise
public import Idealize.ShloMosaic.Lib.ValueIdx
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Kernel3Ideal.Run

open Cert.Kernel3Ideal Cert.Kernel3Ideal.Gen
open Idealize.ShloMosaic Idealize.ShloMosaic.TcCoe
open Idealize.SL.Sem
open Idealize.ShloMosaic.Pipeline (Dat)

/-! ## The tiles at an entry -/

theorem xbV_apply (x : Vec Ideal S2048x1024 .f32) (r : Fin 2048) (k : Fin 1024) : xbV (F := Ideal) x (ix2 r k) = x (ix2 r k) := by
  pointwise [xbV]

theorem paV_apply (x : Vec Ideal S2048x1024 .bf16) (w : Vec Ideal S1024x1024 .bf16) (r : Fin 2048) (d : Fin 1024) :
    paV (F := Ideal) x w (ix2 r d) = ∑ k : Fin 1024, x (ix2 r k) * w (ix2 k d) := by
  pointwise [paV]

theorem wgV_lo (lo hi : Vec Ideal S1024x512 .bf16) (k : Fin 1024) (d : Fin 1024) (e : Fin 512) (h : (d : ℕ) = e) :
    wgV (F := Ideal) lo hi (ix2 k d) = lo (ix2 k e) := by
  obtain ⟨d, hd⟩ := d
  change d = e at h
  subst h
  pointwise [wgV]

theorem wgV_hi (lo hi : Vec Ideal S1024x512 .bf16) (k : Fin 1024) (d : Fin 1024) (e : Fin 512) (h : (d : ℕ) = 512 + e) :
    wgV (F := Ideal) lo hi (ix2 k d) = hi (ix2 k e) := by
  obtain ⟨d, hd⟩ := d
  change d = 512 + e at h
  subst h
  pointwise [wgV]

theorem gV_apply (x : Vec Ideal S2048x1024 .bf16) (lo hi : Vec Ideal S1024x512 .bf16) (b : Vec Ideal S1x1024 .f32) (r : Fin 2048) (d : Fin 1024) :
    gV (F := Ideal) x lo hi b (ix2 r d) = Proj.gate ((∑ k : Fin 1024, x (ix2 r k) * wgV (F := Ideal) lo hi (ix2 k d)) + b (ix2 0 d)) := by
  unfold Proj.gate
  pointwise [gV, zV, halfV]

/-! ## The reshapes and the narrowing of the arguments -/

theorem rows_cast (X : FVec Ideal S4x4096x1024 .f32) (b : Fin 4) (n : Fin 4096) (i : Fin 16384) (h : (i : ℕ) = 4096 * b + n) (k : Fin 1024) :
    shapeCast S16384x1024 X shapeCasts_S4x4096x1024_S16384x1024 (ix2 i k) = X (ix3 b n k) := by
  pointwise
  have h1 : (⟨(i : ℕ) / 4096, by omega⟩ : Fin 4) = b := Fin.ext (by show (i : ℕ) / 4096 = b; omega)
  have h2 : (⟨(i : ℕ) % 4096, by omega⟩ : Fin 4096) = n := Fin.ext (by show (i : ℕ) % 4096 = n; omega)
  rw [h1, h2]

theorem w_cast (X : FVec Ideal S1x1024x9728 .f32) (k : Fin 1024) (d : Fin 9728) :
    (truncf .bf16 (shapeCast S1024x9728 X shapeCasts_S1x1024x9728_S1024x9728) bitsLt_bf16_f32 : FVec Ideal S1024x9728 .bf16) (ix2 k d) = X (ix3 0 k d) := by
  pointwise

theorem bias_cast (X : FVec Ideal S1x2048 .f32) (d : Fin 2048) :
    broadcastInDim S1x2048 ![1] bcast_S2048_S1x2048_1 (shapeCast S2048 X shapeCasts_S1x2048_S2048) (ix2 0 d) = X (ix2 0 d) := by
  pointwise

variable (m : (ℓ : Loc nD τ sig) → Buf (Elt Ideal) ℓ)

theorem v0_eq (c : Dev nD) : V m c main_v0 = shapeCast S16384x1024 (m ((c : Thread nD τ).loc main_arg0) : FVec Ideal S4x4096x1024 .f32) shapeCasts_S4x4096x1024_S16384x1024 := by
  show StableHlo.after (List.flatten [hostOps0]) (fun b => m (c, b)) _ = _
  simp only [hostOps0, List.flatten_cons, List.flatten_nil, List.append_nil]
  after_results
  rfl

theorem v2_eq (c : Dev nD) : V m c main_v2 =
    (truncf .bf16 (shapeCast S1024x9728 (m ((c : Thread nD τ).loc main_arg1) : FVec Ideal S1x1024x9728 .f32) shapeCasts_S1x1024x9728_S1024x9728) bitsLt_bf16_f32 : FVec Ideal S1024x9728 .bf16) := by
  show StableHlo.after (List.flatten [hostOps0]) (fun b => m (c, b)) _ = _
  simp only [hostOps0, List.flatten_cons, List.flatten_nil, List.append_nil]
  after_results
  rfl

theorem v4_eq (c : Dev nD) : V m c main_v4 =
    broadcastInDim S1x2048 ![1] bcast_S2048_S1x2048_1 (shapeCast S2048 (m ((c : Thread nD τ).loc main_arg2) : FVec Ideal S1x2048 .f32) shapeCasts_S1x2048_S2048) := by
  show StableHlo.after (List.flatten [hostOps0]) (fun b => m (c, b)) _ = _
  simp only [hostOps0, List.flatten_cons, List.flatten_nil, List.append_nil]
  after_results
  rfl

/-! ## The blocks -/

/-- The gates' tile of a point's column. -/
def half (t : ℕ) : ℕ := min (t % 5 - 3) 1

theorem idx_facts : ∀ t : Fin cfg0.N, win0_0.index t = ![t.val / 5, 0] ∧ win0_1.index t = ![0, min (t.val % 5) 2] ∧ win0_2.index t = ![0, 15 + 2 * half t.val] ∧
    win0_3.index t = ![0, 16 + 2 * half t.val] ∧ win0_4.index t = ![0, half t.val] ∧ win0_5.index t = ![t.val / 5, min (t.val % 5) 2] ∧
    win0_6.index t = ![t.val / 5, half t.val] :=
  (by decide +kernel : ∀ t : Fin grid0.N, _)

theorem x_apply (c : Dev nD) (t : Fin cfg0.N) (b : Fin 4) (n : Fin 4096) (r : Fin 2048) (h : 2048 * (t.val / 5) + r = 4096 * b + n) (k : Fin 1024) :
    iblk m c 0 t (ix2 r k) = m ((c : Thread nD τ).loc main_arg0) (ix3 b n k) := by
  obtain ⟨e0, e1, e2, e3, e4, e5, e6⟩ := idx_facts t
  have e : (win0_0.blk t).view.emb (ix2 r k) = ix2 ⟨2048 * (t.val / 5) + r, by omega⟩ k := by blk_ext [e0]
  show V m c main_v0 ((win0_0.blk t).view.emb (ix2 r k)) = _
  rw [e, v0_eq]
  exact rows_cast _ b n _ h k

theorem lo_apply (c : Dev nD) (t : Fin cfg0.N) (k : Fin 1024) (d : Fin 512) (j : Fin 9728) (h : (j : ℕ) = 7680 + 1024 * half t.val + d) :
    iblk m c 2 t (ix2 k d) = m ((c : Thread nD τ).loc main_arg1) (ix3 0 k j) := by
  obtain ⟨e0, e1, e2, e3, e4, e5, e6⟩ := idx_facts t
  have e : (win0_2.blk t).view.emb (ix2 k d) = ix2 k j := by
    obtain ⟨j, hj⟩ := j
    change j = 7680 + 1024 * half t.val + d at h
    subst h
    blk_ext [e2]
  show V m c main_v2 ((win0_2.blk t).view.emb (ix2 k d)) = _
  rw [e, v2_eq]
  exact w_cast _ k j

theorem hi_apply (c : Dev nD) (t : Fin cfg0.N) (k : Fin 1024) (d : Fin 512) (j : Fin 9728) (h : (j : ℕ) = 8192 + 1024 * half t.val + d) :
    iblk m c 3 t (ix2 k d) = m ((c : Thread nD τ).loc main_arg1) (ix3 0 k j) := by
  obtain ⟨e0, e1, e2, e3, e4, e5, e6⟩ := idx_facts t
  have e : (win0_3.blk t).view.emb (ix2 k d) = ix2 k j := by
    obtain ⟨j, hj⟩ := j
    change j = 8192 + 1024 * half t.val + d at h
    subst h
    blk_ext [e3]
  show V m c main_v2 ((win0_3.blk t).view.emb (ix2 k d)) = _
  rw [e, v2_eq]
  exact w_cast _ k j

theorem b_apply (c : Dev nD) (t : Fin cfg0.N) (d : Fin 1024) (j : Fin 2048) (h : (j : ℕ) = 1024 * half t.val + d) :
    iblk m c 4 t (ix2 0 d) = m ((c : Thread nD τ).loc main_arg2) (ix2 0 j) := by
  obtain ⟨e0, e1, e2, e3, e4, e5, e6⟩ := idx_facts t
  have e : (win0_4.blk t).view.emb (ix2 0 d) = ix2 0 j := by
    obtain ⟨j, hj⟩ := j
    change j = 1024 * half t.val + d at h
    subst h
    blk_ext [e4]
  show V m c main_v4 ((win0_4.blk t).view.emb (ix2 0 d)) = _
  rw [e, v4_eq]
  exact bias_cast _ j

theorem w_apply (c : Dev nD) (t : Fin cfg0.N) (k d : Fin 1024) (j : Fin 9728) (h : (j : ℕ) = 1024 * min (t.val % 5) 2 + d) :
    X0_1 m c t (ix2 k d) = m ((c : Thread nD τ).loc main_arg1) (ix3 0 k j) := by
  obtain ⟨e0, e1, e2, e3, e4, e5, e6⟩ := idx_facts t
  unfold X0_1 Pipeline.Window.fill
  rw [dif_pos (moved0_1 t (ix2 k d))]
  unfold iblk
  have e : (win0_1.blk t).view.emb (fun a => ⟨(ix2 k d a).val, ((win0_1.moved_iff _ _).mp (moved0_1 t (ix2 k d))) a⟩) = ix2 k j := by
    obtain ⟨j, hj⟩ := j
    change j = 1024 * min (t.val % 5) 2 + d at h
    subst h
    blk_ext [e1]
  show V m c main_v2 ((win0_1.blk t).view.emb _) = _
  refine (congrArg (V m c main_v2) e).trans ?_
  rw [v2_eq]
  exact w_cast _ k j

end Cert.Kernel3Ideal.Run

end
-- ==== Proof.ProjKer.lean ====
/-
  The projection kernel's two result arrays: each tile the plain function of the program's arguments.
-/
module

public import proofs.«01_k».proof.Proof.ProjArgs

@[expose] public section

set_option maxRecDepth 16384

noncomputable section

namespace Cert.Kernel3Ideal.Run

open Cert.Kernel3Ideal Cert.Kernel3Ideal.Gen
open Idealize.ShloMosaic Idealize.ShloMosaic.TcCoe
open Idealize.SL.Sem
open Idealize.ShloMosaic.Pipeline (Dat)

variable (m : (ℓ : Loc nD τ sig) → Buf (Elt Ideal) ℓ)

/-- The arguments' entries: the rows, the weights and the bias. -/
def xArg (c : Dev nD) (b : Fin 4) (n : Fin 4096) (k : Fin 1024) : EReal := m ((c : Thread nD τ).loc main_arg0) (ix3 b n k)
def wArg (c : Dev nD) (k : Fin 1024) (j : Fin 9728) : EReal := m ((c : Thread nD τ).loc main_arg1) (ix3 0 k j)
def bArg (c : Dev nD) (d : Fin 2048) : EReal := m ((c : Thread nD τ).loc main_arg2) (ix2 0 d)

/-- The projection's entry at row `n` and column `j` of sequence `b`. -/
def projAt (c : Dev nD) (b : Fin 4) (n : Fin 4096) (j : Fin 9728) : EReal :=
  ∑ k : Fin 1024, xArg m c b n k * wArg m c k j

/-- The gate there. -/
def gateAt (c : Dev nD) (b : Fin 4) (n : Fin 4096) (d : Fin 2048) : EReal :=
  Proj.gate (projAt m c b n ⟨7680 + d, by omega⟩ + bArg m c d)

theorem xAt_apply (c : Dev nD) (t : Fin cfg0.N) (b : Fin 4) (n : Fin 4096) (r : Fin 2048) (h : 2048 * (t.val / 5) + r = 4096 * b + n) (k : Fin 1024) :
    xAt m c t (ix2 r k) = m ((c : Thread nD τ).loc main_arg0) (ix3 b n k) := by
  unfold xAt
  rw [xbV_apply]
  exact x_apply m c (rowPt t) b n r (by show 2048 * (5 * (t.val / 5) / 5) + (r : ℕ) = _; omega) k

theorem paAt_apply (c : Dev nD) (t : Fin cfg0.N) (b : Fin 4) (n : Fin 4096) (r : Fin 2048) (h : 2048 * (t.val / 5) + r = 4096 * b + n)
    (d : Fin 1024) (j : Fin 9728) (hj : (j : ℕ) = 1024 * min (t.val % 5) 2 + d) : paAt m c t (ix2 r d) = projAt m c b n j := by
  unfold paAt projAt
  rw [paV_apply]
  refine Finset.sum_congr rfl fun k _ => congrArg₂ (· * ·) (xAt_apply m c t b n r h k) (w_apply m c (colPt t) k d j ?_)
  show (j : ℕ) = 1024 * min ((5 * (t.val / 5) + min (t.val % 5) 2) % 5) 2 + d
  omega

theorem wg_apply (c : Dev nD) (t : Fin cfg0.N) (k d : Fin 1024) (j : Fin 9728) (h : (j : ℕ) = 7680 + 1024 * half t.val + d) :
    wgV (F := Ideal) (iblk m c 2 t) (iblk m c 3 t) (ix2 k d) = m ((c : Thread nD τ).loc main_arg1) (ix3 0 k j) := by
  by_cases hd : (d : ℕ) < 512
  · rw [wgV_lo _ _ k d ⟨d, hd⟩ rfl]
    exact lo_apply m c t k ⟨d, hd⟩ j h
  · rw [wgV_hi _ _ k d ⟨d - 512, by omega⟩ (by show (d : ℕ) = 512 + (d - 512); omega)]
    exact hi_apply m c t k ⟨d - 512, by omega⟩ j (by show (j : ℕ) = 8192 + 1024 * half t.val + (d - 512); omega)

theorem gAt_apply (c : Dev nD) (t : Fin cfg0.N) (b : Fin 4) (n : Fin 4096) (r : Fin 2048) (h : 2048 * (t.val / 5) + r = 4096 * b + n)
    (d : Fin 1024) (j : Fin 2048) (hj : (j : ℕ) = 1024 * half t.val + d) : gAt m c t (ix2 r d) = gateAt m c b n j := by
  unfold gAt gateAt projAt
  rw [gV_apply]
  refine congrArg Proj.gate (congrArg₂ (· + ·) (Finset.sum_congr rfl fun k _ => congrArg₂ (· * ·) (xAt_apply m c t b n r h k) (wg_apply m c t k d _ ?_)) (b_apply m c t d j hj))
  show 7680 + (j : ℕ) = 7680 + 1024 * half t.val + d
  omega

/-- The sequence and the row of a row of the result arrays. -/
def seqAt (i : ℕ) (h : i < 16384) : Fin 4 := ⟨i / 4096, by omega⟩
def posAt (i : ℕ) : Fin 4096 := ⟨i % 4096, Nat.mod_lt _ (by decide)⟩

/-- The first result array, its sequences one after the other. -/
def paG (c : Dev nD) : S16384x3072.Idx → Elt Ideal .bf16 := fun y =>
  projAt m c (seqAt (y 0).val (y 0).isLt) (posAt (y 0).val) ⟨(y 1).val, by have h := (y 1).isLt; change (y 1).val < 3072 at h; omega⟩

/-- The second. -/
def gG (c : Dev nD) : S16384x2048.Idx → Elt Ideal .bf16 := fun y => gateAt m c (seqAt (y 0).val (y 0).isLt) (posAt (y 0).val) (y 1)

theorem final_pa (c : Dev nD) : (dats m 0 c).arrAt 5 cfg0.N = paG m c := by
  refine (dats m 0 c).arrAt_eq_of_covers 5 _ (by decide +kernel) fun t hf y => ?_
  obtain ⟨e0, e1, e2, e3, e4, e5, e6⟩ := idx_facts t
  blk_simp
  rw [after_5]
  unfold paG
  idx_bounds y
  have h0 : ((win0_5.blk t).view.emb y 0).val = t.val / 5 * 2048 + (y 0).val := by blk_simp [e5]
  have h1 : ((win0_5.blk t).view.emb y 1).val = min (t.val % 5) 2 * 1024 + (y 1).val := by blk_simp [e5]
  obtain ⟨r, d, rfl⟩ : ∃ (r : Fin 2048) (d : Fin 1024), y = ix2 r d := ⟨y 0, y 1, funext fun a => by
    match a with
    | ⟨0, _⟩ => rfl
    | ⟨1, _⟩ => rfl⟩
  change ((win0_5.blk t).view.emb (ix2 r d) 0).val = t.val / 5 * 2048 + (r : ℕ) at h0
  change ((win0_5.blk t).view.emb (ix2 r d) 1).val = min (t.val % 5) 2 * 1024 + (d : ℕ) at h1
  refine paAt_apply m c t _ _ r ?_ d _ ?_
  · show 2048 * (t.val / 5) + (r : ℕ) = 4096 * (((win0_5.blk t).view.emb (ix2 r d) 0).val / 4096) + ((win0_5.blk t).view.emb (ix2 r d) 0).val % 4096
    omega
  · show ((win0_5.blk t).view.emb (ix2 r d) 1).val = _
    omega

theorem final_g (c : Dev nD) : (dats m 0 c).arrAt 6 cfg0.N = gG m c := by
  refine (dats m 0 c).arrAt_eq_of_covers 6 _ (by decide +kernel) fun t hf y => ?_
  obtain ⟨e0, e1, e2, e3, e4, e5, e6⟩ := idx_facts t
  blk_simp
  rw [after_6]
  unfold gG
  idx_bounds y
  have h0 : ((win0_6.blk t).view.emb y 0).val = t.val / 5 * 2048 + (y 0).val := by blk_simp [e6]
  have h1 : ((win0_6.blk t).view.emb y 1).val = half t.val * 1024 + (y 1).val := by blk_simp [e6]
  obtain ⟨r, d, rfl⟩ : ∃ (r : Fin 2048) (d : Fin 1024), y = ix2 r d := ⟨y 0, y 1, funext fun a => by
    match a with
    | ⟨0, _⟩ => rfl
    | ⟨1, _⟩ => rfl⟩
  change ((win0_6.blk t).view.emb (ix2 r d) 0).val = t.val / 5 * 2048 + (r : ℕ) at h0
  change ((win0_6.blk t).view.emb (ix2 r d) 1).val = half t.val * 1024 + (d : ℕ) at h1
  refine gAt_apply m c t _ _ r ?_ d _ ?_
  · show 2048 * (t.val / 5) + (r : ℕ) = 4096 * (((win0_6.blk t).view.emb (ix2 r d) 0).val / 4096) + ((win0_6.blk t).view.emb (ix2 r d) 0).val % 4096
    omega
  · omega

end Cert.Kernel3Ideal.Run

end
-- ==== Proof.ProjRef.lean ====
/-
  The plain projection's two results, read at an entry.
-/
module

public import proofs.«01_k».proof.Proof.ProjGate
public import proofs.«01_k».proof.Proof.Gen.Reference3Ideal.Run
public import Idealize.ShloMosaic.Lib.Pointwise
public import Idealize.ShloMosaic.Lib.ValueIdx

@[expose] public section

set_option maxRecDepth 16384

noncomputable section

namespace Cert.Reference3Ideal.Stages

open Cert.Reference3Ideal Cert.Reference3Ideal.Gen
open Idealize.ShloMosaic Idealize.ShloMosaic.TcCoe
open Idealize.SL.Sem

/-- The projection. -/
def proj (x : FVec Ideal S4x4096x1024 .f32) (w : FVec Ideal S1x1024x9728 .f32) : FVec Ideal S4x4096x9728 .f32 :=
  Host.dotGeneral dot_S4x4096x1024_S1024x9728_S4x4096x9728_2_0_01_1_n_n none x (shapeCast _ w shapeCasts_S1x1024x9728_S1024x9728)

theorem proj_apply (x : FVec Ideal S4x4096x1024 .f32) (w : FVec Ideal S1x1024x9728 .f32) (b : Fin 4) (n : Fin 4096) (d : Fin 9728) :
    proj x w (ix3 b n d) = ∑ k : Fin 1024, x (ix3 b n k) * w (ix3 0 k d) := by
  pointwise [proj]

/-- Its first 3072 columns. -/
def pa (p : FVec Ideal S4x4096x9728 .f32) : FVec Ideal S4x4096x3072 .bf16 :=
  truncf .bf16 (extractStridedSlice S4x4096x3072 ![0, 0, 0] p slices_S4x4096x9728_S4x4096x3072_0_0_0) bitsLt_bf16_f32

theorem pa_apply (p : FVec Ideal S4x4096x9728 .f32) (b : Fin 4) (n : Fin 4096) (d : Fin 3072) :
    pa p (ix3 b n d) = p (ix3 b n ⟨d, by omega⟩) := by
  pointwise [pa]

/-- The logistic function of its last 2048 columns plus the bias. -/
def gates (p : FVec Ideal S4x4096x9728 .f32) (bias : FVec Ideal S1x2048 .f32) : FVec Ideal S4x4096x2048 .bf16 :=
  truncf .bf16 (Host.divf (broadcastInDim S4x4096x2048 ![] bcast_S_S4x4096x2048 (constant S_ .f32 0x3F800000#32))
    (addf (broadcastInDim S4x4096x2048 ![] bcast_S_S4x4096x2048 (constant S_ .f32 0x3F800000#32))
      (Host.exp (Host.negf (addf (extractStridedSlice S4x4096x2048 ![0, 0, 7680] p slices_S4x4096x9728_S4x4096x2048_0_0_7680)
        (broadcastInDim S4x4096x2048 ![0, 1, 2] bcast_S1x1x2048_S4x4096x2048_0_1_2 (broadcastInDim S1x1x2048 ![2] bcast_S2048_S1x1x2048_2
          (shapeCast _ bias shapeCasts_S1x2048_S2048)))))))) bitsLt_bf16_f32

theorem gates_apply (p : FVec Ideal S4x4096x9728 .f32) (bias : FVec Ideal S1x2048 .f32) (b : Fin 4) (n : Fin 4096) (d : Fin 2048) :
    gates p bias (ix3 b n d) = Proj.gate (p (ix3 b n ⟨7680 + d, by omega⟩) + bias (ix2 0 d)) := by
  rw [Proj.gate_eq]
  pointwise [gates]

end Cert.Reference3Ideal.Stages

end
-- ==== Proof.ProjJoin.lean ====
/-
  The projection kernel's run with its results named, and those results the reference's.
-/
module

public import proofs.«01_k».proof.Defs
public import proofs.«01_k».proof.Proof.ProjKer
public import proofs.«01_k».proof.Proof.ProjRef

@[expose] public section

set_option maxRecDepth 16384

noncomputable section

namespace Cert.Kernel3Ideal.Run

open Cert.Kernel3Ideal Cert.Kernel3Ideal.Gen
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- The results, in the argument's layout. -/
def paRes (c : Dev nD) : Buf (Elt Ideal) ((c.tc : Thread nD τ).loc main_v6) :=
  shapeCast S4x4096x3072 (paG m c : FVec Ideal S16384x3072 .bf16) shapeCasts_S16384x3072_S4x4096x3072

def gRes (c : Dev nD) : Buf (Elt Ideal) ((c.tc : Thread nD τ).loc main_v7) :=
  shapeCast S4x4096x2048 (gG m c : FVec Ideal S16384x2048 .bf16) shapeCasts_S16384x2048_S4x4096x2048

theorem seqAt_eq (b : Fin 4) (n : Fin 4096) (h) : seqAt (4096 * b + n) h = b := Fin.ext (by show (4096 * (b : ℕ) + n) / 4096 = b; omega)
theorem posAt_eq (b : Fin 4) (n : Fin 4096) : posAt (4096 * b + n) = n := Fin.ext (by show (4096 * (b : ℕ) + n) % 4096 = n; omega)

theorem paRes_apply (c : Dev nD) (b : Fin 4) (n : Fin 4096) (d : Fin 3072) : paRes m c (ix3 b n d) = projAt m c b n ⟨d, by omega⟩ := by
  have e : paRes m c (ix3 b n d) = paG m c (ix2 ⟨4096 * b + n, by omega⟩ d) := by
    refine shapeCast_apply _ _ _ _ ?_
    rw [Shape.rowMajor_val_two, Shape.rowMajor_val_three]
    show (4096 * (b : ℕ) + n) * 3072 + d = ((b : ℕ) * 4096 + n) * 3072 + d
    rw [Nat.mul_comm (b : ℕ)]
  rw [e]
  exact (congrArg (fun b => projAt m c b _ _) (seqAt_eq b n _)).trans (congrArg (fun n => projAt m c b n _) (posAt_eq b n))

theorem gRes_apply (c : Dev nD) (b : Fin 4) (n : Fin 4096) (d : Fin 2048) : gRes m c (ix3 b n d) = gateAt m c b n d := by
  have e : gRes m c (ix3 b n d) = gG m c (ix2 ⟨4096 * b + n, by omega⟩ d) := by
    refine shapeCast_apply _ _ _ _ ?_
    rw [Shape.rowMajor_val_two, Shape.rowMajor_val_three]
    show (4096 * (b : ℕ) + n) * 2048 + d = ((b : ℕ) * 4096 + n) * 2048 + d
    rw [Nat.mul_comm (b : ℕ)]
  rw [e]
  exact (congrArg (fun b => gateAt m c b _ _) (seqAt_eq b n _)).trans (congrArg (fun n => gateAt m c b n _) (posAt_eq b n))

theorem tail_pa (c : Dev nD) : Pipeline.afterTail₀ cfgs (dats m) 0 (V0 m) [hostOps1] c main_v6 = paRes m c := by
  unfold Pipeline.afterTail₀
  simp only [hostOps1, List.flatten_cons, List.flatten_nil, List.append_nil]
  after_results
  have e := (dats m 0 c).withArrays_arrAt sharedIn0 (V0 m c) (A_eq m c) 5
  exact congrArg (fun X : FVec Ideal S16384x3072 .bf16 => shapeCast S4x4096x3072 X shapeCasts_S16384x3072_S4x4096x3072) (e.trans (final_pa m c))

theorem tail_g (c : Dev nD) : Pipeline.afterTail₀ cfgs (dats m) 0 (V0 m) [hostOps1] c main_v7 = gRes m c := by
  unfold Pipeline.afterTail₀
  simp only [hostOps1, List.flatten_cons, List.flatten_nil, List.append_nil]
  after_results
  have e := (dats m 0 c).withArrays_arrAt sharedIn0 (V0 m c) (A_eq m c) 6
  exact congrArg (fun X : FVec Ideal S16384x2048 .bf16 => shapeCast S4x4096x2048 X shapeCasts_S16384x2048_S4x4096x2048) (e.trans (final_g m c))

/-- The run: it ends, its results are `paRes` and `gRes` and its arguments are kept. -/
theorem run : θ_run (defs (F := Ideal)) (onTc (τ := τ) (main (F := Ideal))) ⟨m, fun _ => 0, ρ⟩ fun r => ∀ c : Dev nD,
      r.2.mem ((c.tc : Thread nD τ).loc main_v6) = paRes m c
      ∧ r.2.mem ((c.tc : Thread nD τ).loc main_v7) = gRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).2 main_v6 (Pipeline.mem_restRefs_of main_v6 (by decide) (by decide))).trans (tail_pa m c),
      ((h.1 c).2 main_v7 (Pipeline.mem_restRefs_of main_v7 (by decide) (by decide))).trans (tail_g m c), h.2 c⟩)
    (θ_run_and (run_main m ρ) (frame_of m ρ (dats m) (A_eq m) (run_main m ρ)))

end Cert.Kernel3Ideal.Run

namespace Cert.ProjJoin

open Idealize.ShloMosaic Idealize.ShloMosaic.TcCoe Idealize.SL.Sem

theorem algebraic : algebraic_Kernel3Ideal_Reference3Ideal (hKernel3Ideal := Cert.Kernel3Ideal.Gen.facts) (hReference3Ideal := Cert.Reference3Ideal.Gen.facts) := by
  intro m ρ m' ρ' _ hagree
  refine ⟨_, _, Cert.Kernel3Ideal.Run.run m ρ, ?_⟩
  refine (θ_run Cert.Reference3Ideal.defs _ _).mono (fun _ h c => ⟨?_, ?_, (h c).2.2⟩) (Cert.Reference3Ideal.Value.run (F := Ideal) m' ρ')
  · refine (h c).1.trans ?_
    obtain ⟨a0, a1, a2⟩ := hagree c
    funext y
    obtain ⟨b, n, d, rfl⟩ : ∃ (b : Fin 4) (n : Fin 4096) (d : Fin 3072), y = ix3 b n d := ⟨y 0, y 1, y 2, funext fun a => by
      match a with
      | ⟨0, _⟩ => rfl
      | ⟨1, _⟩ => rfl
      | ⟨2, _⟩ => rfl⟩
    refine ((Cert.Reference3Ideal.Stages.pa_apply _ b n d).trans (Cert.Reference3Ideal.Stages.proj_apply _ _ b n _)).trans
      ((Cert.Kernel3Ideal.Run.paRes_apply m c b n d).trans ?_).symm
    unfold Cert.Kernel3Ideal.Run.projAt Cert.Kernel3Ideal.Run.xArg Cert.Kernel3Ideal.Run.wArg
    rw [a0, a1]
  · refine (h c).2.1.trans ?_
    obtain ⟨a0, a1, a2⟩ := hagree c
    funext y
    obtain ⟨b, n, d, rfl⟩ : ∃ (b : Fin 4) (n : Fin 4096) (d : Fin 2048), y = ix3 b n d := ⟨y 0, y 1, y 2, funext fun a => by
      match a with
      | ⟨0, _⟩ => rfl
      | ⟨1, _⟩ => rfl
      | ⟨2, _⟩ => rfl⟩
    refine ((Cert.Reference3Ideal.Stages.gates_apply _ _ b n d).trans (congrArg (fun z => Proj.gate (z + _)) (Cert.Reference3Ideal.Stages.proj_apply _ _ b n _))).trans
      ((Cert.Kernel3Ideal.Run.gRes_apply m c b n d).trans ?_).symm
    unfold Cert.Kernel3Ideal.Run.gateAt Cert.Kernel3Ideal.Run.projAt Cert.Kernel3Ideal.Run.xArg Cert.Kernel3Ideal.Run.wArg Cert.Kernel3Ideal.Run.bArg
    rw [a0, a1, a2]

end Cert.ProjJoin

end
-- ==== Proof.ProjFrame.lean ====
/-
  The projection's frame at the machine's floats, from the one run: the two programs have the same text.
-/
module

public import proofs.«01_k».proof.Defs
public import proofs.«01_k».proof.Proof.ProjRun
public import proofs.«01_k».proof.Proof.Gen.Kernel3
public import Idealize.ShloMosaic.Lib.Tactic

@[expose] public section

set_option maxRecDepth 16384

noncomputable section

namespace Cert.ProjFrame

open Idealize.ShloMosaic Idealize.ShloMosaic.Tactic Idealize.SL.Sem

theorem defs_eq : Cert.Kernel3.defs (F := Bits) = Cert.Kernel3Ideal.defs (F := Bits) := by sl_kernel_rfl

theorem main_eq : Cert.Kernel3.main (F := Bits) = Cert.Kernel3Ideal.main (F := Bits) := rfl

theorem frame : Cert.quiescent_Kernel3 := fun m ρ _ => by
  rw [defs_eq, main_eq]
  exact Cert.Kernel3Ideal.Run.frame (F := Bits) m ρ

end Cert.ProjFrame

end
-- ==== Proof.Merged.lean ====
/-
  The merge call in plain functions: three groups' outputs mixed by weights that are powers of two, the two mixers' projections
  gated and added, the output projection onto the scaled input, and the layer norm of that sum.
-/
module

public import proofs.«01_k».proof.Proof.Ffn

@[expose] public section

noncomputable section

namespace Merged

open Idealize.ShloMosaic

/-- The largest of three logs. -/
def top (a b c : EReal) : EReal := max (max a b) c

/-- Three values weighted by powers of two, divided once by the weights' sum. -/
def quotient (a b c p q r : EReal) : EReal :=
  Ideal.div (Ideal.exp2 (a - top a b c) * p + Ideal.exp2 (b - top a b c) * q + Ideal.exp2 (c - top a b c) * r)
    (Ideal.exp2 (a - top a b c) + Ideal.exp2 (b - top a b c) + Ideal.exp2 (c - top a b c))

/-- A power of two as the reference writes it. -/
def power (x : EReal) : EReal := Ideal.pow (Ideal.ofBits .f32 0x40000000#32) x

/-- The weights' sum as the reference writes it. -/
def total (a b c : EReal) : EReal := power (a - top a b c) + power (b - top a b c) + power (c - top a b c)

/-- Three values, each times its weight divided by the weights' sum. -/
def weighted (a b c p q r : EReal) : EReal :=
  Ideal.div (power (a - top a b c)) (total a b c) * p + Ideal.div (power (b - top a b c)) (total a b c) * q +
    Ideal.div (power (c - top a b c)) (total a b c) * r

/-- The word of two is the real one. -/
theorem two_word : Ideal.ofBits .f32 0x40000000#32 = ((2 : ℝ) : EReal) := by
  simp [Ideal.ofBits, Ideal.ieee, -EReal.coe_mul]
  norm_num

/-- A power of a real is a positive real, the same in both forms. -/
theorem powers (x : ℝ) : ∃ e : ℝ, 0 < e ∧ Ideal.exp2 (x : EReal) = (e : EReal) ∧ power (x : EReal) = (e : EReal) := by
  refine ⟨Real.rpow 2 x, Real.rpow_pos_of_pos (by norm_num) x, rfl, ?_⟩
  unfold power
  rw [two_word]
  rfl

/-- With real logs the two forms are the same number, whatever the three values are. -/
theorem weighted_eq (a b c : ℝ) (p q r : EReal) : weighted a b c p q r = quotient a b c p q r := by
  have ht : top a b c = ((max (max a b) c : ℝ) : EReal) := by
    unfold top
    rw [EReal.coe_strictMono.monotone.map_max, EReal.coe_strictMono.monotone.map_max]
  unfold weighted quotient total
  rw [ht, ← EReal.coe_sub, ← EReal.coe_sub, ← EReal.coe_sub]
  obtain ⟨u, hu, u1, u2⟩ := powers (a - max (max a b) c)
  obtain ⟨v, hv, v1, v2⟩ := powers (b - max (max a b) c)
  obtain ⟨w, hw, w1, w2⟩ := powers (c - max (max a b) c)
  rw [u1, u2, v1, v2, w1, w2, ← EReal.coe_add, ← EReal.coe_add]
  have hT : 0 < u + v + w := by positivity
  have hi : (0 : EReal) ≤ ((1 / (u + v + w) : ℝ) : EReal) := by exact_mod_cast (by positivity : (0 : ℝ) ≤ 1 / (u + v + w))
  rw [Ideal.div_coe hT.ne', Ideal.div_coe hT.ne', Ideal.div_coe hT.ne', Ideal.div_coe hT.ne',
    EReal.right_distrib_of_nonneg_of_ne_top hi (EReal.coe_ne_top _), EReal.right_distrib_of_nonneg_of_ne_top hi (EReal.coe_ne_top _)]
  rw [mul_right_comm (u : EReal), mul_right_comm (v : EReal), mul_right_comm (w : EReal)]

/-- The two mixers' projections of a row, each times its gate. -/
def gated (oa : Fin 1024 → EReal) (ob : Fin 512 → EReal) (ga gb : Fin 1024 → EReal) (wa : Fin 1024 → Fin 1024 → EReal) (wb : Fin 512 → Fin 1024 → EReal)
    (k : Fin 1024) : EReal :=
  ga k * (∑ d : Fin 1024, oa d * wa d k) + gb k * ∑ d : Fin 512, ob d * wb d k

/-- The scaled input and the output projection of a row. -/
def pre (x : Fin 1024 → EReal) (y : Fin 1024 → EReal) (wo : Fin 1024 → Fin 1024 → EReal) (j : Fin 1024) : EReal :=
  Ideal.ofBits .f32 0x3F9837F0#32 * x j + ∑ k : Fin 1024, y k * wo k j

/-- The call's result at column `j` of a row. -/
def out (oa : Fin 1024 → EReal) (ob : Fin 512 → EReal) (ga gb x : Fin 1024 → EReal) (wa : Fin 1024 → Fin 1024 → EReal) (wb : Fin 512 → Fin 1024 → EReal)
    (wo : Fin 1024 → Fin 1024 → EReal) (g b : Fin 1024 → EReal) (j : Fin 1024) : EReal :=
  Ffn.normed (pre x (gated oa ob ga gb wa wb) wo) g b j

/-- Equal rows and weights give equal results. -/
theorem out_congr {oa oa' : Fin 1024 → EReal} {ob ob' : Fin 512 → EReal} {ga ga' gb gb' x x' : Fin 1024 → EReal} {wa wa' : Fin 1024 → Fin 1024 → EReal}
    {wb wb' : Fin 512 → Fin 1024 → EReal} {wo wo' : Fin 1024 → Fin 1024 → EReal} {g g' b b' : Fin 1024 → EReal}
    (h0 : oa = oa') (h1 : ob = ob') (h2 : ga = ga') (h3 : gb = gb') (h4 : x = x') (h5 : wa = wa') (h6 : wb = wb') (h7 : wo = wo') (h8 : g = g') (h9 : b = b')
    (j : Fin 1024) : out oa ob ga gb x wa wb wo g b j = out oa' ob' ga' gb' x' wa' wb' wo' g' b' j := by
  rw [h0, h1, h2, h3, h4, h5, h6, h7, h8, h9]

end Merged

end
-- ==== Proof.MergedBody.lean ====
/-
  The merge kernel's vector expressions: each of the four slabs of 256 rows is one and the same function of the rows it loads,
  and that function read at an entry.
-/
module

public import proofs.«01_k».proof.Proof.Merged
public import proofs.«01_k».proof.Proof.Gen.Kernel4Ideal.Frame
public import Idealize.ShloMosaic.Lib.Pointwise
public import Idealize.ShloMosaic.Lib.ValueIdx
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Kernel4Ideal.Body

open Cert.Kernel4Ideal Cert.Kernel4Ideal.Gen
open Idealize.ShloMosaic Idealize.ShloMosaic.TcCoe

/-- The gated sum of the two projections of a slab. -/
def gatedV (oa : Vec Ideal S256x1024 .bf16) (ob : FVec Ideal S256x512 .bf16) (ga gb : Vec Ideal S256x1024 .bf16) (wa : Vec Ideal S1024x1024 .bf16)
    (wb : Vec Ideal S512x1024 .bf16) : FVec Ideal S256x1024 .f32 :=
  addf (mulf (extf .f32 (shapeCast S256x1024 ga shapeCasts_S256x1024_S256x1024 : FVec Ideal S256x1024 .bf16) bitsLt_bf16_f32) (k0_pay2 (F := Ideal) oa wa))
    (mulf (extf .f32 (shapeCast S256x1024 gb shapeCasts_S256x1024_S256x1024 : FVec Ideal S256x1024 .bf16) bitsLt_bf16_f32)
      (matmul dot_S256x512_S512x1024_S256x1024_1_0_0_1_n_n none ob (k0_pay4 (F := Ideal) wb) (constant S256x1024 .f32 0x00000000#32)))

/-- The scaled input and the output projection of a slab. -/
def preV (x : Vec Ideal S256x1024 .f32) (y : FVec Ideal S256x1024 .f32) (wo : Vec Ideal S1024x1024 .bf16) : FVec Ideal S256x1024 .f32 :=
  addf (mulf (broadcast S256x1024 (Scalar.ofBits (F := Ideal) .f32 0x3F9837F0#32)) (shapeCast S256x1024 x shapeCasts_S256x1024_S256x1024))
    (matmul dot_S256x1024_S1024x1024_S256x1024_1_0_0_1_n_n none (truncf .bf16 y bitsLt_bf16_f32)
      (shapeCast S1024x1024 wo shapeCasts_S1024x1024_S1024x1024 : FVec Ideal S1024x1024 .bf16) (constant S256x1024 .f32 0x00000000#32))

/-- The means of a slab's rows. -/
def meanV (z : FVec Ideal S256x1024 .f32) : FVec Ideal S256x1 .f32 :=
  divf (shapeCast S256x1 (multiReduction .add [1] S256 z 0x00000000#32 reduces_S256x1024_S256 (.inl rfl) rfl : FVec Ideal S256 .f32) shapeCasts_S256_S256x1)
    (broadcast S256x1 (Scalar.ofBits (F := Ideal) .f32 0x44800000#32))

/-- The rows less their means. -/
def centV (z : FVec Ideal S256x1024 .f32) : FVec Ideal S256x1024 .f32 :=
  subf z (broadcastTo S256x1024 (meanV z) broadcasts_S256x1_S256x1024)

/-- The layer norm of a slab. -/
def normV (z : FVec Ideal S256x1024 .f32) (g b : Vec Ideal S1x1024 .f32) : FVec Ideal S256x1024 .f32 :=
  addf (mulf (mulf (centV z) (broadcastTo S256x1024 (rsqrt (addf (meanV (mulf (centV z) (centV z))) (broadcast S256x1 (Scalar.ofBits (F := Ideal) .f32 0x3727C5AC#32))))
      broadcasts_S256x1_S256x1024))
    (broadcastTo S256x1024 (shapeCast S1x1024 g shapeCasts_S1x1024_S1x1024 : FVec Ideal S1x1024 .f32) broadcasts_S1x1024_S256x1024))
    (broadcastTo S256x1024 (shapeCast S1x1024 b shapeCasts_S1x1024_S1x1024 : FVec Ideal S1x1024 .f32) broadcasts_S1x1024_S256x1024)

/-- What the body writes of a slab, from the rows it loads. -/
def slab (oa : Vec Ideal S256x1024 .bf16) (o0 o1 o2 : Vec Ideal S256x512 .bf16) (l0 l1 l2 : Vec Ideal S256x512 .f32) (ga gb : Vec Ideal S256x1024 .bf16)
    (x : Vec Ideal S256x1024 .f32) (wa : Vec Ideal S1024x1024 .bf16) (wb : Vec Ideal S512x1024 .bf16) (wo : Vec Ideal S1024x1024 .bf16)
    (g b : Vec Ideal S1x1024 .f32) : FVec Ideal S256x1024 .f32 :=
  normV (preV x (gatedV oa (k0_pay3 (F := Ideal) l0 l1 l2 o0 o1 o2) ga gb wa wb) wo) g b

theorem mix_apply (l0 l1 l2 : Vec Ideal S256x512 .f32) (o0 o1 o2 : Vec Ideal S256x512 .bf16) (r : Fin 256) (d : Fin 512) :
    k0_pay3 (F := Ideal) l0 l1 l2 o0 o1 o2 (ix2 r d) =
      Merged.quotient (l0 (ix2 r d)) (l1 (ix2 r d)) (l2 (ix2 r d)) (o0 (ix2 r d)) (o1 (ix2 r d)) (o2 (ix2 r d)) := by
  unfold Merged.quotient Merged.top
  pointwise [k0_pay3]
  rfl

theorem gatedV_apply (oa : Vec Ideal S256x1024 .bf16) (ob : FVec Ideal S256x512 .bf16) (ga gb : Vec Ideal S256x1024 .bf16) (wa : Vec Ideal S1024x1024 .bf16)
    (wb : Vec Ideal S512x1024 .bf16) (r : Fin 256) (k : Fin 1024) : gatedV oa ob ga gb wa wb (ix2 r k) =
      Merged.gated (fun d => oa (ix2 r d)) (fun d => ob (ix2 r d)) (fun d => ga (ix2 r d)) (fun d => gb (ix2 r d)) (fun d k => wa (ix2 d k))
        (fun d k => wb (ix2 d k)) k := by
  unfold Merged.gated
  pointwise [gatedV, k0_pay2, k0_pay4]

theorem preV_apply (x : Vec Ideal S256x1024 .f32) (y : FVec Ideal S256x1024 .f32) (wo : Vec Ideal S1024x1024 .bf16) (r : Fin 256) (j : Fin 1024) :
    preV x y wo (ix2 r j) = Merged.pre (fun k => x (ix2 r k)) (fun k => y (ix2 r k)) (fun k j => wo (ix2 k j)) j := by
  unfold Merged.pre
  pointwise [preV]

theorem meanV_apply (z : FVec Ideal S256x1024 .f32) (r : Fin 256) : meanV z (ix2 r 0) = Ffn.mean fun y => z (ix2 r y) := by
  unfold Ffn.mean
  pointwise [meanV]

theorem centV_apply (z : FVec Ideal S256x1024 .f32) (r : Fin 256) (j : Fin 1024) : centV z (ix2 r j) = z (ix2 r j) - Ffn.mean fun y => z (ix2 r y) := by
  rw [← meanV_apply]
  pointwise [centV]

theorem normV_apply (z : FVec Ideal S256x1024 .f32) (g b : Vec Ideal S1x1024 .f32) (r : Fin 256) (j : Fin 1024) :
    normV z g b (ix2 r j) = Ffn.normed (fun y => z (ix2 r y)) (fun j => g (ix2 0 j)) (fun j => b (ix2 0 j)) j := by
  have e : normV z g b (ix2 r j) =
      centV z (ix2 r j) * Ideal.rsqrt (meanV (mulf (centV z) (centV z)) (ix2 r 0) + Ideal.ofBits .f32 0x3727C5AC#32) * g (ix2 0 j) + b (ix2 0 j) := by
    pointwise [normV]
  have f : ∀ y, mulf (centV z) (centV z) (ix2 r y) = centV z (ix2 r y) * centV z (ix2 r y) := fun y => rfl
  rw [e, meanV_apply, centV_apply]
  unfold Ffn.normed
  simp only [f, centV_apply]
  rfl

/-- A slab's entry, from the rows it loads. -/
theorem slab_apply (oa : Vec Ideal S256x1024 .bf16) (o0 o1 o2 : Vec Ideal S256x512 .bf16) (l0 l1 l2 : Vec Ideal S256x512 .f32) (ga gb : Vec Ideal S256x1024 .bf16)
    (x : Vec Ideal S256x1024 .f32) (wa : Vec Ideal S1024x1024 .bf16) (wb : Vec Ideal S512x1024 .bf16) (wo : Vec Ideal S1024x1024 .bf16)
    (g b : Vec Ideal S1x1024 .f32) (r : Fin 256) (j : Fin 1024) : slab oa o0 o1 o2 l0 l1 l2 ga gb x wa wb wo g b (ix2 r j) =
      Merged.out (fun d => oa (ix2 r d)) (fun d => Merged.quotient (l0 (ix2 r d)) (l1 (ix2 r d)) (l2 (ix2 r d)) (o0 (ix2 r d)) (o1 (ix2 r d)) (o2 (ix2 r d)))
        (fun d => ga (ix2 r d)) (fun d => gb (ix2 r d)) (fun d => x (ix2 r d)) (fun d k => wa (ix2 d k)) (fun d k => wb (ix2 d k)) (fun d k => wo (ix2 d k))
        (fun d => g (ix2 0 d)) (fun d => b (ix2 0 d)) j := by
  unfold slab Merged.out
  rw [normV_apply]
  refine congrArg (fun z => Ffn.normed z _ _ j) (funext fun i => ?_)
  rw [preV_apply]
  refine congrArg (fun y => Merged.pre _ y _ i) (funext fun k => ?_)
  rw [gatedV_apply]
  exact congrArg (fun ob => Merged.gated _ ob _ _ _ _ k) (funext fun d => mix_apply _ _ _ _ _ _ _ _)

variable (x0 : Vec Ideal S1024x1024 .bf16) (x1 x2 x3 : Vec Ideal S1024x512 .bf16) (x4 x5 x6 : Vec Ideal S1024x512 .f32) (x7 x8 : Vec Ideal S1024x1024 .bf16)
  (x9 : Vec Ideal S1024x1024 .f32) (x10 : Vec Ideal S1024x1024 .bf16) (x11 : Vec Ideal S512x1024 .bf16) (x12 : Vec Ideal S1024x1024 .bf16) (x13 x14 : Vec Ideal S1x1024 .f32)

/-- What the body writes of its block of 1024 rows, entry by entry. -/
def block : Vec Ideal S1024x1024 .f32 := fun y =>
  Merged.out (fun d => x0 (ix2 (y 0) d))
    (fun d => Merged.quotient (x4 (ix2 (y 0) d)) (x5 (ix2 (y 0) d)) (x6 (ix2 (y 0) d)) (x1 (ix2 (y 0) d)) (x2 (ix2 (y 0) d)) (x3 (ix2 (y 0) d)))
    (fun d => x7 (ix2 (y 0) d)) (fun d => x8 (ix2 (y 0) d)) (fun d => x9 (ix2 (y 0) d)) (fun d k => x10 (ix2 d k)) (fun d k => x11 (ix2 d k))
    (fun d k => x12 (ix2 d k)) (fun d => x13 (ix2 0 d)) (fun d => x14 (ix2 0 d)) (y 1)

/-- Each store holds the slab of the rows it is made at. -/
theorem out_slabs : out0_15 x0 x1 x2 x3 x4 x5 x6 x7 x8 x9 x10 x11 x12 x13 x14 =
    View.canon [
      ⟨r0_10, slab (View.ld x0 r0_10) (View.ld x1 r0_9) (View.ld x2 r0_9) (View.ld x3 r0_9) (View.ld x4 r0_9) (View.ld x5 r0_9) (View.ld x6 r0_9)
        (View.ld x7 r0_10) (View.ld x8 r0_10) (View.ld x9 r0_10) (View.ld x10 r0_2) (View.ld x11 r0_3) (View.ld x12 r0_2) (View.ld x13 r0_4) (View.ld x14 r0_4)⟩,
      ⟨r0_8, slab (View.ld x0 r0_8) (View.ld x1 r0_7) (View.ld x2 r0_7) (View.ld x3 r0_7) (View.ld x4 r0_7) (View.ld x5 r0_7) (View.ld x6 r0_7)
        (View.ld x7 r0_8) (View.ld x8 r0_8) (View.ld x9 r0_8) (View.ld x10 r0_2) (View.ld x11 r0_3) (View.ld x12 r0_2) (View.ld x13 r0_4) (View.ld x14 r0_4)⟩,
      ⟨r0_6, slab (View.ld x0 r0_6) (View.ld x1 r0_5) (View.ld x2 r0_5) (View.ld x3 r0_5) (View.ld x4 r0_5) (View.ld x5 r0_5) (View.ld x6 r0_5)
        (View.ld x7 r0_6) (View.ld x8 r0_6) (View.ld x9 r0_6) (View.ld x10 r0_2) (View.ld x11 r0_3) (View.ld x12 r0_2) (View.ld x13 r0_4) (View.ld x14 r0_4)⟩,
      ⟨r0_1, slab (View.ld x0 r0_1) (View.ld x1 r0_0) (View.ld x2 r0_0) (View.ld x3 r0_0) (View.ld x4 r0_0) (View.ld x5 r0_0) (View.ld x6 r0_0)
        (View.ld x7 r0_1) (View.ld x8 r0_1) (View.ld x9 r0_1) (View.ld x10 r0_2) (View.ld x11 r0_3) (View.ld x12 r0_2) (View.ld x13 r0_4) (View.ld x14 r0_4)⟩] := by
  unfold_out out0_15
  rfl

/-- Rows loaded from a block, read at an entry. -/
theorem ld_wide {e : EltTy} (X : Vec Ideal S1024x1024 e) (o : ℕ) (h : ∀ a, (![o, 0] : Fin 2 → ℕ) a + S256x1024.size a ≤ S1024x1024.size a) (i : Fin 1024) (r : Fin 256)
    (hi : (i : ℕ) = o + r) (d : Fin 1024) : View.ld X (Rect.unit (s := S1024x1024) ![o, 0] S256x1024.size h) (ix2 r d) = X (ix2 i d) :=
  congrArg X (funext fun a => Fin.ext (by
    match a with
    | ⟨0, _⟩ => show o + 1 * (r : ℕ) = i; omega
    | ⟨1, _⟩ => show 0 + 1 * (d : ℕ) = d; omega))

theorem ld_half {e : EltTy} (X : Vec Ideal S1024x512 e) (o : ℕ) (h : ∀ a, (![o, 0] : Fin 2 → ℕ) a + S256x512.size a ≤ S1024x512.size a) (i : Fin 1024) (r : Fin 256)
    (hi : (i : ℕ) = o + r) (d : Fin 512) : View.ld X (Rect.unit (s := S1024x512) ![o, 0] S256x512.size h) (ix2 r d) = X (ix2 i d) :=
  congrArg X (funext fun a => Fin.ext (by
    match a with
    | ⟨0, _⟩ => show o + 1 * (r : ℕ) = i; omega
    | ⟨1, _⟩ => show 0 + 1 * (d : ℕ) = d; omega))

theorem ld_square {e : EltTy} (X : Vec Ideal S1024x1024 e) (k d : Fin 1024) : View.ld X r0_2 (ix2 k d) = X (ix2 k d) :=
  congrArg X (funext fun a => Fin.ext (by
    match a with
    | ⟨0, _⟩ => show 0 + 1 * (k : ℕ) = k; omega
    | ⟨1, _⟩ => show 0 + 1 * (d : ℕ) = d; omega))

theorem ld_low {e : EltTy} (X : Vec Ideal S512x1024 e) (k : Fin 512) (d : Fin 1024) : View.ld X r0_3 (ix2 k d) = X (ix2 k d) :=
  congrArg X (funext fun a => Fin.ext (by
    match a with
    | ⟨0, _⟩ => show 0 + 1 * (k : ℕ) = k; omega
    | ⟨1, _⟩ => show 0 + 1 * (d : ℕ) = d; omega))

theorem ld_row {e : EltTy} (X : Vec Ideal S1x1024 e) (d : Fin 1024) : View.ld X r0_4 (ix2 0 d) = X (ix2 0 d) :=
  congrArg X (funext fun a => Fin.ext (by
    match a with
    | ⟨0, _⟩ => rfl
    | ⟨1, _⟩ => show 0 + 1 * (d : ℕ) = d; omega))

/-- The slab loaded at row `o` holds the block's entries from that row on. -/
theorem slab_block (o : ℕ) (h : ∀ a, (![o, 0] : Fin 2 → ℕ) a + S256x1024.size a ≤ S1024x1024.size a) (h' : ∀ a, (![o, 0] : Fin 2 → ℕ) a + S256x512.size a ≤ S1024x512.size a)
    (y : S256x1024.Idx) :
    slab (View.ld x0 (Rect.unit (s := S1024x1024) ![o, 0] S256x1024.size h)) (View.ld x1 (Rect.unit (s := S1024x512) ![o, 0] S256x512.size h'))
      (View.ld x2 (Rect.unit (s := S1024x512) ![o, 0] S256x512.size h')) (View.ld x3 (Rect.unit (s := S1024x512) ![o, 0] S256x512.size h'))
      (View.ld x4 (Rect.unit (s := S1024x512) ![o, 0] S256x512.size h')) (View.ld x5 (Rect.unit (s := S1024x512) ![o, 0] S256x512.size h'))
      (View.ld x6 (Rect.unit (s := S1024x512) ![o, 0] S256x512.size h')) (View.ld x7 (Rect.unit (s := S1024x1024) ![o, 0] S256x1024.size h))
      (View.ld x8 (Rect.unit (s := S1024x1024) ![o, 0] S256x1024.size h)) (View.ld x9 (Rect.unit (s := S1024x1024) ![o, 0] S256x1024.size h))
      (View.ld x10 r0_2) (View.ld x11 r0_3) (View.ld x12 r0_2) (View.ld x13 r0_4) (View.ld x14 r0_4) y =
    block x0 x1 x2 x3 x4 x5 x6 x7 x8 x9 x10 x11 x12 x13 x14 ((Rect.unit (s := S1024x1024) ![o, 0] S256x1024.size h).emb y) := by
  obtain ⟨r, j, rfl⟩ : ∃ (r : Fin 256) (j : Fin 1024), y = ix2 r j := ⟨y 0, y 1, funext fun a => by
    match a with
    | ⟨0, _⟩ => rfl
    | ⟨1, _⟩ => rfl⟩
  have h0 : o + 256 ≤ 1024 := h 0
  have e : (Rect.unit (s := S1024x1024) ![o, 0] S256x1024.size h).emb (ix2 r j) = ix2 ⟨o + r, by omega⟩ j := funext fun a => Fin.ext (by
    match a with
    | ⟨0, _⟩ => show o + 1 * (r : ℕ) = o + r; omega
    | ⟨1, _⟩ => show 0 + 1 * (j : ℕ) = j; omega)
  rw [e, slab_apply]
  have fw : ∀ {e : EltTy} (X : Vec Ideal S1024x1024 e), (fun d => View.ld X (Rect.unit (s := S1024x1024) ![o, 0] S256x1024.size h) (ix2 r d)) = fun d => X (ix2 ⟨o + r, by omega⟩ d) :=
    fun X => funext fun d => ld_wide X o h ⟨o + r, by omega⟩ r rfl d
  have fq : (fun d => Merged.quotient (View.ld x4 (Rect.unit (s := S1024x512) ![o, 0] S256x512.size h') (ix2 r d))
      (View.ld x5 (Rect.unit (s := S1024x512) ![o, 0] S256x512.size h') (ix2 r d)) (View.ld x6 (Rect.unit (s := S1024x512) ![o, 0] S256x512.size h') (ix2 r d))
      (View.ld x1 (Rect.unit (s := S1024x512) ![o, 0] S256x512.size h') (ix2 r d)) (View.ld x2 (Rect.unit (s := S1024x512) ![o, 0] S256x512.size h') (ix2 r d))
      (View.ld x3 (Rect.unit (s := S1024x512) ![o, 0] S256x512.size h') (ix2 r d))) =
      fun d => Merged.quotient (x4 (ix2 ⟨o + r, by omega⟩ d)) (x5 (ix2 ⟨o + r, by omega⟩ d)) (x6 (ix2 ⟨o + r, by omega⟩ d)) (x1 (ix2 ⟨o + r, by omega⟩ d))
        (x2 (ix2 ⟨o + r, by omega⟩ d)) (x3 (ix2 ⟨o + r, by omega⟩ d)) := funext fun d => by
    have g : ∀ {e : EltTy} (X : Vec Ideal S1024x512 e), View.ld X (Rect.unit (s := S1024x512) ![o, 0] S256x512.size h') (ix2 r d) = X (ix2 ⟨o + r, by omega⟩ d) :=
      fun X => ld_half X o h' ⟨o + r, by omega⟩ r rfl d
    rw [g x4, g x5, g x6, g x1, g x2, g x3]
  have fs : ∀ {e : EltTy} (X : Vec Ideal S1024x1024 e), (fun k d => View.ld X r0_2 (ix2 k d)) = fun k d => X (ix2 k d) := fun X => funext fun k => funext fun d => ld_square X k d
  have fl : ∀ {e : EltTy} (X : Vec Ideal S512x1024 e), (fun k d => View.ld X r0_3 (ix2 k d)) = fun k d => X (ix2 k d) := fun X => funext fun k => funext fun d => ld_low X k d
  have fr : ∀ {e : EltTy} (X : Vec Ideal S1x1024 e), (fun d => View.ld X r0_4 (ix2 0 d)) = fun d => X (ix2 0 d) := fun X => funext fun d => ld_row X d
  rw [fw x0, fq, fw x7, fw x8, fw x9, fs x10, fl x11, fs x12, fr x13, fr x14]
  rfl

/-- The block the body writes. -/
theorem out_block (y : S1024x1024.Idx) : out0_15 x0 x1 x2 x3 x4 x5 x6 x7 x8 x9 x10 x11 x12 x13 x14 y =
    block x0 x1 x2 x3 x4 x5 x6 x7 x8 x9 x10 x11 x12 x13 x14 y := by
  rw [out_slabs]
  refine View.canon_append_of_pieces (block x0 x1 x2 x3 x4 x5 x6 x7 x8 x9 x10 x11 x12 x13 x14) [] _ (fun p hp => ?_) y (cover0_15 _ _ _ _ y)
  rcases List.mem_cons.mp hp with rfl | hp
  · exact slab_block x0 x1 x2 x3 x4 x5 x6 x7 x8 x9 x10 x11 x12 x13 x14 768 _ _
  rcases List.mem_cons.mp hp with rfl | hp
  · exact slab_block x0 x1 x2 x3 x4 x5 x6 x7 x8 x9 x10 x11 x12 x13 x14 512 _ _
  rcases List.mem_cons.mp hp with rfl | hp
  · exact slab_block x0 x1 x2 x3 x4 x5 x6 x7 x8 x9 x10 x11 x12 x13 x14 256 _ _
  rcases List.mem_cons.mp hp with rfl | hp
  · exact slab_block x0 x1 x2 x3 x4 x5 x6 x7 x8 x9 x10 x11 x12 x13 x14 0 _ _
  · exact absurd hp List.not_mem_nil

end Cert.Kernel4Ideal.Body

end
-- ==== Proof.MergedArgs.lean ====
/-
  The merge kernel's blocks at a grid point, read as entries of the program's arguments.
-/
module

public import proofs.«01_k».proof.Proof.MergedBody

@[expose] public section

set_option maxRecDepth 16384

noncomputable section

namespace Cert.Kernel4Ideal.Body

open Cert.Kernel4Ideal Cert.Kernel4Ideal.Gen
open Idealize.ShloMosaic Idealize.ShloMosaic.TcCoe
open Idealize.SL.Sem
open Idealize.ShloMosaic.Pipeline (Dat)

variable (m : (ℓ : Loc nD τ sig) → Buf (Elt Ideal) ℓ)

/-- Which block of its array each window holds at a grid point: the gates' array is held twice, its left half and its right half. -/
theorem idx_facts : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 1] ∧ win0_9.index t = ![t.val, 0] ∧ win0_10.index t = ![0, 0] ∧ win0_11.index t = ![0, 0] ∧ win0_12.index t = ![0, 0] ∧ win0_13.index t = ![0, 0] ∧ win0_14.index t = ![0, 0] ∧ win0_15.index t = ![t.val, 0] :=
  (by decide +kernel : ∀ t : Fin grid0.N, _)

/-- The reshapes and the narrowing of the arguments, read at an entry. -/
theorem rows512_cast {φ : FTy} (X : FVec Ideal S4x4096x512 φ) (b : Fin 4) (n : Fin 4096) (i : Fin 16384) (h : (i : ℕ) = 4096 * b + n) (k : Fin 512) :
    shapeCast S16384x512 X shapeCasts_S4x4096x512_S16384x512 (ix2 i k) = X (ix3 b n k) := by
  refine shapeCast_apply _ _ _ _ ?_
  rw [Shape.rowMajor_val_two, Shape.rowMajor_val_three]
  show ((b : ℕ) * 4096 + n) * 512 + k = (i : ℕ) * 512 + k
  rw [h, Nat.mul_comm (b : ℕ)]

theorem rows1024_cast {φ : FTy} (X : FVec Ideal S4x4096x1024 φ) (b : Fin 4) (n : Fin 4096) (i : Fin 16384) (h : (i : ℕ) = 4096 * b + n) (k : Fin 1024) :
    shapeCast S16384x1024 X shapeCasts_S4x4096x1024_S16384x1024 (ix2 i k) = X (ix3 b n k) := by
  refine shapeCast_apply _ _ _ _ ?_
  rw [Shape.rowMajor_val_two, Shape.rowMajor_val_three]
  show ((b : ℕ) * 4096 + n) * 1024 + k = (i : ℕ) * 1024 + k
  rw [h, Nat.mul_comm (b : ℕ)]

theorem rows2048_cast {φ : FTy} (X : FVec Ideal S4x4096x2048 φ) (b : Fin 4) (n : Fin 4096) (i : Fin 16384) (h : (i : ℕ) = 4096 * b + n) (k : Fin 2048) :
    shapeCast S16384x2048 X shapeCasts_S4x4096x2048_S16384x2048 (ix2 i k) = X (ix3 b n k) := by
  refine shapeCast_apply _ _ _ _ ?_
  rw [Shape.rowMajor_val_two, Shape.rowMajor_val_three]
  show ((b : ℕ) * 4096 + n) * 2048 + k = (i : ℕ) * 2048 + k
  rw [h, Nat.mul_comm (b : ℕ)]

theorem weights1024_cast (X : FVec Ideal S1x1024x1024 .f32) (k : Fin 1024) (d : Fin 1024) :
    (truncf .bf16 (shapeCast S1024x1024 X shapeCasts_S1x1024x1024_S1024x1024) bitsLt_bf16_f32 : FVec Ideal S1024x1024 .bf16) (ix2 k d) = X (ix3 0 k d) := by
  pointwise

theorem weights512_cast (X : FVec Ideal S1x512x1024 .f32) (k : Fin 512) (d : Fin 1024) :
    (truncf .bf16 (shapeCast S512x1024 X shapeCasts_S1x512x1024_S512x1024) bitsLt_bf16_f32 : FVec Ideal S512x1024 .bf16) (ix2 k d) = X (ix3 0 k d) := by
  pointwise

theorem gain_cast (X : FVec Ideal S1x1024 .f32) (d : Fin 1024) :
    broadcastInDim S1x1024 ![1] bcast_S1024_S1x1024_1 (shapeCast S1024 X shapeCasts_S1x1024_S1024) (ix2 0 d) = X (ix2 0 d) := by
  pointwise

/-- The arrays the windows read, as the reshapes and casts in front of the call leave them. -/
theorem v0_eq (c : Dev nD) : V m c main_v0 = shapeCast S16384x512 (m ((c : Thread nD τ).loc main_arg1) : FVec Ideal S4x4096x512 .bf16) shapeCasts_S4x4096x512_S16384x512 := by
  show StableHlo.after (List.flatten [hostOps0]) (fun b => m (c, b)) _ = _
  simp only [hostOps0, List.flatten_cons, List.flatten_nil, List.append_nil]
  after_results
  rfl

theorem v1_eq (c : Dev nD) : V m c main_v1 = shapeCast S16384x512 (m ((c : Thread nD τ).loc main_arg2) : FVec Ideal S4x4096x512 .bf16) shapeCasts_S4x4096x512_S16384x512 := by
  show StableHlo.after (List.flatten [hostOps0]) (fun b => m (c, b)) _ = _
  simp only [hostOps0, List.flatten_cons, List.flatten_nil, List.append_nil]
  after_results
  rfl

theorem v2_eq (c : Dev nD) : V m c main_v2 = shapeCast S16384x512 (m ((c : Thread nD τ).loc main_arg3) : FVec Ideal S4x4096x512 .bf16) shapeCasts_S4x4096x512_S16384x512 := by
  show StableHlo.after (List.flatten [hostOps0]) (fun b => m (c, b)) _ = _
  simp only [hostOps0, List.flatten_cons, List.flatten_nil, List.append_nil]
  after_results
  rfl

theorem v3_eq (c : Dev nD) : V m c main_v3 = shapeCast S16384x512 (m ((c : Thread nD τ).loc main_arg4) : FVec Ideal S4x4096x512 .f32) shapeCasts_S4x4096x512_S16384x512 := by
  show StableHlo.after (List.flatten [hostOps0]) (fun b => m (c, b)) _ = _
  simp only [hostOps0, List.flatten_cons, List.flatten_nil, List.append_nil]
  after_results
  rfl

theorem v4_eq (c : Dev nD) : V m c main_v4 = shapeCast S16384x512 (m ((c : Thread nD τ).loc main_arg5) : FVec Ideal S4x4096x512 .f32) shapeCasts_S4x4096x512_S16384x512 := by
  show StableHlo.after (List.flatten [hostOps0]) (fun b => m (c, b)) _ = _
  simp only [hostOps0, List.flatten_cons, List.flatten_nil, List.append_nil]
  after_results
  rfl

theorem v5_eq (c : Dev nD) : V m c main_v5 = shapeCast S16384x512 (m ((c : Thread nD τ).loc main_arg6) : FVec Ideal S4x4096x512 .f32) shapeCasts_S4x4096x512_S16384x512 := by
  show StableHlo.after (List.flatten [hostOps0]) (fun b => m (c, b)) _ = _
  simp only [hostOps0, List.flatten_cons, List.flatten_nil, List.append_nil]
  after_results
  rfl

theorem v6_eq (c : Dev nD) : V m c main_v6 = shapeCast S16384x1024 (m ((c : Thread nD τ).loc main_arg8) : FVec Ideal S4x4096x1024 .f32) shapeCasts_S4x4096x1024_S16384x1024 := by
  show StableHlo.after (List.flatten [hostOps0]) (fun b => m (c, b)) _ = _
  simp only [hostOps0, List.flatten_cons, List.flatten_nil, List.append_nil]
  after_results
  rfl

theorem v7_eq (c : Dev nD) : V m c main_v7 = shapeCast S16384x1024 (m ((c : Thread nD τ).loc main_arg0) : FVec Ideal S4x4096x1024 .bf16) shapeCasts_S4x4096x1024_S16384x1024 := by
  show StableHlo.after (List.flatten [hostOps0]) (fun b => m (c, b)) _ = _
  simp only [hostOps0, List.flatten_cons, List.flatten_nil, List.append_nil]
  after_results
  rfl

theorem v8_eq (c : Dev nD) : V m c main_v8 = shapeCast S16384x2048 (m ((c : Thread nD τ).loc main_arg7) : FVec Ideal S4x4096x2048 .bf16) shapeCasts_S4x4096x2048_S16384x2048 := by
  show StableHlo.after (List.flatten [hostOps0]) (fun b => m (c, b)) _ = _
  simp only [hostOps0, List.flatten_cons, List.flatten_nil, List.append_nil]
  after_results
  rfl

theorem v10_eq (c : Dev nD) : V m c main_v10 = (truncf .bf16 (shapeCast S1024x1024 (m ((c : Thread nD τ).loc main_arg9) : FVec Ideal S1x1024x1024 .f32) shapeCasts_S1x1024x1024_S1024x1024) bitsLt_bf16_f32 : FVec Ideal S1024x1024 .bf16) := by
  show StableHlo.after (List.flatten [hostOps0]) (fun b => m (c, b)) _ = _
  simp only [hostOps0, List.flatten_cons, List.flatten_nil, List.append_nil]
  after_results
  rfl

theorem v12_eq (c : Dev nD) : V m c main_v12 = (truncf .bf16 (shapeCast S512x1024 (m ((c : Thread nD τ).loc main_arg10) : FVec Ideal S1x512x1024 .f32) shapeCasts_S1x512x1024_S512x1024) bitsLt_bf16_f32 : FVec Ideal S512x1024 .bf16) := by
  show StableHlo.after (List.flatten [hostOps0]) (fun b => m (c, b)) _ = _
  simp only [hostOps0, List.flatten_cons, List.flatten_nil, List.append_nil]
  after_results
  rfl

theorem v14_eq (c : Dev nD) : V m c main_v14 = (truncf .bf16 (shapeCast S1024x1024 (m ((c : Thread nD τ).loc main_arg11) : FVec Ideal S1x1024x1024 .f32) shapeCasts_S1x1024x1024_S1024x1024) bitsLt_bf16_f32 : FVec Ideal S1024x1024 .bf16) := by
  show StableHlo.after (List.flatten [hostOps0]) (fun b => m (c, b)) _ = _
  simp only [hostOps0, List.flatten_cons, List.flatten_nil, List.append_nil]
  after_results
  rfl

theorem v16_eq (c : Dev nD) : V m c main_v16 = broadcastInDim S1x1024 ![1] bcast_S1024_S1x1024_1 (shapeCast S1024 (m ((c : Thread nD τ).loc main_arg12) : FVec Ideal S1x1024 .f32) shapeCasts_S1x1024_S1024) := by
  show StableHlo.after (List.flatten [hostOps0]) (fun b => m (c, b)) _ = _
  simp only [hostOps0, List.flatten_cons, List.flatten_nil, List.append_nil]
  after_results
  rfl

theorem v18_eq (c : Dev nD) : V m c main_v18 = broadcastInDim S1x1024 ![1] bcast_S1024_S1x1024_1 (shapeCast S1024 (m ((c : Thread nD τ).loc main_arg13) : FVec Ideal S1x1024 .f32) shapeCasts_S1x1024_S1024) := by
  show StableHlo.after (List.flatten [hostOps0]) (fun b => m (c, b)) _ = _
  simp only [hostOps0, List.flatten_cons, List.flatten_nil, List.append_nil]
  after_results
  rfl

/-- A window's entry at a grid point, as an entry of the argument it comes from. -/
theorem oa_apply (c : Dev nD) (t : Fin cfg0.N) (b : Fin 4) (n : Fin 4096) (r : Fin 1024) (h : 1024 * t.val + r = 4096 * b + n) (d : Fin 1024) :
    iblk m c 0 t (ix2 r d) = m ((c : Thread nD τ).loc main_arg0) (ix3 b n d) := by
  obtain ⟨e0, e1, e2, e3, e4, e5, e6, e7, e8, e9, e10, e11, e12, e13, e14, e15⟩ := idx_facts t
  have e : (win0_0.blk t).view.emb (ix2 r d) = ix2 ⟨1024 * t.val + r, by omega⟩ d := by blk_ext [e0]
  show V m c main_v7 ((win0_0.blk t).view.emb (ix2 r d)) = _
  rw [e, v7_eq]
  exact rows1024_cast (φ := .bf16) _ b n _ h _

theorem o0_apply (c : Dev nD) (t : Fin cfg0.N) (b : Fin 4) (n : Fin 4096) (r : Fin 1024) (h : 1024 * t.val + r = 4096 * b + n) (d : Fin 512) :
    iblk m c 1 t (ix2 r d) = m ((c : Thread nD τ).loc main_arg1) (ix3 b n d) := by
  obtain ⟨e0, e1, e2, e3, e4, e5, e6, e7, e8, e9, e10, e11, e12, e13, e14, e15⟩ := idx_facts t
  have e : (win0_1.blk t).view.emb (ix2 r d) = ix2 ⟨1024 * t.val + r, by omega⟩ d := by blk_ext [e1]
  show V m c main_v0 ((win0_1.blk t).view.emb (ix2 r d)) = _
  rw [e, v0_eq]
  exact rows512_cast (φ := .bf16) _ b n _ h _

theorem o1_apply (c : Dev nD) (t : Fin cfg0.N) (b : Fin 4) (n : Fin 4096) (r : Fin 1024) (h : 1024 * t.val + r = 4096 * b + n) (d : Fin 512) :
    iblk m c 2 t (ix2 r d) = m ((c : Thread nD τ).loc main_arg2) (ix3 b n d) := by
  obtain ⟨e0, e1, e2, e3, e4, e5, e6, e7, e8, e9, e10, e11, e12, e13, e14, e15⟩ := idx_facts t
  have e : (win0_2.blk t).view.emb (ix2 r d) = ix2 ⟨1024 * t.val + r, by omega⟩ d := by blk_ext [e2]
  show V m c main_v1 ((win0_2.blk t).view.emb (ix2 r d)) = _
  rw [e, v1_eq]
  exact rows512_cast (φ := .bf16) _ b n _ h _

theorem o2_apply (c : Dev nD) (t : Fin cfg0.N) (b : Fin 4) (n : Fin 4096) (r : Fin 1024) (h : 1024 * t.val + r = 4096 * b + n) (d : Fin 512) :
    iblk m c 3 t (ix2 r d) = m ((c : Thread nD τ).loc main_arg3) (ix3 b n d) := by
  obtain ⟨e0, e1, e2, e3, e4, e5, e6, e7, e8, e9, e10, e11, e12, e13, e14, e15⟩ := idx_facts t
  have e : (win0_3.blk t).view.emb (ix2 r d) = ix2 ⟨1024 * t.val + r, by omega⟩ d := by blk_ext [e3]
  show V m c main_v2 ((win0_3.blk t).view.emb (ix2 r d)) = _
  rw [e, v2_eq]
  exact rows512_cast (φ := .bf16) _ b n _ h _

theorem l0_apply (c : Dev nD) (t : Fin cfg0.N) (b : Fin 4) (n : Fin 4096) (r : Fin 1024) (h : 1024 * t.val + r = 4096 * b + n) (d : Fin 512) :
    iblk m c 4 t (ix2 r d) = m ((c : Thread nD τ).loc main_arg4) (ix3 b n d) := by
  obtain ⟨e0, e1, e2, e3, e4, e5, e6, e7, e8, e9, e10, e11, e12, e13, e14, e15⟩ := idx_facts t
  have e : (win0_4.blk t).view.emb (ix2 r d) = ix2 ⟨1024 * t.val + r, by omega⟩ d := by blk_ext [e4]
  show V m c main_v3 ((win0_4.blk t).view.emb (ix2 r d)) = _
  rw [e, v3_eq]
  exact rows512_cast (φ := .f32) _ b n _ h _

theorem l1_apply (c : Dev nD) (t : Fin cfg0.N) (b : Fin 4) (n : Fin 4096) (r : Fin 1024) (h : 1024 * t.val + r = 4096 * b + n) (d : Fin 512) :
    iblk m c 5 t (ix2 r d) = m ((c : Thread nD τ).loc main_arg5) (ix3 b n d) := by
  obtain ⟨e0, e1, e2, e3, e4, e5, e6, e7, e8, e9, e10, e11, e12, e13, e14, e15⟩ := idx_facts t
  have e : (win0_5.blk t).view.emb (ix2 r d) = ix2 ⟨1024 * t.val + r, by omega⟩ d := by blk_ext [e5]
  show V m c main_v4 ((win0_5.blk t).view.emb (ix2 r d)) = _
  rw [e, v4_eq]
  exact rows512_cast (φ := .f32) _ b n _ h _

theorem l2_apply (c : Dev nD) (t : Fin cfg0.N) (b : Fin 4) (n : Fin 4096) (r : Fin 1024) (h : 1024 * t.val + r = 4096 * b + n) (d : Fin 512) :
    iblk m c 6 t (ix2 r d) = m ((c : Thread nD τ).loc main_arg6) (ix3 b n d) := by
  obtain ⟨e0, e1, e2, e3, e4, e5, e6, e7, e8, e9, e10, e11, e12, e13, e14, e15⟩ := idx_facts t
  have e : (win0_6.blk t).view.emb (ix2 r d) = ix2 ⟨1024 * t.val + r, by omega⟩ d := by blk_ext [e6]
  show V m c main_v5 ((win0_6.blk t).view.emb (ix2 r d)) = _
  rw [e, v5_eq]
  exact rows512_cast (φ := .f32) _ b n _ h _

theorem ga_apply (c : Dev nD) (t : Fin cfg0.N) (b : Fin 4) (n : Fin 4096) (r : Fin 1024) (h : 1024 * t.val + r = 4096 * b + n) (d : Fin 1024) :
    iblk m c 7 t (ix2 r d) = m ((c : Thread nD τ).loc main_arg7) (ix3 b n ⟨d, by omega⟩) := by
  obtain ⟨e0, e1, e2, e3, e4, e5, e6, e7, e8, e9, e10, e11, e12, e13, e14, e15⟩ := idx_facts t
  have e : (win0_7.blk t).view.emb (ix2 r d) = ix2 ⟨1024 * t.val + r, by omega⟩ ⟨d, by omega⟩ := by blk_ext [e7]
  show V m c main_v8 ((win0_7.blk t).view.emb (ix2 r d)) = _
  rw [e, v8_eq]
  exact rows2048_cast (φ := .bf16) _ b n _ h _

theorem gb_apply (c : Dev nD) (t : Fin cfg0.N) (b : Fin 4) (n : Fin 4096) (r : Fin 1024) (h : 1024 * t.val + r = 4096 * b + n) (d : Fin 1024) :
    iblk m c 8 t (ix2 r d) = m ((c : Thread nD τ).loc main_arg7) (ix3 b n ⟨1024 + d, by omega⟩) := by
  obtain ⟨e0, e1, e2, e3, e4, e5, e6, e7, e8, e9, e10, e11, e12, e13, e14, e15⟩ := idx_facts t
  have e : (win0_8.blk t).view.emb (ix2 r d) = ix2 ⟨1024 * t.val + r, by omega⟩ ⟨1024 + d, by omega⟩ := by blk_ext [e8]
  show V m c main_v8 ((win0_8.blk t).view.emb (ix2 r d)) = _
  rw [e, v8_eq]
  exact rows2048_cast (φ := .bf16) _ b n _ h _

theorem x_apply (c : Dev nD) (t : Fin cfg0.N) (b : Fin 4) (n : Fin 4096) (r : Fin 1024) (h : 1024 * t.val + r = 4096 * b + n) (d : Fin 1024) :
    iblk m c 9 t (ix2 r d) = m ((c : Thread nD τ).loc main_arg8) (ix3 b n d) := by
  obtain ⟨e0, e1, e2, e3, e4, e5, e6, e7, e8, e9, e10, e11, e12, e13, e14, e15⟩ := idx_facts t
  have e : (win0_9.blk t).view.emb (ix2 r d) = ix2 ⟨1024 * t.val + r, by omega⟩ d := by blk_ext [e9]
  show V m c main_v6 ((win0_9.blk t).view.emb (ix2 r d)) = _
  rw [e, v6_eq]
  exact rows1024_cast (φ := .f32) _ b n _ h _

theorem wa_apply (c : Dev nD) (t : Fin cfg0.N) (k : Fin 1024) (d : Fin 1024) : iblk m c 10 t (ix2 k d) = m ((c : Thread nD τ).loc main_arg9) (ix3 0 k d) := by
  obtain ⟨e0, e1, e2, e3, e4, e5, e6, e7, e8, e9, e10, e11, e12, e13, e14, e15⟩ := idx_facts t
  have e : (win0_10.blk t).view.emb (ix2 k d) = ix2 k d := by blk_ext [e10]
  show V m c main_v10 ((win0_10.blk t).view.emb (ix2 k d)) = _
  rw [e, v10_eq]
  exact weights1024_cast _ k d

theorem wb_apply (c : Dev nD) (t : Fin cfg0.N) (k : Fin 512) (d : Fin 1024) : iblk m c 11 t (ix2 k d) = m ((c : Thread nD τ).loc main_arg10) (ix3 0 k d) := by
  obtain ⟨e0, e1, e2, e3, e4, e5, e6, e7, e8, e9, e10, e11, e12, e13, e14, e15⟩ := idx_facts t
  have e : (win0_11.blk t).view.emb (ix2 k d) = ix2 k d := by blk_ext [e11]
  show V m c main_v12 ((win0_11.blk t).view.emb (ix2 k d)) = _
  rw [e, v12_eq]
  exact weights512_cast _ k d

theorem wo_apply (c : Dev nD) (t : Fin cfg0.N) (k : Fin 1024) (d : Fin 1024) : iblk m c 12 t (ix2 k d) = m ((c : Thread nD τ).loc main_arg11) (ix3 0 k d) := by
  obtain ⟨e0, e1, e2, e3, e4, e5, e6, e7, e8, e9, e10, e11, e12, e13, e14, e15⟩ := idx_facts t
  have e : (win0_12.blk t).view.emb (ix2 k d) = ix2 k d := by blk_ext [e12]
  show V m c main_v14 ((win0_12.blk t).view.emb (ix2 k d)) = _
  rw [e, v14_eq]
  exact weights1024_cast _ k d

theorem g_apply (c : Dev nD) (t : Fin cfg0.N) (d : Fin 1024) : iblk m c 13 t (ix2 0 d) = m ((c : Thread nD τ).loc main_arg12) (ix2 0 d) := by
  obtain ⟨e0, e1, e2, e3, e4, e5, e6, e7, e8, e9, e10, e11, e12, e13, e14, e15⟩ := idx_facts t
  have e : (win0_13.blk t).view.emb (ix2 0 d) = ix2 0 d := by blk_ext [e13]
  show V m c main_v16 ((win0_13.blk t).view.emb (ix2 0 d)) = _
  rw [e, v16_eq]
  exact gain_cast _ d

theorem b_apply (c : Dev nD) (t : Fin cfg0.N) (d : Fin 1024) : iblk m c 14 t (ix2 0 d) = m ((c : Thread nD τ).loc main_arg13) (ix2 0 d) := by
  obtain ⟨e0, e1, e2, e3, e4, e5, e6, e7, e8, e9, e10, e11, e12, e13, e14, e15⟩ := idx_facts t
  have e : (win0_14.blk t).view.emb (ix2 0 d) = ix2 0 d := by blk_ext [e14]
  show V m c main_v18 ((win0_14.blk t).view.emb (ix2 0 d)) = _
  rw [e, v18_eq]
  exact gain_cast _ d

end Cert.Kernel4Ideal.Body

end
-- ==== Proof.MergedKer.lean ====
/-
  The merge kernel's result array: every grid point writes the 1024 rows it names, each the plain function of the program's
  arguments.
-/
module

public import proofs.«01_k».proof.Proof.MergedArgs

@[expose] public section

set_option maxRecDepth 16384

noncomputable section

namespace Cert.Kernel4Ideal.Body

open Cert.Kernel4Ideal Cert.Kernel4Ideal.Gen
open Idealize.ShloMosaic Idealize.ShloMosaic.TcCoe
open Idealize.SL.Sem
open Idealize.ShloMosaic.Pipeline (Dat)

variable (m : (ℓ : Loc nD τ sig) → Buf (Elt Ideal) ℓ)

/-- The call's result at row `n` and column `j` of sequence `b`. -/
def outAt (c : Dev nD) (b : Fin 4) (n : Fin 4096) (j : Fin 1024) : EReal :=
  Merged.out (fun d => m ((c : Thread nD τ).loc main_arg0) (ix3 b n d))
    (fun d => Merged.quotient (m ((c : Thread nD τ).loc main_arg4) (ix3 b n d)) (m ((c : Thread nD τ).loc main_arg5) (ix3 b n d)) (m ((c : Thread nD τ).loc main_arg6) (ix3 b n d))
      (m ((c : Thread nD τ).loc main_arg1) (ix3 b n d)) (m ((c : Thread nD τ).loc main_arg2) (ix3 b n d)) (m ((c : Thread nD τ).loc main_arg3) (ix3 b n d)))
    (fun d => m ((c : Thread nD τ).loc main_arg7) (ix3 b n ⟨d, by omega⟩)) (fun d => m ((c : Thread nD τ).loc main_arg7) (ix3 b n ⟨1024 + d, by omega⟩))
    (fun d => m ((c : Thread nD τ).loc main_arg8) (ix3 b n d)) (fun d k => m ((c : Thread nD τ).loc main_arg9) (ix3 0 d k)) (fun d k => m ((c : Thread nD τ).loc main_arg10) (ix3 0 d k))
    (fun d k => m ((c : Thread nD τ).loc main_arg11) (ix3 0 d k)) (fun d => m ((c : Thread nD τ).loc main_arg12) (ix2 0 d)) (fun d => m ((c : Thread nD τ).loc main_arg13) (ix2 0 d)) j

/-- A grid point's block at an entry. -/
theorem after_apply (c : Dev nD) (t : Fin cfg0.N) (b : Fin 4) (n : Fin 4096) (r : Fin 1024) (h : 1024 * t.val + r = 4096 * b + n) (j : Fin 1024) :
    (dats m 0 c).after 15 t (ix2 r j) = outAt m c b n j := by
  rw [after0_15]
  refine (out_block _ _ _ _ _ _ _ _ _ _ _ _ _ _ _ (ix2 r j)).trans ?_
  have hq : (fun d => Merged.quotient (iblk m c 4 t (ix2 r d)) (iblk m c 5 t (ix2 r d)) (iblk m c 6 t (ix2 r d)) (iblk m c 1 t (ix2 r d)) (iblk m c 2 t (ix2 r d))
      (iblk m c 3 t (ix2 r d))) = fun d => Merged.quotient (m ((c : Thread nD τ).loc main_arg4) (ix3 b n d)) (m ((c : Thread nD τ).loc main_arg5) (ix3 b n d))
      (m ((c : Thread nD τ).loc main_arg6) (ix3 b n d)) (m ((c : Thread nD τ).loc main_arg1) (ix3 b n d)) (m ((c : Thread nD τ).loc main_arg2) (ix3 b n d))
      (m ((c : Thread nD τ).loc main_arg3) (ix3 b n d)) := funext fun d => by
    rw [l0_apply m c t b n r h, l1_apply m c t b n r h, l2_apply m c t b n r h, o0_apply m c t b n r h, o1_apply m c t b n r h, o2_apply m c t b n r h]
  exact Merged.out_congr (funext fun d => oa_apply m c t b n r h d) hq (funext fun d => ga_apply m c t b n r h d) (funext fun d => gb_apply m c t b n r h d)
    (funext fun d => x_apply m c t b n r h d) (funext fun d => funext fun k => wa_apply m c t d k) (funext fun d => funext fun k => wb_apply m c t d k)
    (funext fun d => funext fun k => wo_apply m c t d k) (funext fun d => g_apply m c t d) (funext fun d => b_apply m c t d) j

/-- The kernel's result array, its sequences one after the other. -/
def outG (c : Dev nD) : S16384x1024.Idx → Elt Ideal .f32 := fun y =>
  outAt m c ⟨(y 0).val / 4096, by have h := (y 0).isLt; change (y 0).val < 16384 at h; omega⟩ ⟨(y 0).val % 4096, Nat.mod_lt _ (by decide)⟩ (y 1)

theorem final (c : Dev nD) : (dats m 0 c).arrAt 15 cfg0.N = outG m c := by
  refine (dats m 0 c).arrAt_eq_of_covers 15 _ (by decide +kernel) fun t hf y => ?_
  obtain ⟨e0, e1, e2, e3, e4, e5, e6, e7, e8, e9, e10, e11, e12, e13, e14, e15⟩ := idx_facts t
  blk_simp
  unfold outG
  have ht : t.val < 16 := lt_of_lt_of_eq t.isLt (show cfg0.N = 16 from N_0)
  idx_bounds y
  have h0 : ((win0_15.blk t).view.emb y 0).val = t.val * 1024 + (y 0).val := by blk_simp [e15]
  have h1 : ((win0_15.blk t).view.emb y 1).val = (y 1).val := by blk_simp [e15]
  obtain ⟨r, j, rfl⟩ : ∃ (r : Fin 1024) (j : Fin 1024), y = ix2 r j := ⟨y 0, y 1, funext fun a => by
    match a with
    | ⟨0, _⟩ => rfl
    | ⟨1, _⟩ => rfl⟩
  change ((win0_15.blk t).view.emb (ix2 r j) 0).val = t.val * 1024 + (r : ℕ) at h0
  change ((win0_15.blk t).view.emb (ix2 r j) 1).val = (j : ℕ) at h1
  refine (after_apply m c t ⟨((win0_15.blk t).view.emb (ix2 r j) 0).val / 4096, by omega⟩ ⟨((win0_15.blk t).view.emb (ix2 r j) 0).val % 4096, Nat.mod_lt _ (by decide)⟩ r
    (by show 1024 * t.val + (r : ℕ) = 4096 * (((win0_15.blk t).view.emb (ix2 r j) 0).val / 4096) + ((win0_15.blk t).view.emb (ix2 r j) 0).val % 4096; omega) j).trans ?_
  exact congrArg (outAt m c _ _) (Fin.ext h1.symm : j = (win0_15.blk t).view.emb (ix2 r j) 1)

end Cert.Kernel4Ideal.Body

end
-- ==== Proof.MergedRef.lean ====
/-
  The merge reference's result read at an entry, stage by stage.
-/
module

public import proofs.«01_k».proof.Proof.Merged
public import proofs.«01_k».proof.Proof.Gen.Reference4Ideal.Run
public import Idealize.ShloMosaic.Lib.KernelVsHost
public import Idealize.ShloMosaic.Lib.Pointwise

@[expose] public section

set_option maxRecDepth 16384

noncomputable section

namespace Cert.Reference4Ideal.Stages

open Cert.Reference4Ideal.Value Cert.Reference4Ideal.Gen
open Idealize.ShloMosaic Idealize.ShloMosaic.TcCoe
open Idealize.SL.Sem

/-- Two to the power of a log less the largest of the three. -/
def power (l l0 l1 l2 : FVec Ideal S4x4096x512 .f32) : FVec Ideal S4x4096x512 .f32 :=
  Host.powf (broadcastInDim S4x4096x512 ![] bcast_S_S4x4096x512 (constant S_ .f32 0x40000000#32)) (subf l (maximumf (maximumf l0 l1) l2))

/-- The sum of the three weights. -/
def total (l0 l1 l2 : FVec Ideal S4x4096x512 .f32) : FVec Ideal S4x4096x512 .f32 :=
  addf (addf (power l0 l0 l1 l2) (power l1 l0 l1 l2)) (power l2 l0 l1 l2)

/-- The three outputs, each times its weight over the sum. -/
def mix (l0 l1 l2 : FVec Ideal S4x4096x512 .f32) (o0 o1 o2 : FVec Ideal S4x4096x512 .bf16) : FVec Ideal S4x4096x512 .f32 :=
  addf (addf (mulf (Host.divf (power l0 l0 l1 l2) (total l0 l1 l2)) (extf .f32 o0 bitsLt_bf16_f32))
      (mulf (Host.divf (power l1 l0 l1 l2) (total l0 l1 l2)) (extf .f32 o1 bitsLt_bf16_f32)))
    (mulf (Host.divf (power l2 l0 l1 l2) (total l0 l1 l2)) (extf .f32 o2 bitsLt_bf16_f32))

/-- The two projections, gated and added. -/
def gated (oa : FVec Ideal S4x4096x1024 .bf16) (ob : FVec Ideal S4x4096x512 .f32) (gates : FVec Ideal S4x4096x2048 .bf16) (wa : FVec Ideal S1x1024x1024 .f32)
    (wb : FVec Ideal S1x512x1024 .f32) : FVec Ideal S4x4096x1024 .f32 :=
  addf (mulf (extractStridedSlice S4x4096x1024 ![0, 0, 0] (extf .f32 gates bitsLt_bf16_f32) slices_S4x4096x2048_S4x4096x1024_0_0_0)
      (Host.dotGeneral dot_S4x4096x1024_S1024x1024_S4x4096x1024_2_0_01_1_n_n none (extf .f32 oa bitsLt_bf16_f32) (shapeCast _ wa shapeCasts_S1x1024x1024_S1024x1024)))
    (mulf (extractStridedSlice S4x4096x1024 ![0, 0, 1024] (extf .f32 gates bitsLt_bf16_f32) slices_S4x4096x2048_S4x4096x1024_0_0_1024)
      (Host.dotGeneral dot_S4x4096x512_S512x1024_S4x4096x1024_2_0_01_1_n_n none ob (shapeCast _ wb shapeCasts_S1x512x1024_S512x1024)))

/-- The scaled input and the output projection. -/
def pre (x y : FVec Ideal S4x4096x1024 .f32) (wo : FVec Ideal S1x1024x1024 .f32) : FVec Ideal S4x4096x1024 .f32 :=
  addf (mulf (broadcastInDim S4x4096x1024 ![] bcast_S_S4x4096x1024 (constant S_ .f32 0x3F9837F0#32)) x)
    (Host.dotGeneral dot_S4x4096x1024_S1024x1024_S4x4096x1024_2_0_01_1_n_n none y (shapeCast _ wo shapeCasts_S1x1024x1024_S1024x1024))

/-- A row's mean. -/
def mean (z : FVec Ideal S4x4096x1024 .f32) : FVec Ideal S4x4096x1 .f32 :=
  Host.divf (broadcastInDim S4x4096x1 ![0, 1] bcast_S4x4096_S4x4096x1_0_1
      (Host.reduceAdd z (constant S_ .f32 0x00000000#32) reducesTo_S4x4096x1024_S4x4096_d2 h_S_))
    (broadcastInDim S4x4096x1 ![] bcast_S_S4x4096x1 (constant S_ .f32 0x44800000#32))

/-- The rows less their means. -/
def cent (z : FVec Ideal S4x4096x1024 .f32) : FVec Ideal S4x4096x1024 .f32 :=
  subf z (broadcastInDim S4x4096x1024 ![0, 1, 2] bcast_S4x4096x1_S4x4096x1024_0_1_2 (mean z))

/-- The layer norm. -/
def norm (z : FVec Ideal S4x4096x1024 .f32) (g b : FVec Ideal S1x1024 .f32) : FVec Ideal S4x4096x1024 .f32 :=
  addf (mulf (mulf (cent z) (broadcastInDim S4x4096x1024 ![0, 1, 2] bcast_S4x4096x1_S4x4096x1024_0_1_2
      (Host.rsqrt (addf (mean (mulf (cent z) (cent z))) (broadcastInDim S4x4096x1 ![] bcast_S_S4x4096x1 (constant S_ .f32 0x3727C5AC#32))))))
    (broadcastInDim S4x4096x1024 ![0, 1, 2] bcast_S1x1x1024_S4x4096x1024_0_1_2 (broadcastInDim S1x1x1024 ![2] bcast_S1024_S1x1x1024_2 (shapeCast _ g shapeCasts_S1x1024_S1024))))
    (broadcastInDim S4x4096x1024 ![0, 1, 2] bcast_S1x1x1024_S4x4096x1024_0_1_2 (broadcastInDim S1x1x1024 ![2] bcast_S1024_S1x1x1024_2 (shapeCast _ b shapeCasts_S1x1024_S1024)))

theorem mix_apply (l0 l1 l2 : FVec Ideal S4x4096x512 .f32) (o0 o1 o2 : FVec Ideal S4x4096x512 .bf16) (b : Fin 4) (n : Fin 4096) (d : Fin 512) :
    mix l0 l1 l2 o0 o1 o2 (ix3 b n d) =
      Merged.weighted (l0 (ix3 b n d)) (l1 (ix3 b n d)) (l2 (ix3 b n d)) (o0 (ix3 b n d)) (o1 (ix3 b n d)) (o2 (ix3 b n d)) := by
  rfl

theorem gated_apply (oa : FVec Ideal S4x4096x1024 .bf16) (ob : FVec Ideal S4x4096x512 .f32) (gates : FVec Ideal S4x4096x2048 .bf16) (wa : FVec Ideal S1x1024x1024 .f32)
    (wb : FVec Ideal S1x512x1024 .f32) (b : Fin 4) (n : Fin 4096) (k : Fin 1024) : gated oa ob gates wa wb (ix3 b n k) =
      Merged.gated (fun d => oa (ix3 b n d)) (fun d => ob (ix3 b n d)) (fun d => gates (ix3 b n ⟨d, by omega⟩)) (fun d => gates (ix3 b n ⟨1024 + d, by omega⟩))
        (fun d k => wa (ix3 0 d k)) (fun d k => wb (ix3 0 d k)) k := by
  unfold Merged.gated
  pointwise [gated]

theorem pre_apply (x y : FVec Ideal S4x4096x1024 .f32) (wo : FVec Ideal S1x1024x1024 .f32) (b : Fin 4) (n : Fin 4096) (j : Fin 1024) :
    pre x y wo (ix3 b n j) = Merged.pre (fun k => x (ix3 b n k)) (fun k => y (ix3 b n k)) (fun k j => wo (ix3 0 k j)) j := by
  unfold Merged.pre
  pointwise [pre]

theorem mean_apply (z : FVec Ideal S4x4096x1024 .f32) (b : Fin 4) (n : Fin 4096) : mean z (ix3 b n 0) = Ffn.mean fun y => z (ix3 b n y) := by
  unfold Ffn.mean
  pointwise [mean]

theorem cent_apply (z : FVec Ideal S4x4096x1024 .f32) (b : Fin 4) (n : Fin 4096) (j : Fin 1024) :
    cent z (ix3 b n j) = z (ix3 b n j) - Ffn.mean fun y => z (ix3 b n y) := by
  rw [← mean_apply]
  pointwise [cent]

theorem norm_apply (z : FVec Ideal S4x4096x1024 .f32) (g w : FVec Ideal S1x1024 .f32) (b : Fin 4) (n : Fin 4096) (j : Fin 1024) :
    norm z g w (ix3 b n j) = Ffn.normed (fun y => z (ix3 b n y)) (fun j => g (ix2 0 j)) (fun j => w (ix2 0 j)) j := by
  have e : norm z g w (ix3 b n j) = cent z (ix3 b n j) * Ideal.rsqrt (mean (mulf (cent z) (cent z)) (ix3 b n 0) + Ideal.ofBits .f32 0x3727C5AC#32) * g (ix2 0 j) + w (ix2 0 j) := by
    pointwise [norm]
  have f : ∀ y, mulf (cent z) (cent z) (ix3 b n y) = cent z (ix3 b n y) * cent z (ix3 b n y) := fun y => rfl
  rw [e, mean_apply, cent_apply]
  unfold Ffn.normed
  simp only [f, cent_apply]
  rfl

variable (m : (ℓ : Loc nD τ sig) → Buf (Elt Ideal) ℓ)

theorem res_eq (c : Dev nD) : res_main_v63 m c =
    norm (pre (m ((c : Thread nD τ).loc main_arg8)) (gated (m ((c : Thread nD τ).loc main_arg0)) (mix (m ((c : Thread nD τ).loc main_arg4)) (m ((c : Thread nD τ).loc main_arg5)) (m ((c : Thread nD τ).loc main_arg6))
        (m ((c : Thread nD τ).loc main_arg1)) (m ((c : Thread nD τ).loc main_arg2)) (m ((c : Thread nD τ).loc main_arg3))) (m ((c : Thread nD τ).loc main_arg7)) (m ((c : Thread nD τ).loc main_arg9))
        (m ((c : Thread nD τ).loc main_arg10))) (m ((c : Thread nD τ).loc main_arg11)))
      (m ((c : Thread nD τ).loc main_arg12)) (m ((c : Thread nD τ).loc main_arg13)) := by
  unfold res_main_v63
  rfl

/-- The reference's result at an entry. -/
theorem res_apply (c : Dev nD) (b : Fin 4) (n : Fin 4096) (j : Fin 1024) : res_main_v63 m c (ix3 b n j) =
    Merged.out (fun d => m ((c : Thread nD τ).loc main_arg0) (ix3 b n d))
      (fun d => Merged.weighted (m ((c : Thread nD τ).loc main_arg4) (ix3 b n d)) (m ((c : Thread nD τ).loc main_arg5) (ix3 b n d)) (m ((c : Thread nD τ).loc main_arg6) (ix3 b n d))
        (m ((c : Thread nD τ).loc main_arg1) (ix3 b n d)) (m ((c : Thread nD τ).loc main_arg2) (ix3 b n d)) (m ((c : Thread nD τ).loc main_arg3) (ix3 b n d)))
      (fun d => m ((c : Thread nD τ).loc main_arg7) (ix3 b n ⟨d, by omega⟩)) (fun d => m ((c : Thread nD τ).loc main_arg7) (ix3 b n ⟨1024 + d, by omega⟩))
      (fun d => m ((c : Thread nD τ).loc main_arg8) (ix3 b n d)) (fun d k => m ((c : Thread nD τ).loc main_arg9) (ix3 0 d k)) (fun d k => m ((c : Thread nD τ).loc main_arg10) (ix3 0 d k))
      (fun d k => m ((c : Thread nD τ).loc main_arg11) (ix3 0 d k)) (fun d => m ((c : Thread nD τ).loc main_arg12) (ix2 0 d)) (fun d => m ((c : Thread nD τ).loc main_arg13) (ix2 0 d)) j := by
  rw [res_eq, norm_apply]
  unfold Merged.out
  refine congrArg (fun z => Ffn.normed z _ _ j) (funext fun i => ?_)
  rw [pre_apply]
  refine congrArg (fun y => Merged.pre _ y _ i) (funext fun k => ?_)
  rw [gated_apply]
  exact congrArg (fun ob => Merged.gated _ ob _ _ _ _ k) (funext fun d => mix_apply _ _ _ _ _ _ _ _ _)

end Cert.Reference4Ideal.Stages

end
-- ==== Proof.MergedLogs.lean ====
/-
  The merge's precondition, read: every entry of the three groups' logs is a real.
-/
module

public import proofs.«01_k».proof.Pre_finite_logs
public import Idealize.ShloMosaic.Lib.ReduceAll
public import Idealize.ShloMosaic.PureOps.Ideal
public import Idealize.ShloMosaic.Lib.Pointwise

@[expose] public section

set_option maxRecDepth 16384

noncomputable section

namespace Cert.Pre_finite_logs

open Idealize.ShloMosaic

theorem facts : Facts where
  bcast_S_S4x4096x512 := by decide
  reducesTo_S4x4096x512_S_d0_1_2 := by decide
  h_S_ := by decide

instance : Subsingleton S_.Idx := ⟨fun i j => funext fun a => a.elim0⟩

/-- An extended real whose absolute value compares below infinity is a real. -/
theorem real_of_lt (a : EReal) (h : FloatOps.cmpf (F := Ideal) (φ := .f32) .olt (FloatOps.absf (F := Ideal) (φ := .f32) a) (Ideal.ofBits .f32 0x7F800000#32) = 1#1) : ((a.toReal : ℝ) : EReal) = a := by
  have w : Ideal.ofBits .f32 0x7F800000#32 = ⊤ := by simp [Ideal.ofBits, Ideal.ieee]
  rw [w] at h
  have h1 : Ideal.cmp .olt (max a (-a)) ⊤ = 1#1 := h
  refine EReal.coe_toReal ?_ ?_ <;> rintro rfl <;> simp [Ideal.cmp] at h1

theorem reals [Facts] (a0 : FVec Ideal S4x4096x1024 .bf16) (a1 a2 a3 : FVec Ideal S4x4096x512 .bf16) (a4 a5 a6 : FVec Ideal S4x4096x512 .f32)
    (a7 : FVec Ideal S4x4096x2048 .bf16) (a8 : FVec Ideal S4x4096x1024 .f32) (a9 : FVec Ideal S1x1024x1024 .f32) (a10 : FVec Ideal S1x512x1024 .f32)
    (a11 : FVec Ideal S1x1024x1024 .f32) (a12 a13 : FVec Ideal S1x1024 .f32)
    (h : fn (F := Ideal) a0 a1 a2 a3 a4 a5 a6 a7 a8 a9 a10 a11 a12 a13 = fun _ => 1#1) :
    (∀ i, ((EReal.toReal (a4 i) : ℝ) : EReal) = a4 i) ∧ (∀ i, ((EReal.toReal (a5 i) : ℝ) : EReal) = a5 i) ∧ (∀ i, ((EReal.toReal (a6 i) : ℝ) : EReal) = a6 i) := by
  have e := congrFun h ix0
  simp only [fn, andi] at e
  simp only [IntOp.andi_eq_one] at e
  obtain ⟨⟨e0, e1⟩, e2⟩ := e
  refine ⟨fun i => ?_, fun i => ?_, fun i => ?_⟩
  · exact real_of_lt _ (Host.reduce_andi_all _ _ _ _ _ e0 i)
  · exact real_of_lt _ (Host.reduce_andi_all _ _ _ _ _ e1 i)
  · exact real_of_lt _ (Host.reduce_andi_all _ _ _ _ _ e2 i)

end Cert.Pre_finite_logs

end
-- ==== Proof.MergedJoin.lean ====
/-
  The merge kernel's run with its result named, and that result the reference's wherever the logs are real.
-/
module

public import proofs.«01_k».proof.Defs
public import proofs.«01_k».proof.Proof.MergedKer
public import proofs.«01_k».proof.Proof.MergedRef
public import proofs.«01_k».proof.Proof.MergedLogs

@[expose] public section

set_option maxRecDepth 16384

noncomputable section

namespace Cert.Kernel4Ideal.Body

open Cert.Kernel4Ideal Cert.Kernel4Ideal.Gen
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- The result, in the argument's layout. -/
def result (c : Dev nD) : Buf (Elt Ideal) ((c.tc : Thread nD τ).loc main_v20) :=
  shapeCast S4x4096x1024 (outG m c : FVec Ideal S16384x1024 .f32) shapeCasts_S16384x1024_S4x4096x1024

theorem result_apply (c : Dev nD) (b : Fin 4) (n : Fin 4096) (j : Fin 1024) : result m c (ix3 b n j) = outAt m c b n j := by
  have e : result m c (ix3 b n j) = outG m c (ix2 ⟨4096 * b + n, by omega⟩ j) := by
    refine shapeCast_apply _ _ _ _ ?_
    rw [Shape.rowMajor_val_two, Shape.rowMajor_val_three]
    show (4096 * (b : ℕ) + n) * 1024 + j = ((b : ℕ) * 4096 + n) * 1024 + j
    rw [Nat.mul_comm (b : ℕ)]
  rw [e]
  have h0 : (⟨(4096 * (b : ℕ) + n) / 4096, by omega⟩ : Fin 4) = b := Fin.ext (by show (4096 * (b : ℕ) + n) / 4096 = b; omega)
  have h1 : (⟨(4096 * (b : ℕ) + n) % 4096, Nat.mod_lt _ (by decide)⟩ : Fin 4096) = n := Fin.ext (by show (4096 * (b : ℕ) + n) % 4096 = n; omega)
  exact (congrArg (fun b => outAt m c b _ j) h0).trans (congrArg (fun n => outAt m c b n j) h1)

theorem tail_eq (c : Dev nD) : Pipeline.afterTail₀ cfgs (dats m) 0 (V0 m) [hostOps1] c main_v20 = result m c := by
  unfold Pipeline.afterTail₀
  simp only [hostOps1, List.flatten_cons, List.flatten_nil, List.append_nil]
  after_results
  have e := (dats m 0 c).withArrays_arrAt sharedIn0 (V0 m c) (A_eq m c) 15
  exact congrArg (fun X : FVec Ideal S16384x1024 .f32 => shapeCast S4x4096x1024 X shapeCasts_S16384x1024_S4x4096x1024) (e.trans (final m c))

/-- The run: it ends, its result is `result` and its arguments are kept. -/
theorem run : θ_run (defs (F := Ideal)) (onTc (τ := τ) (main (F := Ideal))) ⟨m, fun _ => 0, ρ⟩ fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h.1 c).2 main_v20 (Pipeline.mem_restRefs_of main_v20 (by decide) (by decide))).trans (tail_eq m c), h.2 c⟩)
    (θ_run_and (run_main m ρ) (unchanged m ρ))

end Cert.Kernel4Ideal.Body

namespace Cert.MergedJoin

open Idealize.ShloMosaic Idealize.ShloMosaic.TcCoe Idealize.SL.Sem

/-- The two forms of the mixing, where the three logs are real. -/
theorem mixed (a b c p q r : EReal) (ha : ((a.toReal : ℝ) : EReal) = a) (hb : ((b.toReal : ℝ) : EReal) = b) (hc : ((c.toReal : ℝ) : EReal) = c) :
    Merged.quotient a b c p q r = Merged.weighted a b c p q r := by
  rw [← ha, ← hb, ← hc]
  exact (Merged.weighted_eq _ _ _ p q r).symm

theorem algebraic (hpre : Cert.Pre_finite_logs.Facts) :
    algebraic_Kernel4Ideal_Reference4Ideal_pre_finite_logs (hKernel4Ideal := Cert.Kernel4Ideal.Gen.facts) (hReference4Ideal := Cert.Reference4Ideal.Gen.facts) (hPre_finite_logs := hpre) := by
  intro m ρ m' ρ' hfin hagree
  refine ⟨_, Cert.Kernel4Ideal.Body.run m ρ, ?_⟩
  refine (θ_run Cert.Reference4Ideal.defs _ _).mono (fun _ h c => ⟨?_, (h c).2⟩) (Cert.Reference4Ideal.Value.run (F := Ideal) m' ρ')
  refine (h c).1.trans ?_
  obtain ⟨a0, a1, a2, a3, a4, a5, a6, a7, a8, a9, a10, a11, a12, a13⟩ := hagree c
  obtain ⟨r4, r5, r6⟩ := Cert.Pre_finite_logs.reals _ _ _ _ _ _ _ _ _ _ _ _ _ _ (hfin c)
  funext y
  obtain ⟨b, n, j, rfl⟩ : ∃ (b : Fin 4) (n : Fin 4096) (j : Fin 1024), y = ix3 b n j := ⟨y 0, y 1, y 2, funext fun a => by
    match a with
    | ⟨0, _⟩ => rfl
    | ⟨1, _⟩ => rfl
    | ⟨2, _⟩ => rfl⟩
  refine (Cert.Reference4Ideal.Stages.res_apply m' c b n j).trans ((Cert.Kernel4Ideal.Body.result_apply m c b n j).trans ?_).symm
  rw [a0, a1, a2, a3, a4, a5, a6, a7, a8, a9, a10, a11, a12, a13]
  exact Merged.out_congr rfl (funext fun d => mixed _ _ _ _ _ _ (r4 (ix3 b n d)) (r5 (ix3 b n d)) (r6 (ix3 b n d))) rfl rfl rfl rfl rfl rfl rfl rfl j

end Cert.MergedJoin

end
-- ==== Proof.lean ====
/-
  The claims: for the attention, the feed-forward part, the wide projection and the merge, the frames of the three programs,
  the constants named, and the kernel's results equal to the reference's.
-/
module

public import proofs.«01_k».proof.Defs
public import proofs.«01_k».proof.Proof.RunK
public import proofs.«01_k».proof.Proof.RunKI
public import proofs.«01_k».proof.Proof.Gen.ReferenceIdeal.Run
public import proofs.«01_k».proof.Proof.Join
public import proofs.«01_k».proof.Proof.FfnJoin
public import proofs.«01_k».proof.Proof.Gen.Kernel2.Frame
public import proofs.«01_k».proof.Proof.Gen.Kernel2Ideal.Frame
public import proofs.«01_k».proof.Proof.Gen.Reference2Ideal.Run
public import proofs.«01_k».proof.Proof.ProjJoin
public import proofs.«01_k».proof.Proof.ProjFrame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.MergedJoin
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : preserves_Kernel_KernelIdeal :=
  ⟨IdealRules.named_const.statement Cert.KernelIdeal.κ "log2e" .f32 0x3FB8AA3B#32 _ rfl,
    IdealRules.named_const.statement Cert.KernelIdeal.κ "qscale" .f32 0x3E38AA3B#32 _ rfl⟩

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_args.facts, Cert.Pre_finite_logs.facts,
  fun m ρ _ => Cert.Kernel.Run.frame m ρ, fun m ρ _ => Cert.KernelIdeal.Run.frame m ρ, fun m ρ _ => Cert.KernelIdeal.Run.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  Cert.ProjFrame.frame, fun m ρ _ => Cert.Kernel3Ideal.Run.frame m ρ, quiescent_Reference3Ideal,
  fun m ρ _ => Cert.Kernel4.Gen.frame m ρ, fun m ρ _ => Cert.Kernel4Ideal.Gen.frame m ρ, fun m ρ _ => Cert.Kernel4Ideal.Gen.frame m ρ,
  quiescent_Reference4Ideal, fun m ρ _ => quiescent_Reference4Ideal m ρ trivial,
  preserves, Cert.Join.algebraic _, trivial, Cert.FfnJoin.algebraic, trivial, Cert.ProjJoin.algebraic, trivial, Cert.MergedJoin.algebraic _⟩

end Cert.Proof

end
